-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_3)) (v4 : (c : Dev Cert.KernelIdeal.nD) → Buf (Elt Ideal) ((c.tc : Thread Cert.KernelIdeal.nD Cert.KernelIdeal.τ).loc Cert.KernelIdeal.main_v37_4)) (v5 : (c : Dev Cert.KernelIdeal.nD) → Buf (Elt Ideal) ((c.tc : Thread Cert.KernelIdeal.nD Cert.KernelIdeal.τ).loc Cert.KernelIdeal.main_v37_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_3) = v3 c
          ∧ r.2.mem ((c.tc : Thread Cert.KernelIdeal.nD Cert.KernelIdeal.τ).loc Cert.KernelIdeal.main_v37_4) = v4 c
          ∧ r.2.mem ((c.tc : Thread Cert.KernelIdeal.nD Cert.KernelIdeal.τ).loc Cert.KernelIdeal.main_v37_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v86) = v4 c
          ∧ r.2.mem ((c.tc : Thread Cert.ReferenceIdeal.nD Cert.ReferenceIdeal.τ).loc Cert.ReferenceIdeal.main_v87) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v77) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v57_0)) (v1 : (c : Dev Cert.Kernel4Ideal.nD) → Buf (Elt Ideal) ((c.tc : Thread Cert.Kernel4Ideal.nD Cert.Kernel4Ideal.τ).loc Cert.Kernel4Ideal.main_v57_1)) (v2 : (c : Dev Cert.Kernel4Ideal.nD) → Buf (Elt Ideal) ((c.tc : Thread Cert.Kernel4Ideal.nD Cert.Kernel4Ideal.τ).loc Cert.Kernel4Ideal.main_v57_2)) (v3 : (c : Dev Cert.Kernel4Ideal.nD) → Buf (Elt Ideal) ((c.tc : Thread Cert.Kernel4Ideal.nD Cert.Kernel4Ideal.τ).loc Cert.Kernel4Ideal.main_v57_3)) (v4 : (c : Dev Cert.Kernel4Ideal.nD) → Buf (Elt Ideal) ((c.tc : Thread Cert.Kernel4Ideal.nD Cert.Kernel4Ideal.τ).loc Cert.Kernel4Ideal.main_v57_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57_0) = v0 c
          ∧ r.2.mem ((c.tc : Thread Cert.Kernel4Ideal.nD Cert.Kernel4Ideal.τ).loc Cert.Kernel4Ideal.main_v57_1) = v1 c
          ∧ r.2.mem ((c.tc : Thread Cert.Kernel4Ideal.nD Cert.Kernel4Ideal.τ).loc Cert.Kernel4Ideal.main_v57_2) = v2 c
          ∧ r.2.mem ((c.tc : Thread Cert.Kernel4Ideal.nD Cert.Kernel4Ideal.τ).loc Cert.Kernel4Ideal.main_v57_3) = v3 c
          ∧ r.2.mem ((c.tc : Thread Cert.Kernel4Ideal.nD Cert.Kernel4Ideal.τ).loc Cert.Kernel4Ideal.main_v57_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v130) = v0 c
          ∧ r.2.mem ((c.tc : Thread Cert.Reference4Ideal.nD Cert.Reference4Ideal.τ).loc Cert.Reference4Ideal.main_v203) = v1 c
          ∧ r.2.mem ((c.tc : Thread Cert.Reference4Ideal.nD Cert.Reference4Ideal.τ).loc Cert.Reference4Ideal.main_v186) = v2 c
          ∧ r.2.mem ((c.tc : Thread Cert.Reference4Ideal.nD Cert.Reference4Ideal.τ).loc Cert.Reference4Ideal.main_v134) = v3 c
          ∧ r.2.mem ((c.tc : Thread Cert.Reference4Ideal.nD Cert.Reference4Ideal.τ).loc Cert.Reference4Ideal.main_v207) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)) (v3 : (c : Dev Cert.Kernel5Ideal.nD) → Buf (Elt Ideal) ((c.tc : Thread Cert.Kernel5Ideal.nD Cert.Kernel5Ideal.τ).loc Cert.Kernel5Ideal.main_v24_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_v24_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_v15) = v2 c
          ∧ r.2.mem ((c.tc : Thread Cert.Reference5Ideal.nD Cert.Reference5Ideal.τ).loc Cert.Reference5Ideal.main_v6) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
-- ==== Pre_finite.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024x5632 .f32) (main_arg2 : FVec F S3x5632 .f32) (main_arg3 : FVec F S5632 .f32) (main_arg4 : FVec F S2816x1024 .f32) (main_arg5 : FVec F S8192x1024 .f32) : IVec S8192x1024 1 × IVec S1024x5632 1 × IVec S3x5632 1 × IVec S5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S5632 .f32 := Host.absf main_arg3
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite2.lean ====
abbrev S8192x1024 : Shape := ⟨2, ![8192, 1024]⟩
abbrev S1024x1792 : Shape := ⟨2, ![1024, 1792]⟩
abbrev S8192x512 : Shape := ⟨2, ![8192, 512]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S1024x1792 : S_.BroadcastsInDim S1024x1792 (![] : Fin 0 → Fin S1024x1792.rank)
  bcast_S_S8192x512 : S_.BroadcastsInDim S8192x512 (![] : Fin 0 → Fin S8192x512.rank)
  bcast_S_S8192x256 : S_.BroadcastsInDim S8192x256 (![] : Fin 0 → Fin S8192x256.rank)

variable [Facts]

def fn_part1 {F : FTy → Type} [FloatOps F] (main_arg6 : FVec F S8192x256 .f32) (main_arg7 : FVec F S8192x256 .f32) (main_arg8 : FVec F S8192x1024 .f32) (main_v2 : IVec S8192x1024 1) (main_v5 : IVec S1024x1792 1) (main_v8 : IVec S8192x1024 1) (main_v11 : IVec S8192x512 1) (main_v14 : IVec S8192x256 1) (main_v17 : IVec S8192x256 1) : IVec S8192x1024 1 × IVec S1024x1792 1 × IVec S8192x1024 1 × IVec S8192x512 1 × IVec S8192x256 1 × IVec S8192x256 1 × IVec S8192x256 1 × IVec S8192x256 1 × IVec S8192x1024 1 :=
  let main_v18 : FVec F S8192x256 .f32 := Host.absf main_arg6
  let main_cst_5 : FVec F S_ .f32 := constant S_ .f32 0x7F800000#32
  let main_v19 : FVec F S8192x256 .f32 := broadcastInDim S8192x256 ![] bcast_S_S8192x256 main_cst_5
  let main_v20 : IVec S8192x256 1 := cmpf .olt main_v18 main_v19
  let main_v21 : FVec F S8192x256 .f32 := Host.absf main_arg7
  let main_cst_6 : FVec F S_ .f32 := constant S_ .f32 0x7F800000#32
  let main_v22 : FVec F S8192x256 .f32 := broadcastInDim S8192x256 ![] bcast_S_S8192x256 main_cst_6
  let main_v23 : IVec S8192x256 1 := cmpf .olt main_v21 main_v22
  let main_v24 : FVec F S8192x1024 .f32 := Host.absf main_arg8
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S1024x1792 .f32) (main_arg2 : FVec F S8192x1024 .f32) (main_arg3 : FVec F S8192x512 .f32) (main_arg4 : FVec F S8192x256 .f32) (main_arg5 : FVec F S8192x256 .f32) (main_arg6 : FVec F S8192x256 .f32) (main_arg7 : FVec F S8192x256 .f32) (main_arg8 : FVec F S8192x1024 .f32) : IVec S8192x1024 1 × IVec S1024x1792 1 × IVec S8192x1024 1 × IVec S8192x512 1 × IVec S8192x256 1 × IVec S8192x256 1 × IVec S8192x256 1 × IVec S8192x256 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1792 .f32 := Host.absf main_arg1
  let main_cst_0 : FVec F S_ .f32 := constant S_ .f32 0x7F800000#32
  let main_v4 : FVec F S1024x1792 .f32 := broadcastInDim S1024x1792 ![] bcast_S_S1024x1792 main_cst_0
  let main_v5 : IVec S1024x1792 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x256 .f32 := Host.absf main_arg4
  let main_cst_3 : FVec F S_ .f32 := constant S_ .f32 0x7F800000#32
  let main_v13 : FVec F S8192x256 .f32 := broadcastInDim S8192x256 ![] bcast_S_S8192x256 main_cst_3
  let main_v14 : IVec S8192x256 1 := cmpf .olt main_v12 main_v13
  let main_v15 : FVec F S8192x256 .f32 := Host.absf main_arg5
  let main_cst_4 : FVec F S_ .f32 := constant S_ .f32 0x7F800000#32
  let main_v16 : FVec F S8192x256 .f32 := broadcastInDim S8192x256 ![] bcast_S_S8192x256 main_cst_4
  let main_v17 : IVec S8192x256 1 := cmpf .olt main_v15 main_v16
  fn_part1 (F := F) main_arg6 main_arg7 main_arg8 main_v2 main_v5 main_v8 main_v11 main_v14 main_v17
-- ==== Pre_finite4.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1x512 : Shape := ⟨2, ![1, 512]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1x512 : S_.BroadcastsInDim S1x512 (![] : Fin 0 → Fin S1x512.rank)

variable [Facts]

def fn_part1 {F : FTy → Type} [FloatOps F] (main_arg6 : FVec F S1x512 .f32) (main_arg7 : FVec F S1x512 .f32) (main_arg8 : FVec F S1x512 .f32) (main_arg9 : FVec F S1x1024 .f32) (main_arg10 : FVec F S8192x1024 .f32) (main_arg11 : FVec F S8192x1024 .f32) (main_v2 : IVec S8192x1024 1) (main_v5 : IVec S8192x512 1) (main_v8 : IVec S8192x512 1) (main_v11 : IVec S1024x1024 1) (main_v14 : IVec S1x1024 1) (main_v17 : IVec S1x512 1) : IVec S8192x1024 1 × IVec S8192x512 1 × IVec S8192x512 1 × IVec S1024x1024 1 × IVec S1x1024 1 × IVec S1x512 1 × IVec S1x512 1 × IVec S1x512 1 × IVec S1x512 1 × IVec S1x1024 1 × IVec S8192x1024 1 × IVec S8192x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S8192x1024 .f32 := Host.absf main_arg10
  let main_cst_9 : FVec F S_ .f32 := constant S_ .f32 0x7F800000#32
  let main_v31 : FVec F S8192x1024 .f32 := broadcastInDim S8192x1024 ![] bcast_S_S8192x1024 main_cst_9
  let main_v32 : IVec S8192x1024 1 := cmpf .olt main_v30 main_v31
  let main_v33 : FVec F S8192x1024 .f32 := Host.absf main_arg11
  let main_cst_10 : FVec F S_ .f32 := constant S_ .f32 0x7F800000#32
  let main_v34 : FVec F S8192x1024 .f32 := broadcastInDim S8192x1024 ![] bcast_S_S8192x1024 main_cst_10
  let main_v35 : IVec S8192x1024 1 := cmpf .olt main_v33 main_v34
  (main_v2, main_v5, main_v8, main_v11, main_v14, main_v17, main_v20, main_v23, main_v26, main_v29, main_v32, main_v35)

def fn {F : FTy → Type} [FloatOps F] (main_arg0 : FVec F S8192x1024 .f32) (main_arg1 : FVec F S8192x512 .f32) (main_arg2 : FVec F S8192x512 .f32) (main_arg3 : FVec F S1024x1024 .f32) (main_arg4 : FVec F S1x1024 .f32) (main_arg5 : FVec F S1x512 .f32) (main_arg6 : FVec F S1x512 .f32) (main_arg7 : FVec F S1x512 .f32) (main_arg8 : FVec F S1x512 .f32) (main_arg9 : FVec F S1x1024 .f32) (main_arg10 : FVec F S8192x1024 .f32) (main_arg11 : FVec F S8192x1024 .f32) : IVec S8192x1024 1 × IVec S8192x512 1 × IVec S8192x512 1 × IVec S1024x1024 1 × IVec S1x1024 1 × IVec S1x512 1 × IVec S1x512 1 × IVec S1x512 1 × IVec S1x512 1 × IVec S1x1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_arg9 main_arg10 main_arg11 main_v2 main_v5 main_v8 main_v11 main_v14 main_v17
-- ==== Kernel.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S2x2816x1024 : Shape := ⟨3, ![2, 2816, 1024]⟩
abbrev S8x2816 : Shape := ⟨2, ![8, 2816]⟩
abbrev S1024x1024 : Shape := ⟨2, ![1024, 1024]⟩
abbrev S16x1024 : Shape := ⟨2, ![16, 1024]⟩
abbrev S1024x256 : Shape := ⟨2, ![1024, 256]⟩
abbrev S16x256 : Shape := ⟨2, ![16, 256]⟩
abbrev S256x1024 : Shape := ⟨2, ![256, 1024]⟩
abbrev S3x256 : Shape := ⟨2, ![3, 256]⟩
abbrev S2x256x1024 : Shape := ⟨3, ![2, 256, 1024]⟩
abbrev S8x256 : Shape := ⟨2, ![8, 256]⟩
abbrev S1040x256 : Shape := ⟨2, ![1040, 256]⟩
abbrev S1040x1024 : Shape := ⟨2, ![1040, 1024]⟩
abbrev S1040x1 : Shape := ⟨2, ![1040, 1]⟩
abbrev S1x256 : Shape := ⟨2, ![1, 256]⟩
abbrev S256 : Shape := ⟨1, ![256]⟩
abbrev S1x256x1024 : Shape := ⟨3, ![1, 256, 1024]⟩

abbrev nBuf : Space → Nat
  | .hbm => 50
  | .vmem => 39
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S8192x1024, .f32⟩
  | .hbm, ⟨6, _⟩ => ⟨S8192x5632, .f32⟩
  | .hbm, ⟨7, _⟩ => ⟨S_, .f32⟩
  | .hbm, ⟨8, _⟩ => ⟨S2x5632, .f32⟩
  | .hbm, ⟨9, _⟩ => ⟨S8194x5632, .f32⟩
  | .hbm, ⟨10, _⟩ => ⟨S8192x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x2816, .f32⟩
  | .hbm, ⟨34, _⟩ => ⟨S8192x2816, .bf16⟩
  | .hbm, ⟨35, _⟩ => ⟨S8192x2816, .f32⟩
  | .hbm, ⟨36, _⟩ => ⟨S8192x2816, .bf16⟩
  | .hbm, ⟨37, _⟩ => ⟨S8192x2816, .f32⟩
  | .hbm, ⟨38, _⟩ => ⟨S8192x2816, .bf16⟩
  | .hbm, ⟨39, _⟩ => ⟨S8192x2816, .f32⟩
  | .hbm, ⟨40, _⟩ => ⟨S8192x2816, .bf16⟩
  | .hbm, ⟨41, _⟩ => ⟨S8192x1024, .bf16⟩
  | .hbm, ⟨42, _⟩ => ⟨S8192x1024, .bf16⟩
  | .hbm, ⟨43, _⟩ => ⟨S2816x1024, .bf16⟩
  | .hbm, ⟨44, _⟩ => ⟨S8192x2816, .bf16⟩
  | .hbm, ⟨45, _⟩ => ⟨S8192x2816, .bf16⟩
  | .hbm, ⟨46, _⟩ => ⟨S2816x1024, .f32⟩
  | .hbm, ⟨47, _⟩ => ⟨S2x2816x1024, .f32⟩
  | .hbm, ⟨48, _⟩ => ⟨S8x2816, .f32⟩
  | .hbm, ⟨49, _⟩ => ⟨S8x2816, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S16x256, .bf16⟩
  | .local _ .vmem, ⟨11, _⟩ => ⟨S16x256, .bf16⟩
  | .local _ .vmem, ⟨12, _⟩ => ⟨S1024x256, .bf16⟩
  | .local _ .vmem, ⟨13, _⟩ => ⟨S1024x256, .bf16⟩
  | .local _ .vmem, ⟨14, _⟩ => ⟨S16x256, .bf16⟩
  | .local _ .vmem, ⟨15, _⟩ => ⟨S16x256, .bf16⟩
  | .local _ .vmem, ⟨16, _⟩ => ⟨S1024x1024, .bf16⟩
  | .local _ .vmem, ⟨17, _⟩ => ⟨S1024x1024, .bf16⟩
  | .local _ .vmem, ⟨18, _⟩ => ⟨S256x1024, .bf16⟩
  | .local _ .vmem, ⟨19, _⟩ => ⟨S256x1024, .bf16⟩
  | .local _ .vmem, ⟨20, _⟩ => ⟨S3x256, .f32⟩
  | .local _ .vmem, ⟨21, _⟩ => ⟨S3x256, .f32⟩
  | .local _ .vmem, ⟨22, _⟩ => ⟨S3x256, .f32⟩
  | .local _ .vmem, ⟨23, _⟩ => ⟨S3x256, .f32⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S256x1024, .f32⟩
  | .local _ .vmem, ⟨29, _⟩ => ⟨S256x1024, .f32⟩
  | .local _ .vmem, ⟨30, _⟩ => ⟨S2x256x1024, .f32⟩
  | .local _ .vmem, ⟨31, _⟩ => ⟨S2x256x1024, .f32⟩
  | .local _ .vmem, ⟨32, _⟩ => ⟨S8x256, .f32⟩
  | .local _ .vmem, ⟨33, _⟩ => ⟨S8x256, .f32⟩
  | .local _ .vmem, ⟨34, _⟩ => ⟨S8x256, .f32⟩
  | .local _ .vmem, ⟨35, _⟩ => ⟨S8x256, .f32⟩
  | .local _ .vmem, ⟨36, _⟩ => ⟨S1040x256, .f32⟩
  | .local _ .vmem, ⟨37, _⟩ => ⟨S1040x256, .f32⟩
  | .local _ .vmem, ⟨38, _⟩ => ⟨S1040x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37_0 : Ref sig .tc := ⟨.hbm, 44, rfl⟩
abbrev main_v37_1 : Ref sig .tc := ⟨.hbm, 45, rfl⟩
abbrev main_v37_2 : Ref sig .tc := ⟨.hbm, 46, rfl⟩
abbrev main_v37_3 : Ref sig .tc := ⟨.hbm, 47, rfl⟩
abbrev main_v37_4 : Ref sig .tc := ⟨.hbm, 48, rfl⟩
abbrev main_v37_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S2x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S1024x2816 : Shape := ⟨2, ![1024, 2816]⟩
abbrev S5632x1024 : Shape := ⟨2, ![5632, 1024]⟩
abbrev S4x5632 : Shape := ⟨2, ![4, 5632]⟩
abbrev S8x5632 : Shape := ⟨2, ![8, 5632]⟩
abbrev S2x2816x1024 : Shape := ⟨3, ![2, 2816, 1024]⟩
abbrev S8x2816 : Shape := ⟨2, ![8, 2816]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S8192x1024, .f32⟩
  | .hbm, ⟨6, _⟩ => ⟨S8192x5632, .f32⟩
  | .hbm, ⟨7, _⟩ => ⟨S_, .f32⟩
  | .hbm, ⟨8, _⟩ => ⟨S2x5632, .f32⟩
  | .hbm, ⟨9, _⟩ => ⟨S8194x5632, .f32⟩
  | .hbm, ⟨10, _⟩ => ⟨S_, .f32⟩
  | .hbm, ⟨11, _⟩ => ⟨S2x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S1x5632, .f32⟩
  | .hbm, ⟨33, _⟩ => ⟨S8192x5632, .f32⟩
  | .hbm, ⟨34, _⟩ => ⟨S8192x5632, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S1024x2816, .f32⟩
  | .hbm, ⟨53, _⟩ => ⟨S2816x1024, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S5632, .f32⟩
  | .hbm, ⟨67, _⟩ => ⟨S8192x5632, .f32⟩
  | .hbm, ⟨68, _⟩ => ⟨S_, .f32⟩
  | .hbm, ⟨69, _⟩ => ⟨S5632, .f32⟩
  | .hbm, ⟨70, _⟩ => ⟨S1x5632, .f32⟩
  | .hbm, ⟨71, _⟩ => ⟨S8192x5632, .f32⟩
  | .hbm, ⟨72, _⟩ => ⟨S8192x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S_, .f32⟩
  | .hbm, ⟨77, _⟩ => ⟨S3x5632, .f32⟩
  | .hbm, ⟨78, _⟩ => ⟨S_, .f32⟩
  | .hbm, ⟨79, _⟩ => ⟨S8194x5632, .f32⟩
  | .hbm, ⟨80, _⟩ => ⟨S8192x5632, .f32⟩
  | .hbm, ⟨81, _⟩ => ⟨S_, .f32⟩
  | .hbm, ⟨82, _⟩ => ⟨S5632, .f32⟩
  | .hbm, ⟨83, _⟩ => ⟨S1x5632, .f32⟩
  | .hbm, ⟨84, _⟩ => ⟨S8192x5632, .f32⟩
  | .hbm, ⟨85, _⟩ => ⟨S8192x5632, .f32⟩
  | .hbm, ⟨86, _⟩ => ⟨S_, .f32⟩
  | .hbm, ⟨87, _⟩ => ⟨S5632, .f32⟩
  | .hbm, ⟨88, _⟩ => ⟨S1x5632, .f32⟩
  | .hbm, ⟨89, _⟩ => ⟨S_, .f32⟩
  | .hbm, ⟨90, _⟩ => ⟨S3x5632, .f32⟩
  | .hbm, ⟨91, _⟩ => ⟨S3x5632, .f32⟩
  | .hbm, ⟨92, _⟩ => ⟨S_, .f32⟩
  | .hbm, ⟨93, _⟩ => ⟨S8194x5632, .f32⟩
  | .hbm, ⟨94, _⟩ => ⟨S8194x5632, .f32⟩
  | .hbm, ⟨95, _⟩ => ⟨S8192x5632, .f32⟩
  | .hbm, ⟨96, _⟩ => ⟨S_, .f32⟩
  | .hbm, ⟨97, _⟩ => ⟨S5632, .f32⟩
  | .hbm, ⟨98, _⟩ => ⟨S1x5632, .f32⟩
  | .hbm, ⟨99, _⟩ => ⟨S8192x5632, .f32⟩
  | .hbm, ⟨100, _⟩ => ⟨S8192x5632, .f32⟩
  | .hbm, ⟨101, _⟩ => ⟨S_, .f32⟩
  | .hbm, ⟨102, _⟩ => ⟨S5632, .f32⟩
  | .hbm, ⟨103, _⟩ => ⟨S1x5632, .f32⟩
  | .hbm, ⟨104, _⟩ => ⟨S_, .f32⟩
  | .hbm, ⟨105, _⟩ => ⟨S3x5632, .f32⟩
  | .hbm, ⟨106, _⟩ => ⟨S3x5632, .f32⟩
  | .hbm, ⟨107, _⟩ => ⟨S_, .f32⟩
  | .hbm, ⟨108, _⟩ => ⟨S8194x5632, .f32⟩
  | .hbm, ⟨109, _⟩ => ⟨S8194x5632, .f32⟩
  | .hbm, ⟨110, _⟩ => ⟨S2x5632, .f32⟩
  | .hbm, ⟨111, _⟩ => ⟨S8192x5632, .f32⟩
  | .hbm, ⟨112, _⟩ => ⟨S5632x1024, .f32⟩
  | .hbm, ⟨113, _⟩ => ⟨S1024x5632, .f32⟩
  | .hbm, ⟨114, _⟩ => ⟨S1x5632, .f32⟩
  | .hbm, ⟨115, _⟩ => ⟨S_, .f32⟩
  | .hbm, ⟨116, _⟩ => ⟨S4x5632, .f32⟩
  | .hbm, ⟨117, _⟩ => ⟨S8x5632, .f32⟩
  | .hbm, ⟨118, _⟩ => ⟨S8192x2816, .f32⟩
  | .hbm, ⟨119, _⟩ => ⟨S8192x2816, .bf16⟩
  | .hbm, ⟨120, _⟩ => ⟨S8192x2816, .f32⟩
  | .hbm, ⟨121, _⟩ => ⟨S8192x2816, .bf16⟩
  | .hbm, ⟨122, _⟩ => ⟨S5632x1024, .f32⟩
  | .hbm, ⟨123, _⟩ => ⟨S2x2816x1024, .f32⟩
  | .hbm, ⟨124, _⟩ => ⟨S8x2816, .f32⟩
  | .hbm, ⟨125, _⟩ => ⟨S8x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v37 : Ref sig .tc := ⟨.hbm, 60, rfl⟩
abbrev main_v38 : Ref sig .tc := ⟨.hbm, 61, rfl⟩
abbrev main_cst_1 : Ref sig .tc := ⟨.hbm, 62, rfl⟩
abbrev main_v39 : Ref sig .tc := ⟨.hbm, 63, rfl⟩
abbrev main_v40 : Ref sig .tc := ⟨.hbm, 64, rfl⟩
abbrev main_cst_2 : Ref sig .tc := ⟨.hbm, 65, rfl⟩
abbrev main_v41 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩

abbrev nD : Nat := 1
abbrev τ : Topo := Topo.v7x

variable {F : FTy → Type} [FloatOps F]
-- ==== Kernel2.lean ====
abbrev S8192x1024 : Shape := ⟨2, ![8192, 1024]⟩
abbrev S1024x1792 : Shape := ⟨2, ![1024, 1792]⟩
abbrev S8192x512 : Shape := ⟨2, ![8192, 512]⟩
abbrev S8192x256 : Shape := ⟨2, ![8192, 256]⟩
abbrev S1792x1024 : Shape := ⟨2, ![1792, 1024]⟩
abbrev S512x1024 : Shape := ⟨2, ![512, 1024]⟩
abbrev S64x1024 : Shape := ⟨2, ![64, 1024]⟩
abbrev S1024x1024 : Shape := ⟨2, ![1024, 1024]⟩
abbrev S2048x1024 : Shape := ⟨2, ![2048, 1024]⟩
abbrev S8x1024 : Shape := ⟨2, ![8, 1024]⟩
abbrev S512x512 : Shape := ⟨2, ![512, 512]⟩
abbrev S512x256 : Shape := ⟨2, ![512, 256]⟩
abbrev S128x256 : Shape := ⟨2, ![128, 256]⟩
abbrev S384x256 : Shape := ⟨2, ![384, 256]⟩
abbrev S1x512 : Shape := ⟨2, ![1, 512]⟩
abbrev S512 : Shape := ⟨1, ![512]⟩
abbrev S1x256 : Shape := ⟨2, ![1, 256]⟩
abbrev S256 : Shape := ⟨1, ![256]⟩
abbrev S256x1024 : Shape := ⟨2, ![256, 1024]⟩

abbrev nBuf : Space → Nat
  | .hbm => 26
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x1792, .f32⟩
  | .hbm, ⟨2, _⟩ => ⟨S8192x1024, .f32⟩
  | .hbm, ⟨3, _⟩ => ⟨S8192x512, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x1024, .f32⟩
  | .hbm, ⟨9, _⟩ => ⟨S8192x1024, .bf16⟩
  | .hbm, ⟨10, _⟩ => ⟨S1792x1024, .f32⟩
  | .hbm, ⟨11, _⟩ => ⟨S1792x1024, .bf16⟩
  | .hbm, ⟨12, _⟩ => ⟨S512x1024, .bf16⟩
  | .hbm, ⟨13, _⟩ => ⟨S64x1024, .bf16⟩
  | .hbm, ⟨14, _⟩ => ⟨S64x1024, .bf16⟩
  | .hbm, ⟨15, _⟩ => ⟨S64x1024, .bf16⟩
  | .hbm, ⟨16, _⟩ => ⟨S64x1024, .bf16⟩
  | .hbm, ⟨17, _⟩ => ⟨S64x1024, .bf16⟩
  | .hbm, ⟨18, _⟩ => ⟨S64x1024, .bf16⟩
  | .hbm, ⟨19, _⟩ => ⟨S64x1024, .bf16⟩
  | .hbm, ⟨20, _⟩ => ⟨S64x1024, .bf16⟩
  | .hbm, ⟨21, _⟩ => ⟨S1024x1024, .bf16⟩
  | .hbm, ⟨22, _⟩ => ⟨S2048x1024, .bf16⟩
  | .hbm, ⟨23, _⟩ => ⟨S8192x1024, .f32⟩
  | .hbm, ⟨24, _⟩ => ⟨S1792x1024, .f32⟩
  | .hbm, ⟨25, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S128x256, .f32⟩
  | .local _ .vmem, ⟨11, _⟩ => ⟨S128x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S128x256, .f32⟩
  | .local _ .vmem, ⟨17, _⟩ => ⟨S128x256, .f32⟩
  | .local _ .vmem, ⟨18, _⟩ => ⟨S512x1024, .bf16⟩
  | .local _ .vmem, ⟨19, _⟩ => ⟨S512x1024, .bf16⟩
  | .local _ .vmem, ⟨20, _⟩ => ⟨S2048x1024, .bf16⟩
  | .local _ .vmem, ⟨21, _⟩ => ⟨S512x1024, .f32⟩
  | .local _ .vmem, ⟨22, _⟩ => ⟨S512x1024, .f32⟩
  | .local _ .vmem, ⟨23, _⟩ => ⟨S1792x1024, .f32⟩
  | .local _ .vmem, ⟨24, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1792x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S8192x1024 : Shape := ⟨2, ![8192, 1024]⟩
abbrev S1024x1792 : Shape := ⟨2, ![1024, 1792]⟩
abbrev S8192x512 : Shape := ⟨2, ![8192, 512]⟩
abbrev S8192x256 : Shape := ⟨2, ![8192, 256]⟩
abbrev S_ : Shape := ⟨0, ![]⟩
abbrev S1024 : Shape := ⟨1, ![1024]⟩
abbrev S8192x1792 : Shape := ⟨2, ![8192, 1792]⟩
abbrev S8192x128 : Shape := ⟨2, ![8192, 128]⟩
abbrev S8192x2x1x64 : Shape := ⟨4, ![8192, 2, 1, 64]⟩
abbrev S8192x2x2x64 : Shape := ⟨4, ![8192, 2, 2, 64]⟩
abbrev S256 : Shape := ⟨1, ![256]⟩
abbrev S1x256 : Shape := ⟨2, ![1, 256]⟩
abbrev S512 : Shape := ⟨1, ![512]⟩
abbrev S1x512 : Shape := ⟨2, ![1, 512]⟩
abbrev S128x256 : Shape := ⟨2, ![128, 256]⟩
abbrev S8064x256 : Shape := ⟨2, ![8064, 256]⟩
abbrev S8192x2x64 : Shape := ⟨3, ![8192, 2, 64]⟩
abbrev S1792x1024 : Shape := ⟨2, ![1792, 1024]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1792, .f32⟩
  | .hbm, ⟨2, _⟩ => ⟨S8192x1024, .f32⟩
  | .hbm, ⟨3, _⟩ => ⟨S8192x512, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x1024, .f32⟩
  | .hbm, ⟨9, _⟩ => ⟨S_, .f32⟩
  | .hbm, ⟨10, _⟩ => ⟨S1024, .f32⟩
  | .hbm, ⟨11, _⟩ => ⟨S8192x1792, .f32⟩
  | .hbm, ⟨12, _⟩ => ⟨S8192x512, .f32⟩
  | .hbm, ⟨13, _⟩ => ⟨S8192x128, .f32⟩
  | .hbm, ⟨14, _⟩ => ⟨S8192x128, .f32⟩
  | .hbm, ⟨15, _⟩ => ⟨S8192x1024, .f32⟩
  | .hbm, ⟨16, _⟩ => ⟨S8192x2x1x64, .f32⟩
  | .hbm, ⟨17, _⟩ => ⟨S8192x2x2x64, .f32⟩
  | .hbm, ⟨18, _⟩ => ⟨S8192x256, .f32⟩
  | .hbm, ⟨19, _⟩ => ⟨S256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S8192x2x1x64, .f32⟩
  | .hbm, ⟨24, _⟩ => ⟨S8192x2x2x64, .f32⟩
  | .hbm, ⟨25, _⟩ => ⟨S8192x256, .f32⟩
  | .hbm, ⟨26, _⟩ => ⟨S256, .f32⟩
  | .hbm, ⟨27, _⟩ => ⟨S1x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S128x256, .f32⟩
  | .hbm, ⟨39, _⟩ => ⟨S8064x256, .f32⟩
  | .hbm, ⟨40, _⟩ => ⟨S8192x256, .f32⟩
  | .hbm, ⟨41, _⟩ => ⟨S_, .f32⟩
  | .hbm, ⟨42, _⟩ => ⟨S128x256, .f32⟩
  | .hbm, ⟨43, _⟩ => ⟨S_, .f32⟩
  | .hbm, ⟨44, _⟩ => ⟨S128x256, .f32⟩
  | .hbm, ⟨45, _⟩ => ⟨S8064x256, .f32⟩
  | .hbm, ⟨46, _⟩ => ⟨S8192x256, .f32⟩
  | .hbm, ⟨47, _⟩ => ⟨S_, .f32⟩
  | .hbm, ⟨48, _⟩ => ⟨S128x256, .f32⟩
  | .hbm, ⟨49, _⟩ => ⟨S128x256, .f32⟩
  | .hbm, ⟨50, _⟩ => ⟨S8064x256, .f32⟩
  | .hbm, ⟨51, _⟩ => ⟨S_, .f32⟩
  | .hbm, ⟨52, _⟩ => ⟨S8192x256, .f32⟩
  | .hbm, ⟨53, _⟩ => ⟨S8192x256, .f32⟩
  | .hbm, ⟨54, _⟩ => ⟨S128x256, .f32⟩
  | .hbm, ⟨55, _⟩ => ⟨S8064x256, .f32⟩
  | .hbm, ⟨56, _⟩ => ⟨S_, .f32⟩
  | .hbm, ⟨57, _⟩ => ⟨S8192x256, .f32⟩
  | .hbm, ⟨58, _⟩ => ⟨S8192x256, .f32⟩
  | .hbm, ⟨59, _⟩ => ⟨S8192x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S_, .f32⟩
  | .hbm, ⟨64, _⟩ => ⟨S512, .f32⟩
  | .hbm, ⟨65, _⟩ => ⟨S_, .f32⟩
  | .hbm, ⟨66, _⟩ => ⟨S1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x256, .f32⟩
  | .hbm, ⟨71, _⟩ => ⟨S_, .f32⟩
  | .hbm, ⟨72, _⟩ => ⟨S256, .f32⟩
  | .hbm, ⟨73, _⟩ => ⟨S1x256, .f32⟩
  | .hbm, ⟨74, _⟩ => ⟨S_, .f32⟩
  | .hbm, ⟨75, _⟩ => ⟨S256, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S8192x2x2x64, .f32⟩
  | .hbm, ⟨80, _⟩ => ⟨S_, .f32⟩
  | .hbm, ⟨81, _⟩ => ⟨S8192x2x64, .f32⟩
  | .hbm, ⟨82, _⟩ => ⟨S8192x2x1x64, .f32⟩
  | .hbm, ⟨83, _⟩ => ⟨S8192x128, .f32⟩
  | .hbm, ⟨84, _⟩ => ⟨S8192x256, .f32⟩
  | .hbm, ⟨85, _⟩ => ⟨S_, .f32⟩
  | .hbm, ⟨86, _⟩ => ⟨S256, .f32⟩
  | .hbm, ⟨87, _⟩ => ⟨S1x256, .f32⟩
  | .hbm, ⟨88, _⟩ => ⟨S_, .f32⟩
  | .hbm, ⟨89, _⟩ => ⟨S256, .f32⟩
  | .hbm, ⟨90, _⟩ => ⟨S_, .f32⟩
  | .hbm, ⟨91, _⟩ => ⟨S1024, .f32⟩
  | .hbm, ⟨92, _⟩ => ⟨S1024, .f32⟩
  | .hbm, ⟨93, _⟩ => ⟨S8192x2x2x64, .f32⟩
  | .hbm, ⟨94, _⟩ => ⟨S_, .f32⟩
  | .hbm, ⟨95, _⟩ => ⟨S8192x2x64, .f32⟩
  | .hbm, ⟨96, _⟩ => ⟨S8192x2x1x64, .f32⟩
  | .hbm, ⟨97, _⟩ => ⟨S8192x128, .f32⟩
  | .hbm, ⟨98, _⟩ => ⟨S8192x1792, .f32⟩
  | .hbm, ⟨99, _⟩ => ⟨S1792x1024, .f32⟩
  | .hbm, ⟨100, _⟩ => ⟨S1024x1792, .f32⟩
  | .hbm, ⟨101, _⟩ => ⟨S8192x1024, .f32⟩
  | .hbm, ⟨102, _⟩ => ⟨S8192x1024, .f32⟩
  | .hbm, ⟨103, _⟩ => ⟨S1792x1024, .f32⟩
  | .hbm, ⟨104, _⟩ => ⟨S1x1024, .f32⟩
  | .hbm, ⟨105, _⟩ => ⟨S_, .f32⟩
  | .hbm, ⟨106, _⟩ => ⟨S7x1024, .f32⟩
  | .hbm, ⟨107, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_cst_17 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_18 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_19 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== Kernel3.lean ====
abbrev S1024x5632 : Shape := ⟨2, ![1024, 5632]⟩
abbrev S8192x5632 : Shape := ⟨2, ![8192, 5632]⟩
abbrev S8192x2816 : Shape := ⟨2, ![8192, 2816]⟩
abbrev S5632x1024 : Shape := ⟨2, ![5632, 1024]⟩
abbrev S8192x1024 : Shape := ⟨2, ![8192, 1024]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S1024x5632, .f32⟩
  | .hbm, ⟨1, _⟩ => ⟨S8192x5632, .f32⟩
  | .hbm, ⟨2, _⟩ => ⟨S8192x2816, .f32⟩
  | .hbm, ⟨3, _⟩ => ⟨S8192x2816, .bf16⟩
  | .hbm, ⟨4, _⟩ => ⟨S8192x2816, .f32⟩
  | .hbm, ⟨5, _⟩ => ⟨S8192x2816, .bf16⟩
  | .hbm, ⟨6, _⟩ => ⟨S5632x1024, .f32⟩
  | .hbm, ⟨7, _⟩ => ⟨S5632x1024, .bf16⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 94
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S1024x1024, .bf16⟩
  | .hbm, ⟨87, _⟩ => ⟨S8192x512, .bf16⟩
  | .hbm, ⟨88, _⟩ => ⟨S8192x512, .bf16⟩
  | .hbm, ⟨89, _⟩ => ⟨S8192x1024, .f32⟩
  | .hbm, ⟨90, _⟩ => ⟨S8192x512, .f32⟩
  | .hbm, ⟨91, _⟩ => ⟨S8192x512, .f32⟩
  | .hbm, ⟨92, _⟩ => ⟨S1024x1024, .f32⟩
  | .hbm, ⟨93, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x1024, .f32⟩
  | .local _ .vmem, ⟨21, _⟩ => ⟨S512x1024, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S1024x1024, .f32⟩
  | .local _ .vmem, ⟨27, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57_0 : Ref sig .tc := ⟨.hbm, 89, rfl⟩
abbrev main_v57_1 : Ref sig .tc := ⟨.hbm, 90, rfl⟩
abbrev main_v57_2 : Ref sig .tc := ⟨.hbm, 91, rfl⟩
abbrev main_v57_3 : Ref sig .tc := ⟨.hbm, 92, rfl⟩
abbrev main_v57_4 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference4Ideal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S1024 : Shape := ⟨1, ![1024]⟩
abbrev S512 : Shape := ⟨1, ![512]⟩
abbrev S3x1024 : Shape := ⟨2, ![3, 1024]⟩
abbrev S8x1024 : Shape := ⟨2, ![8, 1024]⟩

abbrev nBuf : Space → Nat
  | .hbm => 290
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S1024x1024, .f32⟩
  | 4 => ⟨S1x1024, .f32⟩
  | 5 => ⟨S1x512, .f32⟩
  | 6 => ⟨S1x512, .f32⟩
  | 7 => ⟨S1x512, .f32⟩
  | 8 => ⟨S1x512, .f32⟩
  | 9 => ⟨S1x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S1x1024, .f32⟩
  | 17 => ⟨S8192x512, .f32⟩
  | 18 => ⟨S_, .f32⟩
  | 19 => ⟨S8192x512, .f32⟩
  | 20 => ⟨S8192x512, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x512, .f32⟩
  | 36 => ⟨S8192x512, .f32⟩
  | 37 => ⟨S8192x512, .f32⟩
  | 38 => ⟨S8192x512, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x512, .f32⟩
  | 46 => ⟨S8192x512, .f32⟩
  | 47 => ⟨S8192x512, .f32⟩
  | 48 => ⟨S_, .f32⟩
  | 49 => ⟨S8192x512, .f32⟩
  | 50 => ⟨S8192x512, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S8192x512, .f32⟩
  | 58 => ⟨S8192x512, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x512, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S_, .f32⟩
  | 76 => ⟨S8192x512, .f32⟩
  | 77 => ⟨S8192x512, .f32⟩
  | 78 => ⟨S_, .f32⟩
  | 79 => ⟨S8192x512, .f32⟩
  | 80 => ⟨S8192x512, .f32⟩
  | 81 => ⟨S_, .f32⟩
  | 82 => ⟨S8192x512, .f32⟩
  | 83 => ⟨S8192x512, .f32⟩
  | 84 => ⟨S8192x512, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S_, .f32⟩
  | 91 => ⟨S8192, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192x1, .f32⟩
  | 98 => ⟨S8192x1, .f32⟩
  | 99 => ⟨S8192x1, .f32⟩
  | 100 => ⟨S8192x1, .f32⟩
  | 101 => ⟨S_, .f32⟩
  | 102 => ⟨S8192x1, .f32⟩
  | 103 => ⟨S8192x1, .f32⟩
  | 104 => ⟨S8192x512, .f32⟩
  | 105 => ⟨S8192x512, .f32⟩
  | 106 => ⟨S8192x512, .f32⟩
  | 107 => ⟨S8192x512, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S8192x1024, .f32⟩
  | 120 => ⟨S8192x1024, .f32⟩
  | 121 => ⟨S8192x1024, .f32⟩
  | 122 => ⟨S_, .f32⟩
  | 123 => ⟨S8192x1024, .f32⟩
  | 124 => ⟨S8192x1024, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S8192x1024, .f32⟩
  | 4 => ⟨S8192x1024, .f32⟩
  | 5 => ⟨S_, .f32⟩
  | 6 => ⟨S8192x1, .f32⟩
  | 7 => ⟨S8192x1, .f32⟩
  | 8 => ⟨S8192x1, .f32⟩
  | 9 => ⟨S8192x1, .f32⟩
  | 10 => ⟨S_, .f32⟩
  | 11 => ⟨S8192x1, .f32⟩
  | 12 => ⟨S8192x1, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S_, .f32⟩
  | 24 => ⟨S1024, .f32⟩
  | 25 => ⟨S1x1024, .f32⟩
  | 26 => ⟨S8192x1024, .f32⟩
  | 27 => ⟨S_, .f32⟩
  | 28 => ⟨S1024, .f32⟩
  | 29 => ⟨S1x1024, .f32⟩
  | 30 => ⟨S8192x1024, .f32⟩
  | 31 => ⟨S8192x1024, .f32⟩
  | 32 => ⟨S8192x1024, .f32⟩
  | 33 => ⟨S_, .f32⟩
  | 34 => ⟨S8192, .f32⟩
  | 35 => ⟨S8192x1, .f32⟩
  | 36 => ⟨S8192x1024, .f32⟩
  | 37 => ⟨S8192x1024, .f32⟩
  | 38 => ⟨S8192x1, .f32⟩
  | 39 => ⟨S8192x1024, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192, .f32⟩
  | 48 => ⟨S8192x1024, .f32⟩
  | 49 => ⟨S8192x1024, .f32⟩
  | 50 => ⟨S8192x1024, .f32⟩
  | 51 => ⟨S_, .f32⟩
  | 52 => ⟨S8192, .f32⟩
  | 53 => ⟨S8192x1, .f32⟩
  | 54 => ⟨S8192x1024, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x1024, .f32⟩
  | 62 => ⟨S8192x1024, .f32⟩
  | 63 => ⟨S_, .f32⟩
  | 64 => ⟨S1024, .f32⟩
  | 65 => ⟨S1x1024, .f32⟩
  | 66 => ⟨S1024x1024, .f32⟩
  | 67 => ⟨S1024x1024, .f32⟩
  | 68 => ⟨S8192x1024, .f32⟩
  | 69 => ⟨S8192x512, .f32⟩
  | 70 => ⟨S8192x512, .f32⟩
  | 71 => ⟨S8192x512, .f32⟩
  | 72 => ⟨S_, .f32⟩
  | 73 => ⟨S512, .f32⟩
  | 74 => ⟨S1x512, .f32⟩
  | 75 => ⟨S8192x512, .f32⟩
  | 76 => ⟨S8192x512, .f32⟩
  | 77 => ⟨S8192x512, .f32⟩
  | 78 => ⟨S_, .f32⟩
  | 79 => ⟨S8192, .f32⟩
  | 80 => ⟨S8192x1, .f32⟩
  | 81 => ⟨S8192x512, .f32⟩
  | 82 => ⟨S8192x512, .f32⟩
  | 83 => ⟨S8192x1, .f32⟩
  | 84 => ⟨S_, .f32⟩
  | 85 => ⟨S8192x1, .f32⟩
  | 86 => ⟨S8192x1, .f32⟩
  | 87 => ⟨S_, .f32⟩
  | 88 => ⟨S8192, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S_, .f32⟩
  | 97 => ⟨S512, .f32⟩
  | 98 => ⟨S1x512, .f32⟩
  | 99 => ⟨S8192x512, .f32⟩
  | 100 => ⟨S_, .f32⟩
  | 101 => ⟨S512, .f32⟩
  | 102 => ⟨S1x512, .f32⟩
  | 103 => ⟨S8192x512, .f32⟩
  | 104 => ⟨S8192x512, .f32⟩
  | 105 => ⟨S8192x512, .f32⟩
  | 106 => ⟨S_, .f32⟩
  | 107 => ⟨S8192, .f32⟩
  | 108 => ⟨S8192x1, .f32⟩
  | 109 => ⟨S8192x512, .f32⟩
  | 110 => ⟨S8192x512, .f32⟩
  | 111 => ⟨S8192x1, .f32⟩
  | 112 => ⟨S8192x512, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192, .f32⟩
  | 121 => ⟨S8192x512, .f32⟩
  | 122 => ⟨S8192x512, .f32⟩
  | 123 => ⟨S8192x512, .f32⟩
  | 124 => ⟨S_, .f32⟩
  | 125 => ⟨S8192, .f32⟩
  | 126 => ⟨S8192x1, .f32⟩
  | 127 => ⟨S8192x512, .f32⟩
  | _ => ⟨S8192x1024, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x512, .f32⟩
  | 7 => ⟨S8192x512, .f32⟩
  | 8 => ⟨S8192x512, .f32⟩
  | 9 => ⟨S_, .f32⟩
  | 10 => ⟨S512, .f32⟩
  | 11 => ⟨S1x512, .f32⟩
  | 12 => ⟨S8192x512, .f32⟩
  | 13 => ⟨S8192x512, .f32⟩
  | 14 => ⟨S8192x512, .f32⟩
  | 15 => ⟨S_, .f32⟩
  | 16 => ⟨S8192, .f32⟩
  | 17 => ⟨S8192x1, .f32⟩
  | 18 => ⟨S8192x512, .f32⟩
  | 19 => ⟨S8192x512, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192, .f32⟩
  | 26 => ⟨S8192x512, .f32⟩
  | 27 => ⟨S8192x512, .f32⟩
  | 28 => ⟨S8192x512, .f32⟩
  | 29 => ⟨S1x1024, .f32⟩
  | 30 => ⟨S1x1024, .f32⟩
  | 31 => ⟨S_, .f32⟩
  | 32 => ⟨S3x1024, .f32⟩
  | 33 => ⟨S8x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_v47_2 : Ref sig .tc := ⟨.hbm, 80, rfl⟩
abbrev main_call0_cst_1 : Ref sig .tc := ⟨.hbm, 81, rfl⟩
abbrev main_call0_v6 : Ref sig .tc := ⟨.hbm, 82, rfl⟩
abbrev main_call0_v7 : Ref sig .tc := ⟨.hbm, 83, rfl⟩
abbrev main_v47_1 : Ref sig .tc := ⟨.hbm, 84, rfl⟩
abbrev main_v47_0 : Ref sig .tc := ⟨.hbm, 85, rfl⟩
abbrev main_v48 : Ref sig .tc := ⟨.hbm, 86, rfl⟩
abbrev main_cst_13 : Ref sig .tc := ⟨.hbm, 87, rfl⟩
abbrev main_v49 : Ref sig .tc := ⟨.hbm, 88, rfl⟩
abbrev main_v50 : Ref sig .tc := ⟨.hbm, 89, rfl⟩
abbrev main_cst_14 : Ref sig .tc := ⟨.hbm, 90, rfl⟩
abbrev main_v51 : Ref sig .tc := ⟨.hbm, 91, rfl⟩
abbrev main_v52 : Ref sig .tc := ⟨.hbm, 92, rfl⟩
abbrev main_cst_15 : Ref sig .tc := ⟨.hbm, 93, rfl⟩
abbrev main_v53 : Ref sig .tc := ⟨.hbm, 94, rfl⟩
abbrev main_v54 : Ref sig .tc := ⟨.hbm, 95, rfl⟩
abbrev main_cst_16 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_17 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_18 : Ref sig .tc := ⟨.hbm, 113, rfl⟩
abbrev main_v70 : Ref sig .tc := ⟨.hbm, 114, rfl⟩
abbrev main_v71 : Ref sig .tc := ⟨.hbm, 115, rfl⟩
abbrev main_cst_19 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_20 : Ref sig .tc := ⟨.hbm, 122, rfl⟩
abbrev main_v77 : Ref sig .tc := ⟨.hbm, 123, rfl⟩
abbrev main_v78 : Ref sig .tc := ⟨.hbm, 124, rfl⟩
abbrev main_cst_21 : Ref sig .tc := ⟨.hbm, 125, rfl⟩
abbrev main_v79 : Ref sig .tc := ⟨.hbm, 126, rfl⟩
abbrev main_v80 : Ref sig .tc := ⟨.hbm, 127, rfl⟩
abbrev main_cst_22 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_23 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_24 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_25 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_26 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_27 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_28 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_29 : Ref sig .tc := ⟨.hbm, 168, rfl⟩
abbrev main_v114 : Ref sig .tc := ⟨.hbm, 169, rfl⟩
abbrev main_v115 : Ref sig .tc := ⟨.hbm, 170, rfl⟩
abbrev main_cst_30 : Ref sig .tc := ⟨.hbm, 171, rfl⟩
abbrev main_v116 : Ref sig .tc := ⟨.hbm, 172, rfl⟩
abbrev main_v117 : Ref sig .tc := ⟨.hbm, 173, rfl⟩
abbrev main_cst_31 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_32 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_cst_33 : Ref sig .tc := ⟨.hbm, 184, rfl⟩
abbrev main_v126 : Ref sig .tc := ⟨.hbm, 185, rfl⟩
abbrev main_v127 : Ref sig .tc := ⟨.hbm, 186, rfl⟩
abbrev main_cst_34 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_35 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_cst_36 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_37 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_38 : Ref sig .tc := ⟨.hbm, 212, rfl⟩
abbrev main_v149 : Ref sig .tc := ⟨.hbm, 213, rfl⟩
abbrev main_v150 : Ref sig .tc := ⟨.hbm, 214, rfl⟩
abbrev main_cst_39 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_call1_v0 : Ref sig .tc := ⟨.hbm, 220, rfl⟩
abbrev main_call1_v1 : Ref sig .tc := ⟨.hbm, 221, rfl⟩
abbrev main_call1_v2 : Ref sig .tc := ⟨.hbm, 222, rfl⟩
abbrev main_v155 : Ref sig .tc := ⟨.hbm, 223, rfl⟩
abbrev main_cst_40 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_cst_41 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_42 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_cst_43 : Ref sig .tc := ⟨.hbm, 241, rfl⟩
abbrev main_v170 : Ref sig .tc := ⟨.hbm, 242, rfl⟩
abbrev main_v171 : Ref sig .tc := ⟨.hbm, 243, rfl⟩
abbrev main_cst_44 : Ref sig .tc := ⟨.hbm, 244, rfl⟩
abbrev main_v172 : Ref sig .tc := ⟨.hbm, 245, rfl⟩
abbrev main_v173 : Ref sig .tc := ⟨.hbm, 246, rfl⟩
abbrev main_cst_45 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_cst_46 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_cst_47 : Ref sig .tc := ⟨.hbm, 257, rfl⟩
abbrev main_v182 : Ref sig .tc := ⟨.hbm, 258, rfl⟩
abbrev main_v183 : Ref sig .tc := ⟨.hbm, 259, rfl⟩
abbrev main_cst_48 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_cst_49 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_cst_50 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_cst_51 : Ref sig .tc := ⟨.hbm, 277, rfl⟩
abbrev main_v198 : Ref sig .tc := ⟨.hbm, 278, rfl⟩
abbrev main_v199 : Ref sig .tc := ⟨.hbm, 279, rfl⟩
abbrev main_cst_52 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_cst_53 : Ref sig .tc := ⟨.hbm, 287, rfl⟩
abbrev main_v206 : Ref sig .tc := ⟨.hbm, 288, rfl⟩
abbrev main_v207 : Ref sig .tc := ⟨.hbm, 289, rfl⟩

abbrev nD : Nat := 1
abbrev τ : Topo := Topo.v7x

variable {F : FTy → Type} [FloatOps F]
-- ==== Kernel5.lean ====
abbrev S8192x1024 : Shape := ⟨2, ![8192, 1024]⟩
abbrev S1024x1792 : Shape := ⟨2, ![1024, 1792]⟩
abbrev S1x1792 : Shape := ⟨2, ![1, 1792]⟩
abbrev S1792x1024 : Shape := ⟨2, ![1792, 1024]⟩
abbrev S512x1024 : Shape := ⟨2, ![512, 1024]⟩
abbrev S64x1024 : Shape := ⟨2, ![64, 1024]⟩
abbrev S1024x1024 : Shape := ⟨2, ![1024, 1024]⟩
abbrev S2048x1024 : Shape := ⟨2, ![2048, 1024]⟩
abbrev S1x512 : Shape := ⟨2, ![1, 512]⟩
abbrev S1x64 : Shape := ⟨2, ![1, 64]⟩
abbrev S1x1024 : Shape := ⟨2, ![1, 1024]⟩
abbrev S1x2048 : Shape := ⟨2, ![1, 2048]⟩
abbrev S8192x512 : Shape := ⟨2, ![8192, 512]⟩
abbrev S8192x256 : Shape := ⟨2, ![8192, 256]⟩
abbrev S512x512 : Shape := ⟨2, ![512, 512]⟩
abbrev S512x256 : Shape := ⟨2, ![512, 256]⟩
abbrev S512x2048 : Shape := ⟨2, ![512, 2048]⟩

abbrev nBuf : Space → Nat
  | .hbm => 31
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x1792, .f32⟩
  | .hbm, ⟨2, _⟩ => ⟨S1x1792, .f32⟩
  | .hbm, ⟨3, _⟩ => ⟨S1792x1024, .f32⟩
  | .hbm, ⟨4, _⟩ => ⟨S1792x1024, .bf16⟩
  | .hbm, ⟨5, _⟩ => ⟨S512x1024, .bf16⟩
  | .hbm, ⟨6, _⟩ => ⟨S64x1024, .bf16⟩
  | .hbm, ⟨7, _⟩ => ⟨S64x1024, .bf16⟩
  | .hbm, ⟨8, _⟩ => ⟨S64x1024, .bf16⟩
  | .hbm, ⟨9, _⟩ => ⟨S64x1024, .bf16⟩
  | .hbm, ⟨10, _⟩ => ⟨S64x1024, .bf16⟩
  | .hbm, ⟨11, _⟩ => ⟨S64x1024, .bf16⟩
  | .hbm, ⟨12, _⟩ => ⟨S64x1024, .bf16⟩
  | .hbm, ⟨13, _⟩ => ⟨S64x1024, .bf16⟩
  | .hbm, ⟨14, _⟩ => ⟨S1024x1024, .bf16⟩
  | .hbm, ⟨15, _⟩ => ⟨S2048x1024, .bf16⟩
  | .hbm, ⟨16, _⟩ => ⟨S1x512, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x1024, .f32⟩
  | .hbm, ⟨26, _⟩ => ⟨S1x2048, .f32⟩
  | .hbm, ⟨27, _⟩ => ⟨S8192x512, .bf16⟩
  | .hbm, ⟨28, _⟩ => ⟨S8192x256, .bf16⟩
  | .hbm, ⟨29, _⟩ => ⟨S8192x256, .bf16⟩
  | .hbm, ⟨30, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S1x2048, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24_0 : Ref sig .tc := ⟨.hbm, 27, rfl⟩
abbrev main_v24_1 : Ref sig .tc := ⟨.hbm, 28, rfl⟩
abbrev main_v24_2 : Ref sig .tc := ⟨.hbm, 29, rfl⟩
abbrev main_v24_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8192x1024 : Shape := ⟨2, ![8192, 1024]⟩
abbrev S1024x1792 : Shape := ⟨2, ![1024, 1792]⟩
abbrev S1x1792 : Shape := ⟨2, ![1, 1792]⟩
abbrev S8192x1792 : Shape := ⟨2, ![8192, 1792]⟩
abbrev S8192x512 : Shape := ⟨2, ![8192, 512]⟩
abbrev S8192x128 : Shape := ⟨2, ![8192, 128]⟩
abbrev S8192x2x1x64 : Shape := ⟨4, ![8192, 2, 1, 64]⟩
abbrev S8192x2x2x64 : Shape := ⟨4, ![8192, 2, 2, 64]⟩
abbrev S8192x256 : Shape := ⟨2, ![8192, 256]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1792, .f32⟩
  | .hbm, ⟨2, _⟩ => ⟨S1x1792, .f32⟩
  | .hbm, ⟨3, _⟩ => ⟨S8192x1792, .f32⟩
  | .hbm, ⟨4, _⟩ => ⟨S8192x1792, .f32⟩
  | .hbm, ⟨5, _⟩ => ⟨S8192x1792, .f32⟩
  | .hbm, ⟨6, _⟩ => ⟨S8192x512, .f32⟩
  | .hbm, ⟨7, _⟩ => ⟨S8192x128, .f32⟩
  | .hbm, ⟨8, _⟩ => ⟨S8192x128, .f32⟩
  | .hbm, ⟨9, _⟩ => ⟨S8192x1024, .f32⟩
  | .hbm, ⟨10, _⟩ => ⟨S8192x512, .bf16⟩
  | .hbm, ⟨11, _⟩ => ⟨S8192x2x1x64, .f32⟩
  | .hbm, ⟨12, _⟩ => ⟨S8192x2x2x64, .f32⟩
  | .hbm, ⟨13, _⟩ => ⟨S8192x256, .f32⟩
  | .hbm, ⟨14, _⟩ => ⟨S8192x256, .bf16⟩
  | .hbm, ⟨15, _⟩ => ⟨S8192x2x1x64, .f32⟩
  | .hbm, ⟨16, _⟩ => ⟨S8192x2x2x64, .f32⟩
  | .hbm, ⟨17, _⟩ => ⟨S8192x256, .f32⟩
  | .hbm, ⟨18, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Proof.Spec.lean ====
/- The gradient of the ConvFFN channel mixer, written over the extended reals, one coordinate at a time.

   `Args` holds the six arguments. The forward lines are `H` (the up-projection) and `C` (the causal depthwise
   convolution, whose two halves of columns are the gate `g` and the value `u`); the backward lines are `dact`, the
   gradients `dG`, `dU` at the two halves, `D` (both halves side by side), `dH` (the gradient at the up-projection) and
   the gradients of the convolution's weight and bias and of the two projections' weights. -/
module

public import Idealize.ShloMosaic.PureOps.Ideal.Laws

@[expose] public section

noncomputable section

namespace Cert.Spec

open Idealize.ShloMosaic

/-- The six arguments, as functions of their coordinates. -/
structure Args where
  x : Fin 8192 → Fin 1024 → EReal
  wu : Fin 1024 → Fin 5632 → EReal
  cw : Fin 3 → Fin 5632 → EReal
  cb : Fin 5632 → EReal
  wd : Fin 2816 → Fin 1024 → EReal
  ct : Fin 8192 → Fin 1024 → EReal

/-- A column of the gate half. -/
def lo (q : Fin 2816) : Fin 5632 := ⟨q.val, by omega⟩

/-- A column of the value half. -/
def hi (q : Fin 2816) : Fin 5632 := ⟨2816 + q.val, by omega⟩

/-- The logistic function as both programs write it. -/
def logis (a : EReal) : EReal := Ideal.div 1 (1 + Ideal.exp (0 - a))

namespace Args

variable (A : Args)

/-- The up-projection. -/
def H (n : Fin 8192) (q : Fin 5632) : EReal := ∑ k, A.x n k * A.wu k q

/-- The up-projection with two rows of zeros above it. -/
def Hs (n : ℕ) (q : Fin 5632) : EReal := if h : 2 ≤ n ∧ n - 2 < 8192 then A.H ⟨n - 2, h.2⟩ q else 0

/-- The causal depthwise convolution over three rows, with its bias. -/
def C (n : Fin 8192) (q : Fin 5632) : EReal :=
  A.Hs n.val q * A.cw 0 q + A.Hs (n.val + 1) q * A.cw 1 q + A.Hs (n.val + 2) q * A.cw 2 q + A.cb q

/-- The gradient at the activation. -/
def dact (n : Fin 8192) (q : Fin 2816) : EReal := ∑ k, A.ct n k * A.wd q k

/-- The gradient at the gate half of the convolution's result. -/
def dG (n : Fin 8192) (q : Fin 2816) : EReal :=
  A.dact n q * A.C n (hi q) * logis (A.C n (lo q)) * (1 + A.C n (lo q) * (1 - logis (A.C n (lo q))))

/-- The gradient at the value half of the convolution's result. -/
def dU (n : Fin 8192) (q : Fin 2816) : EReal := A.dact n q * (A.C n (lo q) * logis (A.C n (lo q)))

/-- The gradient at the convolution's result, both halves. -/
def D (n : Fin 8192) (q : Fin 5632) : EReal :=
  if h : q.val < 2816 then A.dG n ⟨q.val, h⟩ else A.dU n ⟨q.val - 2816, by omega⟩

/-- The same, with zeros below its last row. -/
def Dp (n : ℕ) (q : Fin 5632) : EReal := if h : n < 8192 then A.D ⟨n, h⟩ q else 0

/-- The gradient at the up-projection. -/
def dH (n : Fin 8192) (q : Fin 5632) : EReal :=
  A.cw 2 q * A.Dp n.val q + A.cw 1 q * A.Dp (n.val + 1) q + A.cw 0 q * A.Dp (n.val + 2) q

/-- What row `n` adds to row `k` of the convolution's parameter gradients: to the weight's three rows, to the bias (the
fourth) and nothing to the rest. -/
def par (k : ℕ) (n : Fin 8192) (q : Fin 5632) : EReal :=
  if k = 3 then A.Dp n.val q else if k = 0 then A.Dp (n.val + 2) q * A.H n q
  else if k = 1 then A.Dp (n.val + 1) q * A.H n q else if k = 2 then A.Dp n.val q * A.H n q else 0

/-- The convolution's parameter gradients in one array of eight rows: the weight's three, the bias, zeros. -/
def dPar (k : ℕ) (q : Fin 5632) : EReal := ∑ n : Fin 8192, A.par k n q

/-- The gradient of the down-projection's weight. -/
def dWd (q : Fin 2816) (k : Fin 1024) : EReal :=
  ∑ n : Fin 8192, A.C n (lo q) * logis (A.C n (lo q)) * A.C n (hi q) * A.ct n k

/-- The gradient of the up-projection's weight, transposed. -/
def dWu (q : Fin 5632) (k : Fin 1024) : EReal := ∑ n : Fin 8192, A.dH n q * A.x n k

/-- Row 0 of the parameter gradients. -/
theorem par_0 (n : Fin 8192) (q : Fin 5632) : A.par 0 n q = A.Dp (n.val + 2) q * A.H n q := rfl

/-- Row 1 of the parameter gradients. -/
theorem par_1 (n : Fin 8192) (q : Fin 5632) : A.par 1 n q = A.Dp (n.val + 1) q * A.H n q := rfl

/-- Row 2 of the parameter gradients. -/
theorem par_2 (n : Fin 8192) (q : Fin 5632) : A.par 2 n q = A.Dp n.val q * A.H n q := rfl

/-- Row 3 of the parameter gradients, the bias. -/
theorem par_3 (n : Fin 8192) (q : Fin 5632) : A.par 3 n q = A.Dp n.val q := rfl

/-- The remaining rows are zero. -/
theorem par_of_le {k : ℕ} (hk : 4 ≤ k) (n : Fin 8192) (q : Fin 5632) : A.par k n q = 0 := by
  unfold par
  rw [if_neg (by omega), if_neg (by omega), if_neg (by omega), if_neg (by omega)]

/-- The gate half of `D`. -/
theorem D_lo (n : Fin 8192) (q : Fin 2816) : A.D n (lo q) = A.dG n q := by
  unfold D; rw [dif_pos (show (lo q).val < 2816 from q.isLt)]; rfl

/-- The value half of `D`. -/
theorem D_hi (n : Fin 8192) (q : Fin 2816) : A.D n (hi q) = A.dU n q := by
  have h : ¬(hi q).val < 2816 := Nat.not_lt.mpr (Nat.le_add_right 2816 q.val)
  refine (dif_neg h).trans (congrArg (A.dU n) (Fin.ext ?_))
  exact Nat.add_sub_cancel_left 2816 q.val

/-- `Dp` inside the array. -/
theorem Dp_of_lt {n : ℕ} (h : n < 8192) (q : Fin 5632) : A.Dp n q = A.D ⟨n, h⟩ q := dif_pos h

/-- `Dp` below the array. -/
theorem Dp_of_le {n : ℕ} (h : 8192 ≤ n) (q : Fin 5632) : A.Dp n q = 0 := dif_neg (by omega)

end Args

end Cert.Spec

end
-- ==== Proof.Blocks.lean ====
/- What the kernel's grid points read: the operands the host lines compute, and the blocks of them at a point, by the
   coordinates of the arrays. -/
module

public import proofs.«01_k».proof.Proof.Gen.KernelIdeal.Frame.Runs
public import proofs.«01_k».proof.Proof.Spec
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.KernelIdeal.Body

open Idealize.ShloMosaic Idealize.ShloMosaic.TcCoe Cert.KernelIdeal Cert.KernelIdeal.Gen Cert.Spec

variable (m : (ℓ : Loc nD τ sig) → Buf (Elt Ideal) ℓ) (c : Dev nD)

/-- The arguments device `c` holds. -/
def args : Args where
  x n k := m ((c : Thread nD τ).loc main_arg0) (ix2 n k)
  wu k q := m ((c : Thread nD τ).loc main_arg1) (ix2 k q)
  cw k q := m ((c : Thread nD τ).loc main_arg2) (ix2 k q)
  cb q := m ((c : Thread nD τ).loc main_arg3) (ix1 q)
  wd q k := m ((c : Thread nD τ).loc main_arg4) (ix2 q k)
  ct n k := m ((c : Thread nD τ).loc main_arg5) (ix2 n k)

/-! ## The operands the host lines compute -/

/-- The output's gradient. -/
theorem V34_apply (r : Fin 8192) (l : Fin 1024) : V m c main_v34 (ix2 r l) = (args m c).ct r l := by
  unfold V; after_reads_at; rfl

/-- The mixer's input. -/
theorem V35_apply (r : Fin 8192) (l : Fin 1024) : V m c main_v35 (ix2 r l) = (args m c).x r l := by
  unfold V; after_reads_at; rfl

/-- The down-projection's weight. -/
theorem V36_apply (r : Fin 2816) (l : Fin 1024) : V m c main_v36 (ix2 r l) = (args m c).wd r l := by
  unfold V; after_reads_at; rfl

/-- The gate half of the up-projection. -/
theorem V27_apply (r : Fin 8192) (l : Fin 2816) : V m c main_v27 (ix2 r l) = (args m c).H r (lo l) := by
  unfold V; after_reads_at; rfl

/-- The value half of the up-projection. -/
theorem V29_apply (r : Fin 8192) (l : Fin 2816) : V m c main_v29 (ix2 r l) = (args m c).H r (hi l) := by
  unfold V; after_reads_at; rfl

/-- The rows of zeros above the up-projection, and the up-projection, as the convolution reads them. -/
theorem rows_apply (n : ℕ) (hn : n < 8194) (q : Fin 5632) :
    (if h : n < 2 then
        StableHlo.upto (hostOps0 (F := Ideal)) (fun b => m (c, b)) 3 (Proc.tc.devRef main_v1) (ix2 ⟨n, h⟩ q)
      else StableHlo.upto (hostOps0 (F := Ideal)) (fun b => m (c, b)) 3 (Proc.tc.devRef main_v0) (ix2 ⟨n - 2, by omega⟩ q))
      = (args m c).Hs n q := by
  unfold Args.Hs
  by_cases h : n < 2
  · rw [dif_pos h, dif_neg (by omega)]
    after_reads_at
  · rw [dif_neg h, dif_pos (by omega)]
    after_reads_at; rfl

/-- The convolution from its operations. -/
theorem conv_apply (r : Fin 8192) (q : Fin 5632) :
    (if h : r.val < 2 then
        StableHlo.upto (hostOps0 (F := Ideal)) (fun b => m (c, b)) 3 (Proc.tc.devRef main_v1) (ix2 ⟨r.val, h⟩ q)
      else StableHlo.upto (hostOps0 (F := Ideal)) (fun b => m (c, b)) 3 (Proc.tc.devRef main_v0) (ix2 ⟨r.val - 2, by omega⟩ q) : EReal)
        * (args m c).cw 0 q
      + (if h : 1 + r.val < 2 then
        StableHlo.upto (hostOps0 (F := Ideal)) (fun b => m (c, b)) 3 (Proc.tc.devRef main_v1) (ix2 ⟨1 + r.val, h⟩ q)
      else StableHlo.upto (hostOps0 (F := Ideal)) (fun b => m (c, b)) 3 (Proc.tc.devRef main_v0) (ix2 ⟨1 + r.val - 2, by omega⟩ q) : EReal)
        * (args m c).cw 1 q
      + @id EReal (StableHlo.upto (hostOps0 (F := Ideal)) (fun b => m (c, b)) 3 (Proc.tc.devRef main_v0) (ix2 r q))
        * (args m c).cw 2 q
      + (args m c).cb q = (args m c).C r q := by
  have h2 := rows_apply m c (r.val + 2) (by omega) q
  rw [dif_neg (by omega)] at h2
  refine congrArg₂ (· + ·) (congrArg₂ (· + ·) (congrArg₂ (· + ·) (congrArg₂ (· * ·) ?_ rfl)
    (congrArg₂ (· * ·) ?_ rfl)) (congrArg₂ (· * ·) ?_ rfl)) rfl
  · exact rows_apply m c r.val (by omega) q
  · rw [Nat.add_comm r.val 1]; exact rows_apply m c (1 + r.val) (by omega) q
  · exact h2

/-- The gate half of the convolution. -/
theorem V31_apply (r : Fin 8192) (l : Fin 2816) : V m c main_v31 (ix2 r l) = (args m c).C r (lo l) := by
  unfold V; after_reads_at
  exact conv_apply m c r (lo l)

/-- The value half of the convolution. -/
theorem V33_apply (r : Fin 8192) (l : Fin 2816) : V m c main_v33 (ix2 r l) = (args m c).C r (hi l) := by
  unfold V; after_reads_at
  exact conv_apply m c r (hi l)

/-! ## The blocks at a grid point

Point `t` takes column chunk `t / 8` and row block `t % 8`. -/

/-- Every window's block index at point `t`. -/
theorem idx : ∀ t : Fin cfg0.N,
    win0_0.index t = ![t.val % 8, 0] ∧ win0_1.index t = ![min ((t.val % 8 + 1) * 64) 511, 0]
    ∧ win0_2.index t = ![t.val % 8, t.val / 8] ∧ win0_3.index t = ![t.val % 8, t.val / 8]
    ∧ win0_4.index t = ![t.val % 8, t.val / 8] ∧ win0_5.index t = ![min ((t.val % 8 + 1) * 64) 511, t.val / 8]
    ∧ win0_6.index t = ![t.val % 8, t.val / 8] ∧ win0_7.index t = ![min ((t.val % 8 + 1) * 64) 511, t.val / 8]
    ∧ win0_8.index t = ![t.val % 8, 0] ∧ win0_9.index t = ![t.val / 8, 0]
    ∧ win0_10.index t = ![0, t.val / 8] ∧ win0_11.index t = ![0, 11 + t.val / 8]
    ∧ win0_12.index t = ![t.val % 8, t.val / 8] ∧ win0_13.index t = ![t.val % 8, t.val / 8]
    ∧ win0_14.index t = ![t.val / 8, 0] ∧ win0_15.index t = ![0, t.val / 8, 0]
    ∧ win0_16.index t = ![0, t.val / 8] ∧ win0_17.index t = ![0, t.val / 8] :=
  (by decide +kernel : ∀ t : Fin grid0.N, _)

/-- The number of grid points. -/
theorem lt_88 (t : Fin cfg0.N) : t.val < 88 := lt_of_lt_of_eq t.isLt N_0

/-- Row `r` of the row block of point `t`, counted in the arrays. -/
def row (t : Fin cfg0.N) (r : Fin 1024) : Fin 8192 := ⟨t.val % 8 * 1024 + r.val, by omega⟩

/-- Column `l` of the column chunk of point `t`, counted in one half. -/
def col (t : Fin cfg0.N) (l : Fin 256) : Fin 2816 := ⟨t.val / 8 * 256 + l.val, by have := lt_88 t; omega⟩

/-- Row `r` of the sixteen rows below the row block of point `t` (of the last sixteen, at the last block). -/
def nxt (t : Fin cfg0.N) (r : Fin 16) : Fin 8192 := ⟨min ((t.val % 8 + 1) * 64) 511 * 16 + r.val, by omega⟩

/-- The block of the output's gradient. -/
theorem blk0 (t : Fin cfg0.N) (r : Fin 1024) (k : Fin 1024) : iblk m c 0 t (ix2 r k) = (args m c).ct (row t r) k := by
  rw [← V34_apply]; blk_ext [iblk, idx t, row]

/-- Its next sixteen rows. -/
theorem blk1 (t : Fin cfg0.N) (r : Fin 16) (k : Fin 1024) : iblk m c 1 t (ix2 r k) = (args m c).ct (nxt t r) k := by
  rw [← V34_apply]; blk_ext [iblk, idx t, nxt]

/-- The block of the up-projection, the gate half. -/
theorem blk2 (t : Fin cfg0.N) (r : Fin 1024) (l : Fin 256) :
    iblk m c 2 t (ix2 r l) = (args m c).H (row t r) (lo (col t l)) := by
  rw [← V27_apply]; blk_ext [iblk, idx t, row, col]

/-- The block of the up-projection, the value half. -/
theorem blk3 (t : Fin cfg0.N) (r : Fin 1024) (l : Fin 256) :
    iblk m c 3 t (ix2 r l) = (args m c).H (row t r) (hi (col t l)) := by
  rw [← V29_apply]; blk_ext [iblk, idx t, row, col]

/-- The block of the gate. -/
theorem blk4 (t : Fin cfg0.N) (r : Fin 1024) (l : Fin 256) :
    iblk m c 4 t (ix2 r l) = (args m c).C (row t r) (lo (col t l)) := by
  rw [← V31_apply]; blk_ext [iblk, idx t, row, col]

/-- The gate's next sixteen rows. -/
theorem blk5 (t : Fin cfg0.N) (r : Fin 16) (l : Fin 256) :
    iblk m c 5 t (ix2 r l) = (args m c).C (nxt t r) (lo (col t l)) := by
  rw [← V31_apply]; blk_ext [iblk, idx t, nxt, col]

/-- The block of the value. -/
theorem blk6 (t : Fin cfg0.N) (r : Fin 1024) (l : Fin 256) :
    iblk m c 6 t (ix2 r l) = (args m c).C (row t r) (hi (col t l)) := by
  rw [← V33_apply]; blk_ext [iblk, idx t, row, col]

/-- The value's next sixteen rows. -/
theorem blk7 (t : Fin cfg0.N) (r : Fin 16) (l : Fin 256) :
    iblk m c 7 t (ix2 r l) = (args m c).C (nxt t r) (hi (col t l)) := by
  rw [← V33_apply]; blk_ext [iblk, idx t, nxt, col]

/-- The block of the mixer's input. -/
theorem blk8 (t : Fin cfg0.N) (r : Fin 1024) (k : Fin 1024) : iblk m c 8 t (ix2 r k) = (args m c).x (row t r) k := by
  rw [← V35_apply]; blk_ext [iblk, idx t, row]

/-- The block of the down-projection's weight. -/
theorem blk9 (t : Fin cfg0.N) (l : Fin 256) (k : Fin 1024) : iblk m c 9 t (ix2 l k) = (args m c).wd (col t l) k := by
  rw [← V36_apply]; blk_ext [iblk, idx t, col]

/-- The convolution's weight on the gate's columns. -/
theorem blk10 (t : Fin cfg0.N) (k : Fin 3) (l : Fin 256) :
    iblk m c 10 t (ix2 k l) = (args m c).cw k (lo (col t l)) := by
  refine Eq.trans ?_ (congrFun (V_main_arg2 m c) (ix2 k (lo (col t l))))
  blk_ext [iblk, idx t, col, lo]

/-- The convolution's weight on the value's columns. -/
theorem blk11 (t : Fin cfg0.N) (k : Fin 3) (l : Fin 256) :
    iblk m c 11 t (ix2 k l) = (args m c).cw k (hi (col t l)) := by
  refine Eq.trans ?_ (congrFun (V_main_arg2 m c) (ix2 k (hi (col t l))))
  blk_ext [iblk, idx t, col, hi]

end Cert.KernelIdeal.Body

end
-- ==== Proof.Point.lean ====
/- What the body computes at one grid point: the gradients at the convolution's result on the point's rows and the halo
   rows below them, and from these the gradient at the up-projection and the point's share of the parameter gradients. -/
module

public import proofs.«01_k».proof.Proof.Gen.KernelIdeal.Frame
public import proofs.«01_k».proof.Proof.Blocks
public import Idealize.ShloMosaic.Lib.Pipeline.ReadBack
public import Idealize.ShloMosaic.Lib.WritesUnit
public import Idealize.ShloMosaic.Lib.WordCmp

@[expose] public section

set_option maxRecDepth 16384

noncomputable section

namespace Cert.KernelIdeal.Body

open Idealize.ShloMosaic Idealize.ShloMosaic.TcCoe Cert.KernelIdeal Cert.KernelIdeal.Gen Cert.Spec

variable (m : (ℓ : Loc nD τ sig) → Buf (Elt Ideal) ℓ) (c : Dev nD) (t : Fin cfg0.N)

/-- The scratch that holds the output's gradient on the point's rows and the halo rows. -/
abbrev dfV : Vec Ideal S1040x1024 .bf16 :=
  (View.whole cc0_scratch2).readCov
    [⟨Rect.unit (s := S1040x1024) ![1024, 0] S16x1024.size inb_S1040x1024_S16x1024_1024_0, k0_pay9 (iblk m c 1 t)⟩,
      ⟨Rect.unit (s := S1040x1024) ![0, 0] S1024x1024.size inb_S1040x1024_S1024x1024_0_0, k0_pay8 (iblk m c 0 t)⟩]
    (Rect.unit (s := S1040x1024) ![0, 0] S1040x1024.size inb_S1040x1024_S1040x1024_0_0).toLoadRect

/-- The gradient at the gate half, as the body stores it. -/
abbrev dgV : FVec Ideal S1040x256 .f32 :=
  k0_pay17 (BitVec.ofNat 32 ↑(grid0.coords t 1)) (k0_pay10 (dfV m c t) (iblk m c 9 t))
    (k0_pay11 (iblk m c 4 t) (iblk m c 5 t)) (k0_pay12 (iblk m c 6 t) (iblk m c 7 t))
    (k0_pay13 (iblk m c 4 t) (iblk m c 5 t))

/-- The gradient at the value half, as the body stores it. -/
abbrev duV : FVec Ideal S1040x256 .f32 :=
  k0_pay18 (BitVec.ofNat 32 ↑(grid0.coords t 1)) (k0_pay10 (dfV m c t) (iblk m c 9 t))
    (k0_pay11 (iblk m c 4 t) (iblk m c 5 t)) (k0_pay13 (iblk m c 4 t) (iblk m c 5 t))

/-- The second grid coordinate. -/
theorem coord1 : ∀ t : Fin cfg0.N, (grid0.coords t 1).val = t.val % 8 :=
  (by decide +kernel : ∀ t : Fin grid0.N, _)

/-- Row `r` of the point's rows and halo rows, counted in the arrays, where it is one of their rows. -/
def ext (r : Fin 1040) (h : t.val % 8 * 1024 + r.val < 8192) : Fin 8192 := ⟨t.val % 8 * 1024 + r.val, h⟩

/-- A row of the point's block is the same row of the block with its next sixteen. -/
theorem ext_row (r : Fin 1024) : row t r = ⟨t.val % 8 * 1024 + r.val, by have := r.isLt; omega⟩ := rfl

/-- The output's gradient in the scratch. -/
theorem df_apply (r : Fin 1040) (h : t.val % 8 * 1024 + r.val < 8192) (k : Fin 1024) :
    dfV m c t (ix2 r k) = (args m c).ct (ext t r h) k := by
  unfold dfV
  rw [View.readCov_eq_canon']
  have e : (Rect.unit (s := S1040x1024) ![0, 0] S1040x1024.size inb_S1040x1024_S1040x1024_0_0).toLoadRect.idx (ix2 r k)
      = ix2 r k := by
    funext a; apply Fin.ext; fin_cases a <;> exact (Nat.zero_add _).trans (Nat.one_mul _)
  show View.canon _ _ = _
  rw [e, ← View.read_writes_junk_apply_eq_canon (View.whole cc0_scratch2)]
  by_cases hr : r.val < 1024
  · rw [View.read_writes_cons_rows_of_not_mem _ _ _ _ _ _ rfl rfl (Or.inl hr)]
    refine (View.read_writes_cons_rows_of_mem _ _ _ _ _ (ix2 r k) (ix2 (⟨r.val, hr⟩ : Fin 1024) k) (o := 0) rfl
      (Nat.zero_add _).symm rfl).trans ?_
    pointwise [k0_pay8]
    rw [blk0]; rfl
  · refine (View.read_writes_cons_rows_of_mem _ _ _ _ _ (ix2 r k) (ix2 (⟨r.val - 1024, by omega⟩ : Fin 16) k)
      (o := 1024) rfl (show r.val = 1024 + (r.val - 1024) by omega) rfl).trans ?_
    pointwise [k0_pay9]
    rw [blk1]; congr 1; apply Fin.ext; simp only [nxt, ext]; omega

/-- The gate half of the convolution on the point's rows and the halo rows. -/
theorem g_apply (r : Fin 1040) (h : t.val % 8 * 1024 + r.val < 8192) (l : Fin 256) :
    k0_pay11 (F := Ideal) (iblk m c 4 t) (iblk m c 5 t) (ix2 r l) = (args m c).C (ext t r h) (lo (col t l)) := by
  pointwise [k0_pay11]
  split
  · rw [blk4]; rfl
  · rw [blk5]; congr 1; apply Fin.ext; simp only [nxt, ext]; omega

/-- The value half of the convolution on the point's rows and the halo rows. -/
theorem u_apply (r : Fin 1040) (h : t.val % 8 * 1024 + r.val < 8192) (l : Fin 256) :
    k0_pay12 (F := Ideal) (iblk m c 6 t) (iblk m c 7 t) (ix2 r l) = (args m c).C (ext t r h) (hi (col t l)) := by
  pointwise [k0_pay12]
  split
  · rw [blk6]; rfl
  · rw [blk7]; congr 1; apply Fin.ext; simp only [nxt, ext]; omega

/-- The mask: the point's own rows, and the halo rows unless the row block is the last. -/
theorem mask_apply (r : Fin 1040) (l : Fin 1) :
    k0_pay16 (BitVec.ofNat 32 ↑(grid0.coords t 1)) (ix2 r l)
      = if t.val % 8 * 1024 + r.val < 8192 then 1#1 else 0#1 := by
  pointwise [k0_pay16]
  rw [coord1]
  have hr := r.isLt
  simp (disch := omega) only [hlo_ix]
  by_cases h1 : r.val < 1024 <;> by_cases h2 : t.val % 8 < 7 <;> simp only [h1, h2, decide_true, decide_false]
  · rw [if_pos (by omega)]; rfl
  · rw [if_pos (by omega)]; rfl
  · rw [if_pos (by omega)]; rfl
  · rw [if_neg (by omega)]; rfl

/-- The gradient at the activation, on the point's rows and the halo rows. -/
theorem dact_apply (r : Fin 1040) (h : t.val % 8 * 1024 + r.val < 8192) (l : Fin 256) :
    k0_pay10 (F := Ideal) (dfV m c t) (iblk m c 9 t) (ix2 r l) = (args m c).dact (ext t r h) (col t l) := by
  pointwise [k0_pay10]
  exact Finset.sum_congr rfl fun k _ => by rw [df_apply m c t r h, blk9]

/-- The logistic factor's argument: the gate, negated. -/
theorem neg_apply (r : Fin 1040) (h : t.val % 8 * 1024 + r.val < 8192) (l : Fin 256) :
    k0_pay13 (F := Ideal) (iblk m c 4 t) (iblk m c 5 t) (ix2 r l)
      = 0 - (args m c).C (ext t r h) (lo (col t l)) := by
  rw [← g_apply m c t r h l]
  pointwise [k0_pay13]

/-- The logistic factor. -/
theorem k0_pay14_apply (s : FVec Ideal S1040x256 .f32) (r : Fin 1040) (l : Fin 256) :
    k0_pay14 s (ix2 r l) = Ideal.div 1 (1 + Ideal.exp (s (ix2 r l))) := by
  pointwise [k0_pay14]

/-- The gradient at the gate half, as the body stores it: zero below the array's last row. -/
theorem dg_apply (r : Fin 1040) (l : Fin 256) :
    dgV m c t (ix2 r l) = (args m c).Dp (t.val % 8 * 1024 + r.val) (lo (col t l)) := by
  unfold dgV
  pointwise [k0_pay17, k0_pay14]
  rw [mask_apply]
  by_cases h : t.val % 8 * 1024 + r.val < 8192
  · rw [if_pos h, (args m c).Dp_of_lt h, Args.D_lo, dact_apply m c t r h, u_apply m c t r h, g_apply m c t r h,
      neg_apply m c t r h]
    rfl
  · rw [if_neg h, (args m c).Dp_of_le (by omega)]
    rfl

/-- The gradient at the value half, as the body stores it: zero below the array's last row. -/
theorem du_apply (r : Fin 1040) (l : Fin 256) :
    duV m c t (ix2 r l) = (args m c).Dp (t.val % 8 * 1024 + r.val) (hi (col t l)) := by
  unfold duV
  pointwise [k0_pay18, k0_pay15]
  rw [mask_apply]
  by_cases h : t.val % 8 * 1024 + r.val < 8192
  · rw [if_pos h, (args m c).Dp_of_lt h, Args.D_hi, dact_apply m c t r h, g_apply m c t r h,
      k0_pay14_apply, neg_apply m c t r h]
    rfl
  · rw [if_neg h, (args m c).Dp_of_le (by omega)]
    rfl

/-- The gate half's gradient at the up-projection. -/
abbrev phV : FVec Ideal S1024x256 .bf16 :=
  k0_pay25 (k0_pay19 (View.ld (dgV m c t) (Rect.unit (s := S1040x256) ![0, 0] S1024x256.size inb_S1040x256_S1024x256_0_0))
    (View.ld (dgV m c t) (Rect.unit (s := S1040x256) ![1, 0] S1024x256.size inb_S1040x256_S1024x256_1_0))
    (View.ld (dgV m c t) (Rect.unit (s := S1040x256) ![2, 0] S1024x256.size inb_S1040x256_S1024x256_2_0))
    (View.ld (iblk m c 10 t) (Rect.unit (s := S3x256) ![2, 0] S1x256.size inb_S3x256_S1x256_2_0))
    (View.ld (iblk m c 10 t) (Rect.unit (s := S3x256) ![1, 0] S1x256.size inb_S3x256_S1x256_1_0))
    (View.ld (iblk m c 10 t) (Rect.unit (s := S3x256) ![0, 0] S1x256.size inb_S3x256_S1x256_0_0)))

/-- The gate half's block of the gradient at the up-projection. -/
theorem ph_apply (r : Fin 1024) (l : Fin 256) :
    phV m c t (ix2 r l) = (args m c).dH (row t r) (lo (col t l)) := by
  unfold phV
  pointwise [k0_pay25, k0_pay19]
  rw [dg_apply, dg_apply, dg_apply, blk10, blk10, blk10]
  simp only [Args.dH, row, Nat.add_assoc, Nat.add_comm r.val]

/-- The value half's gradient at the up-projection. -/
abbrev puV : FVec Ideal S1024x256 .bf16 :=
  k0_pay33 (k0_pay26 (View.ld (duV m c t) (Rect.unit (s := S1040x256) ![0, 0] S1024x256.size inb_S1040x256_S1024x256_0_0))
    (View.ld (duV m c t) (Rect.unit (s := S1040x256) ![1, 0] S1024x256.size inb_S1040x256_S1024x256_1_0))
    (View.ld (duV m c t) (Rect.unit (s := S1040x256) ![2, 0] S1024x256.size inb_S1040x256_S1024x256_2_0))
    (View.ld (iblk m c 11 t) (Rect.unit (s := S3x256) ![2, 0] S1x256.size inb_S3x256_S1x256_2_0))
    (View.ld (iblk m c 11 t) (Rect.unit (s := S3x256) ![1, 0] S1x256.size inb_S3x256_S1x256_1_0))
    (View.ld (iblk m c 11 t) (Rect.unit (s := S3x256) ![0, 0] S1x256.size inb_S3x256_S1x256_0_0)))

/-- The value half's block of the gradient at the up-projection. -/
theorem pu_apply (r : Fin 1024) (l : Fin 256) :
    puV m c t (ix2 r l) = (args m c).dH (row t r) (hi (col t l)) := by
  unfold puV
  pointwise [k0_pay33, k0_pay26]
  rw [du_apply, du_apply, du_apply, blk11, blk11, blk11]
  simp only [Args.dH, row, Nat.add_assoc, Nat.add_comm r.val]

end Cert.KernelIdeal.Body

end
-- ==== Proof.Outs.lean ====
/- What the output buffers hold at a grid point: the two gradients at the up-projection, and the accumulators of the
   parameter gradients as sums over the row blocks taken so far. -/
module

public import proofs.«01_k».proof.Proof.Gen.KernelIdeal.Frame
public import proofs.«01_k».proof.Proof.Point

@[expose] public section

set_option maxRecDepth 16384

noncomputable section

namespace Cert.KernelIdeal.Body

open Idealize.ShloMosaic Idealize.ShloMosaic.TcCoe Cert.KernelIdeal Cert.KernelIdeal.Gen Cert.Spec

/-! ## Four rows stored one after the other -/

section Rows

variable {κ : Kind} {sp : Space} (v : View sig κ sp S8x256 .f32) (f : v.ty.Contents (Elt Ideal))
  (L : List (View.Piece (Elt Ideal) S8x256 .f32)) (p0 p1 p2 p3 : Vec Ideal S1x256 .f32)

/-- The four row stores of one half's parameter gradients, newest first, over earlier ones. -/
abbrev rowStores : List (View.Piece (Elt Ideal) S8x256 .f32) :=
  ⟨Rect.unit (s := S8x256) ![3, 0] S1x256.size inb_S8x256_S1x256_3_0, p3⟩
    :: ⟨Rect.unit (s := S8x256) ![0, 0] S1x256.size inb_S8x256_S1x256_0_0, p0⟩
    :: ⟨Rect.unit (s := S8x256) ![1, 0] S1x256.size inb_S8x256_S1x256_1_0, p1⟩
    :: ⟨Rect.unit (s := S8x256) ![2, 0] S1x256.size inb_S8x256_S1x256_2_0, p2⟩ :: L

/-- If each of the four stores adds its row of `T` to `X` there, the earlier stores left `X`, and `T` is zero on the other
rows, the buffer holds `X + T`. -/
theorem rowStores_add (X : Fin 8 → EReal) (T : ℕ → EReal) (l : Fin 256)
    (h3 : p3 (ix2 (0 : Fin 1) l) = X 3 + T 3) (h0 : p0 (ix2 (0 : Fin 1) l) = X 0 + T 0)
    (h1 : p1 (ix2 (0 : Fin 1) l) = X 1 + T 1) (h2 : p2 (ix2 (0 : Fin 1) l) = X 2 + T 2)
    (hL : ∀ k : Fin 8, v.read (Elt Ideal) (v.writes (Elt Ideal) f L) (ix2 k l) = X k)
    (hT : ∀ k, 4 ≤ k → T k = 0) (k : Fin 8) :
    v.read (Elt Ideal) (v.writes (Elt Ideal) f (rowStores L p0 p1 p2 p3)) (ix2 k l) = X k + T k.val := by
  have hit : ∀ (o : ℕ) (ho : o < 8) (inb) (w : Vec Ideal S1x256 .f32) (L' : List (View.Piece (Elt Ideal) S8x256 .f32)),
      v.read (Elt Ideal) (v.writes (Elt Ideal) f (⟨Rect.unit (s := S8x256) ![o, 0] S1x256.size inb, w⟩ :: L'))
        (ix2 (⟨o, ho⟩ : Fin 8) l) = w (ix2 (0 : Fin 1) l) := fun o ho inb w L' =>
    View.read_writes_cons_rows_of_mem v f inb w L' (ix2 (⟨o, ho⟩ : Fin 8) l) (ix2 (0 : Fin 1) l) (o := o) rfl rfl rfl
  have miss : ∀ (o : ℕ) (k : Fin 8) (hk : k.val ≠ o) (inb) (w : Vec Ideal S1x256 .f32)
      (L' : List (View.Piece (Elt Ideal) S8x256 .f32)),
      v.read (Elt Ideal) (v.writes (Elt Ideal) f (⟨Rect.unit (s := S8x256) ![o, 0] S1x256.size inb, w⟩ :: L')) (ix2 k l)
        = v.read (Elt Ideal) (v.writes (Elt Ideal) f L') (ix2 k l) := fun o k hk inb w L' =>
    View.read_writes_cons_rows_of_not_mem v f inb w L' (ix2 k l) (o := o) (W := 1) rfl rfl
      (show k.val < o ∨ o + 1 ≤ k.val by omega)
  rcases lt_or_ge k.val 4 with hk | hk
  · have : k = 0 ∨ k = 1 ∨ k = 2 ∨ k = 3 := by omega
    rcases this with rfl | rfl | rfl | rfl
    · exact (miss 3 0 (by decide) _ _ _).trans ((hit 0 (by decide) _ _ _).trans h0)
    · exact (miss 3 1 (by decide) _ _ _).trans ((miss 0 1 (by decide) _ _ _).trans ((hit 1 (by decide) _ _ _).trans h1))
    · exact (miss 3 2 (by decide) _ _ _).trans ((miss 0 2 (by decide) _ _ _).trans
        ((miss 1 2 (by decide) _ _ _).trans ((hit 2 (by decide) _ _ _).trans h2)))
    · exact (hit 3 (by decide) _ _ _).trans h3
  · rw [hT _ hk, add_zero]
    exact (miss 3 k (by omega) _ _ _).trans ((miss 0 k (by omega) _ _ _).trans
      ((miss 1 k (by omega) _ _ _).trans ((miss 2 k (by omega) _ _ _).trans (hL k))))

end Rows

variable (m : (ℓ : Loc nD τ sig) → Buf (Elt Ideal) ℓ) (c : Dev nD) (t : Fin cfg0.N)

/-! ## The two gradients at the up-projection, written at every point -/

theorem outs12 : (outsAt0 m c t.val t.isLt).1 = phV m c t := by
  by_cases h : t.val % 8 = 0
  · rw [outsAt0_A m c t h]
    frame_open
    simp (disch := decide) only [↓ View.readCov_fill]
    frame_out
    rfl
  · rw [outsAt0_B m c t h]
    frame_open
    simp (disch := decide) only [↓ View.readCov_fill]
    frame_out
    rfl

/-- The value half's block of the up-projection's gradient is the value the point computes for it. -/
theorem outs13 : (outsAt0 m c t.val t.isLt).2.1 = puV m c t := by
  by_cases h : t.val % 8 = 0
  · rw [outsAt0_A m c t h]
    frame_open
    simp (disch := decide) only [↓ View.readCov_fill]
    frame_out
    rfl
  · rw [outsAt0_B m c t h]
    frame_open
    simp (disch := decide) only [↓ View.readCov_fill]
    frame_out
    rfl

/-! ## The accumulators -/

/-- The activation, on the point's rows. -/
theorem act_apply (r : Fin 1024) (l : Fin 256) :
    k0_pay15 (F := Ideal) (k0_pay11 (iblk m c 4 t) (iblk m c 5 t)) (k0_pay13 (iblk m c 4 t) (iblk m c 5 t))
        (ix2 (⟨r.val, by omega⟩ : Fin 1040) l)
      * k0_pay12 (F := Ideal) (iblk m c 6 t) (iblk m c 7 t) (ix2 (⟨r.val, by omega⟩ : Fin 1040) l)
      = (args m c).C (row t r) (lo (col t l)) * logis ((args m c).C (row t r) (lo (col t l)))
        * (args m c).C (row t r) (hi (col t l)) := by
  have h : t.val % 8 * 1024 + r.val < 8192 := by have := r.isLt; omega
  rw [u_apply m c t ⟨r.val, by omega⟩ h]
  pointwise [k0_pay15]
  rw [k0_pay14_apply, g_apply m c t ⟨r.val, by omega⟩ h, neg_apply m c t ⟨r.val, by omega⟩ h]
  rfl

/-- The predecessor's number is a point's. -/
theorem prev_lt : t.val - 1 < cfg0.N := Nat.lt_of_le_of_lt (Nat.sub_le _ _) t.isLt

/-- The down-projection's weight gradient: what the point adds. -/
def termWd (t : Fin cfg0.N) (j : Fin 256 × Fin 1024) : EReal :=
  ∑ r : Fin 1024, (args m c).C (row t r) (lo (col t j.1)) * logis ((args m c).C (row t r) (lo (col t j.1)))
        * (args m c).C (row t r) (hi (col t j.1)) * (args m c).ct (row t r) j.2

/-- The point's store into the down-projection's weight gradient: the old entry and the point's term. -/
theorem pay34_apply (X : Vec Ideal S256x1024 .f32) (j : Fin 256 × Fin 1024) :
    k0_pay34 (k0_pay12 (iblk m c 6 t) (iblk m c 7 t))
      (k0_pay15 (k0_pay11 (iblk m c 4 t) (iblk m c 5 t)) (k0_pay13 (iblk m c 4 t) (iblk m c 5 t))) X (iblk m c 0 t)
      (ix2 j.1 j.2) = (show EReal from X (ix2 j.1 j.2)) + termWd m c t j := by
  pointwise [k0_pay34]
  refine congrArg (fun s : EReal => (show EReal from X (ix2 j.1 j.2)) + s) (Finset.sum_congr rfl fun r _ => ?_)
  have := act_apply m c t r j.1
  rw [blk0, ← this]

/-- At a chunk's first point the down-projection's weight gradient starts from zero. -/
theorem outs14_A (h : t.val % 8 = 0) (j : Fin 256 × Fin 1024) :
    (outsAt0 m c t.val t.isLt).2.2.1 (ix2 j.1 j.2) = (0 : EReal) + termWd m c t j := by
  rw [outsAt0_A m c t h]
  frame_out
  refine (pay34_apply m c t _ j).trans ?_
  pointwise [k0_pay4]

/-- At a later point it goes on from what the point before left. -/
theorem outs14_B (h : ¬t.val % 8 = 0) (j : Fin 256 × Fin 1024) :
    (outsAt0 m c t.val t.isLt).2.2.1 (ix2 j.1 j.2)
      = (show EReal from (outsAt0 m c (t.val - 1) (prev_lt t)).2.2.1 (ix2 j.1 j.2)) + termWd m c t j := by
  rw [outsAt0_B m c t h]
  frame_out
  exact pay34_apply m c t _ j

/-- The up-projection's weight gradient: what the point adds to half `j.1`. -/
def termWu (t : Fin cfg0.N) (j : Fin 2 × Fin 256 × Fin 1024) : EReal :=
  ∑ r : Fin 1024, (args m c).dH (row t r) (if j.1.val = 0 then lo (col t j.2.1) else hi (col t j.2.1))
    * (args m c).x (row t r) j.2.2

/-- The two halves' stores of the up-projection's weight gradient, read at an index. -/
theorem halves_apply (X : Vec Ideal S2x256x1024 .f32) (L : List (View.Piece (Elt Ideal) S2x256x1024 .f32))
    (j : Fin 2 × Fin 256 × Fin 1024) :
    View.canon (Val := Elt Ideal) (s := S2x256x1024) (e := .f32)
      (⟨Rect.unit (s := S2x256x1024) ![1, 0, 0] S1x256x1024.size inb_S2x256x1024_S1x256x1024_1_0_0,
          k0_pay3 (puV m c t) (iblk m c 8 t)
            (View.ld X (Rect.unit (s := S2x256x1024) ![1, 0, 0] S1x256x1024.size inb_S2x256x1024_S1x256x1024_1_0_0))⟩
        :: ⟨Rect.unit (s := S2x256x1024) ![0, 0, 0] S1x256x1024.size inb_S2x256x1024_S1x256x1024_0_0_0,
          k0_pay2 (phV m c t) (iblk m c 8 t)
            (View.ld X (Rect.unit (s := S2x256x1024) ![0, 0, 0] S1x256x1024.size inb_S2x256x1024_S1x256x1024_0_0_0))⟩
        :: L) (ix3 j.1 j.2.1 j.2.2)
      = (show EReal from X (ix3 j.1 j.2.1 j.2.2)) + termWu m c t j := by
  obtain ⟨z, l, k⟩ := j
  have hit : ∀ (o : ℕ) (ho : o < 2) (inb) (w : Vec Ideal S1x256x1024 .f32) (L' : List (View.Piece (Elt Ideal) S2x256x1024 .f32)),
      View.canon (Val := Elt Ideal) (s := S2x256x1024) (e := .f32)
        (⟨Rect.unit (s := S2x256x1024) ![o, 0, 0] S1x256x1024.size inb, w⟩ :: L') (ix3 (⟨o, ho⟩ : Fin 2) l k)
        = w (ix3 (0 : Fin 1) l k) := fun o ho inb w L' => by
    refine (View.read_writes_junk_apply_eq_canon (ms0_15 t).view _ _).symm.trans
      (View.read_writes_cons_unit_of_mem _ _ inb w L' _ (ix3 (0 : Fin 1) l k) rfl fun a => ?_)
    fin_cases a
    · rfl
    · exact (Nat.zero_add _).symm
    · exact (Nat.zero_add _).symm
  have : z = 0 ∨ z = 1 := by omega
  rcases this with rfl | rfl
  · refine (View.read_writes_junk_apply_eq_canon (ms0_15 t).view _ _).symm.trans ?_
    refine (View.read_writes_cons_unit_of_not_mem _ _ _ _ _ _ rfl 0 (Or.inl Nat.zero_lt_one)).trans ?_
    refine (View.read_writes_junk_apply_eq_canon (ms0_15 t).view _ _).trans ?_
    refine (hit 0 (by decide) _ _ _).trans ?_
    pointwise [k0_pay2, k0_pay1]
    refine congrArg (fun s : EReal => (show EReal from X (ix3 0 l k)) + s) (Finset.sum_congr rfl fun r _ => ?_)
    rw [ph_apply, blk8]; rfl
  · refine (hit 1 (by decide) _ _ _).trans ?_
    pointwise [k0_pay3, k0_pay1]
    refine congrArg (fun s : EReal => (show EReal from X (ix3 1 l k)) + s) (Finset.sum_congr rfl fun r _ => ?_)
    rw [pu_apply, blk8]; rfl

/-- At a chunk's first point the up-projection's weight gradient starts from zero. -/
theorem outs15_A (h : t.val % 8 = 0) (j : Fin 2 × Fin 256 × Fin 1024) :
    (outsAt0 m c t.val t.isLt).2.2.2.1 (ix3 j.1 j.2.1 j.2.2) = (0 : EReal) + termWu m c t j := by
  rw [outsAt0_A m c t h]
  frame_open
  simp (disch := decide) only [↓ View.readCov_skip, ↓ View.readCov_cons_toLoadRect, ↓ View.readCov_fill]
  frame_out
  refine (halves_apply m c t _ _ j).trans ?_
  pointwise [k0_pay5]

/-- At a later point it goes on from what the point before left. -/
theorem outs15_B (h : ¬t.val % 8 = 0) (j : Fin 2 × Fin 256 × Fin 1024) :
    (outsAt0 m c t.val t.isLt).2.2.2.1 (ix3 j.1 j.2.1 j.2.2)
      = (show EReal from (outsAt0 m c (t.val - 1) (prev_lt t)).2.2.2.1 (ix3 j.1 j.2.1 j.2.2)) + termWu m c t j := by
  rw [outsAt0_B m c t h]
  frame_open
  simp (disch := decide) only [↓ View.readCov_fill]
  frame_out
  exact halves_apply m c t _ _ j

/-! ### The convolution's parameter gradients

Each of the four row stores adds to the old row the point's share of that row. -/

/-- What the point adds to row `j.1` of a half's parameter gradients. -/
def termPar (half : Fin 2816 → Fin 5632) (t : Fin cfg0.N) (j : Fin 8 × Fin 256) : EReal :=
  ∑ r : Fin 1024, (args m c).par j.1.val (row t r) (half (col t j.2))

section RowTerms

variable (X : Vec Ideal S8x256 .f32) (l : Fin 256)

/-- The gate half's first row. -/
theorem row0_lo :
    k0_pay23 (View.ld (dgV m c t) (Rect.unit (s := S1040x256) ![2, 0] S1024x256.size inb_S1040x256_S1024x256_2_0))
        (iblk m c 2 t)
        (View.ld X (Rect.unit (s := S8x256) ![0, 0] S1x256.size inb_S8x256_S1x256_0_0)) (ix2 (0 : Fin 1) l)
      = (show EReal from X (ix2 (0 : Fin 8) l)) + termPar m c lo t (0, l) := by
  pointwise [k0_pay23, k0_pay20]
  refine congrArg (fun s : EReal => (show EReal from X (ix2 (0 : Fin 8) l)) + s) (Finset.sum_congr rfl fun r _ => ?_)
  rw [dg_apply, blk2]
  exact congrArg (fun n => (args m c).Dp n (lo (col t l)) * (args m c).H (row t r) (lo (col t l)))
    (by omega : t.val % 8 * 1024 + (2 + r.val) = t.val % 8 * 1024 + r.val + 2)

/-- The gate half's second row. -/
theorem row1_lo :
    k0_pay22 (View.ld (dgV m c t) (Rect.unit (s := S1040x256) ![1, 0] S1024x256.size inb_S1040x256_S1024x256_1_0))
        (iblk m c 2 t)
        (View.ld X (Rect.unit (s := S8x256) ![1, 0] S1x256.size inb_S8x256_S1x256_1_0)) (ix2 (0 : Fin 1) l)
      = (show EReal from X (ix2 (1 : Fin 8) l)) + termPar m c lo t (1, l) := by
  pointwise [k0_pay22, k0_pay20]
  refine congrArg (fun s : EReal => (show EReal from X (ix2 (1 : Fin 8) l)) + s) (Finset.sum_congr rfl fun r _ => ?_)
  rw [dg_apply, blk2]
  exact congrArg (fun n => (args m c).Dp n (lo (col t l)) * (args m c).H (row t r) (lo (col t l)))
    (by omega : t.val % 8 * 1024 + (1 + r.val) = t.val % 8 * 1024 + r.val + 1)

/-- The gate half's third row. -/
theorem row2_lo :
    k0_pay21 (View.ld (dgV m c t) (Rect.unit (s := S1040x256) ![0, 0] S1024x256.size inb_S1040x256_S1024x256_0_0))
        (iblk m c 2 t)
        (View.ld X (Rect.unit (s := S8x256) ![2, 0] S1x256.size inb_S8x256_S1x256_2_0)) (ix2 (0 : Fin 1) l)
      = (show EReal from X (ix2 (2 : Fin 8) l)) + termPar m c lo t (2, l) := by
  pointwise [k0_pay21, k0_pay20]
  refine congrArg (fun s : EReal => (show EReal from X (ix2 (2 : Fin 8) l)) + s) (Finset.sum_congr rfl fun r _ => ?_)
  rw [dg_apply, blk2]
  rfl

/-- The gate half's fourth row. -/
theorem row3_lo :
    k0_pay24 (View.ld (dgV m c t) (Rect.unit (s := S1040x256) ![0, 0] S1024x256.size inb_S1040x256_S1024x256_0_0))
        (View.ld X (Rect.unit (s := S8x256) ![3, 0] S1x256.size inb_S8x256_S1x256_3_0)) (ix2 (0 : Fin 1) l)
      = (show EReal from X (ix2 (3 : Fin 8) l)) + termPar m c lo t (3, l) := by
  pointwise [k0_pay24]
  refine congrArg (fun s : EReal => (show EReal from X (ix2 (3 : Fin 8) l)) + s) (Finset.sum_congr rfl fun r _ => ?_)
  rw [dg_apply]
  rfl

/-- The value half's first row. -/
theorem row0_hi :
    k0_pay31 (View.ld (duV m c t) (Rect.unit (s := S1040x256) ![2, 0] S1024x256.size inb_S1040x256_S1024x256_2_0))
        (k0_pay27 (iblk m c 3 t))
        (View.ld X (Rect.unit (s := S8x256) ![0, 0] S1x256.size inb_S8x256_S1x256_0_0)) (ix2 (0 : Fin 1) l)
      = (show EReal from X (ix2 (0 : Fin 8) l)) + termPar m c hi t (0, l) := by
  pointwise [k0_pay31, k0_pay27]
  refine congrArg (fun s : EReal => (show EReal from X (ix2 (0 : Fin 8) l)) + s) (Finset.sum_congr rfl fun r _ => ?_)
  rw [du_apply, blk3]
  exact congrArg (fun n => (args m c).Dp n (hi (col t l)) * (args m c).H (row t r) (hi (col t l)))
    (by omega : t.val % 8 * 1024 + (2 + r.val) = t.val % 8 * 1024 + r.val + 2)

/-- The value half's second row. -/
theorem row1_hi :
    k0_pay30 (View.ld (duV m c t) (Rect.unit (s := S1040x256) ![1, 0] S1024x256.size inb_S1040x256_S1024x256_1_0))
        (k0_pay27 (iblk m c 3 t))
        (k0_pay29 (View.ld X (Rect.unit (s := S8x256) ![1, 0] S1x256.size inb_S8x256_S1x256_1_0))) (ix2 (0 : Fin 1) l)
      = (show EReal from X (ix2 (1 : Fin 8) l)) + termPar m c hi t (1, l) := by
  pointwise [k0_pay30, k0_pay29, k0_pay27]
  refine congrArg (fun s : EReal => (show EReal from X (ix2 (1 : Fin 8) l)) + s) (Finset.sum_congr rfl fun r _ => ?_)
  rw [du_apply, blk3]
  exact congrArg (fun n => (args m c).Dp n (hi (col t l)) * (args m c).H (row t r) (hi (col t l)))
    (by omega : t.val % 8 * 1024 + (1 + r.val) = t.val % 8 * 1024 + r.val + 1)

/-- The value half's third row. -/
theorem row2_hi :
    k0_pay28 (View.ld (duV m c t) (Rect.unit (s := S1040x256) ![0, 0] S1024x256.size inb_S1040x256_S1024x256_0_0))
        (iblk m c 3 t)
        (View.ld X (Rect.unit (s := S8x256) ![2, 0] S1x256.size inb_S8x256_S1x256_2_0)) (ix2 (0 : Fin 1) l)
      = (show EReal from X (ix2 (2 : Fin 8) l)) + termPar m c hi t (2, l) := by
  pointwise [k0_pay28, k0_pay27]
  refine congrArg (fun s : EReal => (show EReal from X (ix2 (2 : Fin 8) l)) + s) (Finset.sum_congr rfl fun r _ => ?_)
  rw [du_apply, blk3]
  rfl

/-- The value half's fourth row. -/
theorem row3_hi :
    k0_pay32 (View.ld (duV m c t) (Rect.unit (s := S1040x256) ![0, 0] S1024x256.size inb_S1040x256_S1024x256_0_0))
        (View.ld X (Rect.unit (s := S8x256) ![3, 0] S1x256.size inb_S8x256_S1x256_3_0)) (ix2 (0 : Fin 1) l)
      = (show EReal from X (ix2 (3 : Fin 8) l)) + termPar m c hi t (3, l) := by
  pointwise [k0_pay32]
  refine congrArg (fun s : EReal => (show EReal from X (ix2 (3 : Fin 8) l)) + s) (Finset.sum_congr rfl fun r _ => ?_)
  rw [du_apply]
  rfl

end RowTerms

/-- At a chunk's first point the gate half's parameter gradients start from zero. -/
theorem outs16_A (h : t.val % 8 = 0) (j : Fin 8 × Fin 256) :
    (outsAt0 m c t.val t.isLt).2.2.2.2.1 (ix2 j.1 j.2) = (0 : EReal) + termPar m c lo t j := by
  rw [outsAt0_A m c t h]
  frame_open
  simp (disch := decide) only [↓ View.readCov_skip, ↓ View.readCov_cons_toLoadRect, ↓ View.readCov_fill]
  frame_out
  rw [← View.read_writes_junk_apply_eq_canon (ms0_16 t).view]
  refine (rowStores_add _ _ _ _ _ _ _ (fun k => (show EReal from (k0_pay6 (F := Ideal)) (ix2 k j.2)))
    (fun k => ∑ r : Fin 1024, (args m c).par k (row t r) (lo (col t j.2))) j.2
    (row3_lo m c t _ j.2) (row0_lo m c t _ j.2) (row1_lo m c t _ j.2) (row2_lo m c t _ j.2)
    (fun k => ?_) (fun k hk => Finset.sum_eq_zero fun r _ => Args.par_of_le _ hk _ _) j.1).trans ?_
  · rw [View.read_writes_junk_apply_eq_canon, View.canon_cons_unit_lit _ _ _ (by decide)]
  · pointwise [k0_pay6]
    rfl

/-- At a later point they go on from what the point before left. -/
theorem outs16_B (h : ¬t.val % 8 = 0) (j : Fin 8 × Fin 256) :
    (outsAt0 m c t.val t.isLt).2.2.2.2.1 (ix2 j.1 j.2)
      = (show EReal from (outsAt0 m c (t.val - 1) (prev_lt t)).2.2.2.2.1 (ix2 j.1 j.2)) + termPar m c lo t j := by
  rw [outsAt0_B m c t h]
  frame_open
  simp (disch := decide) only [↓ View.readCov_fill]
  frame_out
  exact rowStores_add _ _ _ _ _ _ _
    (fun k => (show EReal from (outsAt0 m c (t.val - 1) (prev_lt t)).2.2.2.2.1 (ix2 k j.2)))
    (fun k => ∑ r : Fin 1024, (args m c).par k (row t r) (lo (col t j.2))) j.2
    (row3_lo m c t _ j.2) (row0_lo m c t _ j.2) (row1_lo m c t _ j.2) (row2_lo m c t _ j.2)
    (fun k => congrFun (Memref.IsWhole.read_unread _ _) _) (fun k hk => Finset.sum_eq_zero fun r _ => Args.par_of_le _ hk _ _) j.1

/-- At a chunk's first point the value half's parameter gradients start from zero. -/
theorem outs17_A (h : t.val % 8 = 0) (j : Fin 8 × Fin 256) :
    (outsAt0 m c t.val t.isLt).2.2.2.2.2 (ix2 j.1 j.2) = (0 : EReal) + termPar m c hi t j := by
  rw [outsAt0_A m c t h]
  frame_open
  simp (disch := decide) only [↓ View.readCov_skip, ↓ View.readCov_cons_toLoadRect, ↓ View.readCov_fill]
  frame_out
  rw [← View.read_writes_junk_apply_eq_canon (ms0_17 t).view]
  refine (rowStores_add _ _ _ _ _ _ _ (fun k => (show EReal from (k0_pay7 (F := Ideal)) (ix2 k j.2)))
    (fun k => ∑ r : Fin 1024, (args m c).par k (row t r) (hi (col t j.2))) j.2
    (row3_hi m c t _ j.2) (row0_hi m c t _ j.2) (row1_hi m c t _ j.2) (row2_hi m c t _ j.2)
    (fun k => ?_) (fun k hk => Finset.sum_eq_zero fun r _ => Args.par_of_le _ hk _ _) j.1).trans ?_
  · rw [View.read_writes_junk_apply_eq_canon, View.canon_cons_unit_lit _ _ _ (by decide)]
  · pointwise [k0_pay7]
    rfl

/-- At a later point they go on from what the point before left. -/
theorem outs17_B (h : ¬t.val % 8 = 0) (j : Fin 8 × Fin 256) :
    (outsAt0 m c t.val t.isLt).2.2.2.2.2 (ix2 j.1 j.2)
      = (show EReal from (outsAt0 m c (t.val - 1) (prev_lt t)).2.2.2.2.2 (ix2 j.1 j.2)) + termPar m c hi t j := by
  rw [outsAt0_B m c t h]
  frame_open
  simp (disch := decide) only [↓ View.readCov_fill]
  frame_out
  exact rowStores_add _ _ _ _ _ _ _
    (fun k => (show EReal from (outsAt0 m c (t.val - 1) (prev_lt t)).2.2.2.2.2 (ix2 k j.2)))
    (fun k => ∑ r : Fin 1024, (args m c).par k (row t r) (hi (col t j.2))) j.2
    (row3_hi m c t _ j.2) (row0_hi m c t _ j.2) (row1_hi m c t _ j.2) (row2_hi m c t _ j.2)
    (fun k => congrFun (Memref.IsWhole.read_unread _ _) _) (fun k hk => Finset.sum_eq_zero fun r _ => Args.par_of_le _ hk _ _) j.1

end Cert.KernelIdeal.Body

end
-- ==== Proof.Final.lean ====
/- The kernel's six output arrays after the run: each accumulator is the sum over all rows, and each array is the
   corresponding array of Spec.lean. -/
module

public import proofs.«01_k».proof.Proof.Outs
public import proofs.«01_k».proof.Proof.Gen.KernelIdeal.Value

@[expose] public section

set_option maxRecDepth 16384

noncomputable section

namespace Cert.KernelIdeal.Body

open Idealize.ShloMosaic Idealize.ShloMosaic.TcCoe Cert.KernelIdeal Cert.KernelIdeal.Gen Cert.Spec

variable (m : (ℓ : Loc nD τ sig) → Buf (Elt Ideal) ℓ) (c : Dev nD)

/-! ## Sums over the row blocks -/

/-- A value that starts over at each column chunk and adds, row block by row block, the sum of `G` over the block's rows
is, at the chunk's last point, the sum over all rows. -/
theorem run_sum {ι : Type} (f : (n : ℕ) → n < cfg0.N → ι → EReal) (G : Fin 8192 → Fin 2816 → ι → EReal) (q : ι → Fin 256)
    (hA : ∀ t : Fin cfg0.N, t.val % 8 = 0 → ∀ j, f t.val t.isLt j = 0 + ∑ r, G (row t r) (col t (q j)) j)
    (hB : ∀ t : Fin cfg0.N, ¬t.val % 8 = 0 → ∀ j,
      f t.val t.isLt j = f (t.val - 1) (prev_lt t) j + ∑ r, G (row t r) (col t (q j)) j)
    (t : Fin cfg0.N) (ht : t.val % 8 = 7) (j : ι) :
    f t.val t.isLt j = ∑ n, G n (col t (q j)) j := by
  rw [Pipeline.eq_sum_fin_of_reset_step_apply_of_flush f 8 (fun _ => 0)
    (fun t j => ∑ r, G (row t r) (col t (q j)) j) hA hB t ht j, zero_add]
  refine Fin.sum_mul_add_congr fun s k hl => ?_
  refine congrArg₂ (fun n p => G n p j) (Fin.ext ?_) (Fin.ext ?_)
  · show (8 * (t.val / 8) + s.val) % 8 * 1024 + k.val = s.val * 1024 + k.val
    omega
  · show (8 * (t.val / 8) + s.val) / 8 * 256 + (q j).val = t.val / 8 * 256 + (q j).val
    omega

/-- The down-projection's weight gradient at a chunk's last point. -/
theorem last14 (t : Fin cfg0.N) (ht : t.val % 8 = 7) (j : Fin 256 × Fin 1024) :
    (outsAt0 m c t.val t.isLt).2.2.1 (ix2 j.1 j.2) = (args m c).dWd (col t j.1) j.2 :=
  run_sum (fun n h j => (outsAt0 m c n h).2.2.1 (ix2 j.1 j.2))
    (fun n p j => (args m c).C n (lo p) * logis ((args m c).C n (lo p)) * (args m c).C n (hi p) * (args m c).ct n j.2)
    Prod.fst (outs14_A m c) (outs14_B m c) t ht j

/-- The up-projection's weight gradient at a chunk's last point. -/
theorem last15 (t : Fin cfg0.N) (ht : t.val % 8 = 7) (j : Fin 2 × Fin 256 × Fin 1024) :
    (outsAt0 m c t.val t.isLt).2.2.2.1 (ix3 j.1 j.2.1 j.2.2)
      = (args m c).dWu (if j.1.val = 0 then lo (col t j.2.1) else hi (col t j.2.1)) j.2.2 :=
  run_sum (fun n h j => (outsAt0 m c n h).2.2.2.1 (ix3 j.1 j.2.1 j.2.2))
    (fun n p j => (args m c).dH n (if j.1.val = 0 then lo p else hi p) * (args m c).x n j.2.2)
    (fun j => j.2.1) (outs15_A m c) (outs15_B m c) t ht j

/-- The gate half's parameter gradients at a chunk's last point. -/
theorem last16 (t : Fin cfg0.N) (ht : t.val % 8 = 7) (j : Fin 8 × Fin 256) :
    (outsAt0 m c t.val t.isLt).2.2.2.2.1 (ix2 j.1 j.2) = (args m c).dPar j.1.val (lo (col t j.2)) :=
  run_sum (fun n h j => (outsAt0 m c n h).2.2.2.2.1 (ix2 j.1 j.2))
    (fun n p j => (args m c).par j.1.val n (lo p))
    Prod.snd (outs16_A m c) (outs16_B m c) t ht j

/-- The value half's parameter gradients at a chunk's last point. -/
theorem last17 (t : Fin cfg0.N) (ht : t.val % 8 = 7) (j : Fin 8 × Fin 256) :
    (outsAt0 m c t.val t.isLt).2.2.2.2.2 (ix2 j.1 j.2) = (args m c).dPar j.1.val (hi (col t j.2)) :=
  run_sum (fun n h j => (outsAt0 m c n h).2.2.2.2.2 (ix2 j.1 j.2))
    (fun n p j => (args m c).par j.1.val n (hi p))
    Prod.snd (outs17_A m c) (outs17_B m c) t ht j

/-! ## The arrays -/

/-- The gate half of the up-projection's gradient. -/
theorem arr12 : (dats m 0 c).arrAt 12 cfg0.N = fun i : S8192x2816.Idx => (args m c).dH (i 0) (lo (i 1)) :=
  (dats m 0 c).arrAt_eq_of_covers 12 _ (by decide +kernel) fun t hf y => by
    blk_simp
    rw [after0_12, outs12]
    refine (congrArg _ (by funext a; fin_cases a <;> rfl : y = ix2 (y 0) (y 1))).trans ((ph_apply m c t (y 0) (y 1)).trans ?_)
    refine congrArg₂ (fun n q => (args m c).dH n (lo q)) (Fin.ext ?_) (Fin.ext ?_) <;> blk_simp [idx t, row, col]

/-- The value half of the up-projection's gradient. -/
theorem arr13 : (dats m 0 c).arrAt 13 cfg0.N = fun i : S8192x2816.Idx => (args m c).dH (i 0) (hi (i 1)) :=
  (dats m 0 c).arrAt_eq_of_covers 13 _ (by decide +kernel) fun t hf y => by
    blk_simp
    rw [after0_13, outs13]
    refine (congrArg _ (by funext a; fin_cases a <;> rfl : y = ix2 (y 0) (y 1))).trans ((pu_apply m c t (y 0) (y 1)).trans ?_)
    refine congrArg₂ (fun n q => (args m c).dH n (hi q)) (Fin.ext ?_) (Fin.ext ?_) <;> blk_simp [idx t, row, col]

/-- The down-projection's weight gradient. -/
theorem arr14 : (dats m 0 c).arrAt 14 cfg0.N = fun i : S2816x1024.Idx => (args m c).dWd (i 0) (i 1) :=
  (dats m 0 c).arrAt_eq_of_covers 14 _ (by decide +kernel) fun t hf y => by
    have ht := (flush0_14 t).mp hf
    blk_simp
    rw [after0_14]
    refine (congrArg _ (by funext a; fin_cases a <;> rfl : y = ix2 (y 0) (y 1))).trans ((last14 m c t ht (y 0, y 1)).trans ?_)
    refine congrArg₂ (args m c).dWd (Fin.ext ?_) (Fin.ext ?_) <;> blk_simp [idx t, col]

/-- The gradient's value at the index `e` of the array from its value at the index `j` of the block, when each coordinate of
`e` is the block's. -/
theorem last15_at (t : Fin cfg0.N) (ht : t.val % 8 = 7) (z : Fin 2) (l : Fin 256) (k : Fin 1024) (e : S2x2816x1024.Idx)
    (h0 : (e 0).val = z.val) (h1 : (e 1).val = (col t l).val) (h2 : (e 2).val = k.val) :
    (outsAt0 m c t.val t.isLt).2.2.2.1 (ix3 z l k)
      = (args m c).dWu (if (e 0).val = 0 then lo (e 1) else hi (e 1)) (e 2) := by
  obtain rfl : e = ix3 z (col t l) k := by
    funext a
    fin_cases a
    · exact Fin.ext h0
    · exact Fin.ext h1
    · exact Fin.ext h2
  exact last15 m c t ht (z, l, k)

/-- The up-projection's weight gradient, transposed, its two halves side by side. -/
theorem arr15 : (dats m 0 c).arrAt 15 cfg0.N
    = fun i : S2x2816x1024.Idx => (args m c).dWu (if (i 0).val = 0 then lo (i 1) else hi (i 1)) (i 2) :=
  (dats m 0 c).arrAt_eq_of_covers 15 _ (by decide +kernel) fun t hf y => by
    have ht := (flush0_15 t).mp hf
    refine Eq.trans ?_ (last15_at m c t ht (y 0) (y 1) (y 2) ((win0_15.blk t).view.emb y) ?_ ?_ ?_)
    · blk_simp
      rw [after0_15]
      exact congrArg _ (by funext a; fin_cases a <;> rfl : y = ix3 (y 0) (y 1) (y 2))
    · blk_simp [idx t]
    · blk_simp [idx t, col]
    · blk_simp [idx t]

/-- The convolution's parameter gradients, the gate half. -/
theorem arr16 : (dats m 0 c).arrAt 16 cfg0.N = fun i : S8x2816.Idx => (args m c).dPar (i 0).val (lo (i 1)) :=
  (dats m 0 c).arrAt_eq_of_covers 16 _ (by decide +kernel) fun t hf y => by
    have ht := (flush0_16 t).mp hf
    blk_simp
    rw [after0_16]
    refine (congrArg _ (by funext a; fin_cases a <;> rfl : y = ix2 (y 0) (y 1))).trans ((last16 m c t ht (y 0, y 1)).trans ?_)
    refine congrArg₂ (fun k q => (args m c).dPar k (lo q)) ?_ (Fin.ext ?_) <;> blk_simp [idx t, col]

/-- The convolution's parameter gradients, the value half. -/
theorem arr17 : (dats m 0 c).arrAt 17 cfg0.N = fun i : S8x2816.Idx => (args m c).dPar (i 0).val (hi (i 1)) :=
  (dats m 0 c).arrAt_eq_of_covers 17 _ (by decide +kernel) fun t hf y => by
    have ht := (flush0_17 t).mp hf
    blk_simp
    rw [after0_17]
    refine (congrArg _ (by funext a; fin_cases a <;> rfl : y = ix2 (y 0) (y 1))).trans ((last17 m c t ht (y 0, y 1)).trans ?_)
    refine congrArg₂ (fun k q => (args m c).dPar k (hi q)) ?_ (Fin.ext ?_) <;> blk_simp [idx t, col]

end Cert.KernelIdeal.Body

end
-- ==== Proof.Real.lean ====
/- Facts about the arrays of Spec.lean that hold when every argument is a real number, and the change of variable in a
   sum over shifted rows. -/
module

public import proofs.«01_k».proof.Proof.Spec

@[expose] public section

set_option maxRecDepth 16384

noncomputable section

namespace Cert.Spec

open Idealize.ShloMosaic

/-- The logistic function with the negation written as one. -/
theorem logis_neg (a : EReal) : logis a = Ideal.div 1 (1 + Ideal.exp (-a)) := by
  rw [logis, sub_eq_add_neg, zero_add]

/-- An extended real that is a real number. -/
def IsReal (a : EReal) : Prop := ∃ r : ℝ, a = (r : EReal)

namespace IsReal

/-- Zero is real. -/
theorem zero : IsReal 0 := ⟨0, rfl⟩

/-- A sum of two reals is real. -/
theorem add {a b : EReal} (ha : IsReal a) (hb : IsReal b) : IsReal (a + b) := by
  obtain ⟨r, rfl⟩ := ha
  obtain ⟨s, rfl⟩ := hb
  exact ⟨r + s, (EReal.coe_add r s).symm⟩

/-- A product of two reals is real. -/
theorem mul {a b : EReal} (ha : IsReal a) (hb : IsReal b) : IsReal (a * b) := by
  obtain ⟨r, rfl⟩ := ha
  obtain ⟨s, rfl⟩ := hb
  exact ⟨r * s, (EReal.coe_mul r s).symm⟩

/-- A finite sum of reals is real. -/
theorem sum {n : ℕ} {f : Fin n → EReal} (h : ∀ i, IsReal (f i)) : IsReal (∑ i, f i) :=
  Finset.sum_induction f IsReal (fun _ _ => add) zero fun i _ => h i

/-- A number whose absolute value is below infinity is real. -/
theorem of_abs_lt {a : EReal} (h : max a (-a) < ⊤) : IsReal a := by
  induction a with
  | bot => simp at h
  | top => simp at h
  | coe r => exact ⟨r, rfl⟩

/-- The logistic function of a real is real. -/
theorem logis {a : EReal} (ha : IsReal a) : IsReal (Spec.logis a) := by
  obtain ⟨r, rfl⟩ := ha
  have e : (1 : EReal) + Ideal.exp (0 - (r : EReal)) = ((1 + Real.exp (0 - r) : ℝ) : EReal) := by
    rw [← EReal.coe_zero, ← EReal.coe_sub, Ideal.exp_coe, ← EReal.coe_one, ← EReal.coe_add]
  unfold Spec.logis
  rw [e, Ideal.div_coe (by positivity), ← EReal.coe_one, ← EReal.coe_mul]
  exact ⟨_, rfl⟩

end IsReal

/-- Every argument is a real number. -/
structure Args.Real (A : Args) : Prop where
  x : ∀ n k, IsReal (A.x n k)
  wu : ∀ k q, IsReal (A.wu k q)
  cw : ∀ k q, IsReal (A.cw k q)
  cb : ∀ q, IsReal (A.cb q)
  wd : ∀ q k, IsReal (A.wd q k)
  ct : ∀ n k, IsReal (A.ct n k)

namespace Args

variable {A : Args}

/-- The up-projection is real. -/
theorem Real.H (h : A.Real) (n : Fin 8192) (q : Fin 5632) : IsReal (A.H n q) :=
  IsReal.sum fun k => (h.x n k).mul (h.wu k q)

/-- So is the up-projection with its two rows of zeros. -/
theorem Real.Hs (h : A.Real) (n : ℕ) (q : Fin 5632) : IsReal (A.Hs n q) := by
  unfold Args.Hs
  split
  · exact h.H _ _
  · exact IsReal.zero

/-- The convolution is real. -/
theorem Real.C (h : A.Real) (n : Fin 8192) (q : Fin 5632) : IsReal (A.C n q) :=
  ((((h.Hs _ _).mul (h.cw _ _)).add ((h.Hs _ _).mul (h.cw _ _))).add ((h.Hs _ _).mul (h.cw _ _))).add (h.cb _)

/-- The gradient at the activation is real. -/
theorem Real.dact (h : A.Real) (n : Fin 8192) (q : Fin 2816) : IsReal (A.dact n q) :=
  IsReal.sum fun k => (h.ct n k).mul (h.wd q k)

/-- The gradient at the gate, with the product rule left as a sum: on real arguments the two forms agree. -/
theorem Real.dG_sum (h : A.Real) (n : Fin 8192) (q : Fin 2816) :
    A.dact n q * A.C n (hi q) * logis (A.C n (lo q))
        + A.C n (lo q) * (A.dact n q * A.C n (hi q)) * (logis (A.C n (lo q)) * (1 - logis (A.C n (lo q))))
      = A.dG n q := by
  unfold Args.dG
  obtain ⟨s, hs⟩ := (h.C n (lo q)).logis
  obtain ⟨g, hg⟩ := h.C n (lo q)
  obtain ⟨u, hu⟩ := h.C n (hi q)
  obtain ⟨d, hd⟩ := h.dact n q
  rw [hs, hg, hu, hd, ← EReal.coe_one]
  norm_cast
  ring

end Args

/-! ## Sums over shifted rows -/

/-- A sum over `n` rows of `f (r - k) * g r`, where `f` is zero above its first row, is the sum of `f r * g (r + k)`,
where `g` is zero below its last row. -/
theorem sum_shift (n k : ℕ) (hk : k ≤ n) (f g : ℕ → EReal) :
    ∑ r : Fin n, (if k ≤ r.val then f (r.val - k) else 0) * g r.val
      = ∑ r : Fin n, (if r.val + k < n then g (r.val + k) else 0) * f r.val := by
  obtain ⟨m, rfl⟩ := Nat.exists_eq_add_of_le hk
  rw [Fin.sum_univ_eq_sum_range (fun r => (if k ≤ r then f (r - k) else 0) * g r) (k + m),
    Fin.sum_univ_eq_sum_range (fun r => (if r + k < k + m then g (r + k) else 0) * f r) (k + m),
    Finset.sum_range_add, Nat.add_comm k m, Finset.sum_range_add]
  rw [Finset.sum_eq_zero fun r hr => by rw [if_neg (by simpa using hr), zero_mul],
    Finset.sum_eq_zero (s := Finset.range k) fun r _ => by rw [if_neg (by omega), zero_mul], zero_add, add_zero]
  refine Finset.sum_congr rfl fun r hr => ?_
  have hr := Finset.mem_range.mp hr
  rw [if_pos (by omega), if_pos (by omega), Nat.add_sub_cancel_left, mul_comm, Nat.add_comm k r]

namespace Args

variable (A : Args)

/-- The gradient of row `2 - k` of the convolution's weight: the sum over the padded rows above is the sum over the padded
rows below. -/
theorem sum_Hs (k j : ℕ) (hk : k + j = 2) (q : Fin 5632) :
    ∑ n : Fin 8192, A.Hs (n.val + j) q * A.D n q = ∑ n : Fin 8192, A.Dp (n.val + k) q * A.H n q := by
  have e := sum_shift 8192 k (by omega) (fun r => A.Hs (r + 2) q) fun r => A.Dp r q
  refine Eq.trans (Finset.sum_congr rfl fun n _ => ?_) (e.trans (Finset.sum_congr rfl fun n _ => ?_))
  · rw [A.Dp_of_lt n.isLt]
    congr 1
    split
    · exact congrArg (fun i => A.Hs i q) (by omega)
    · exact dif_neg (by omega)
  · congr 1
    · split
      · rfl
      · exact (A.Dp_of_le (by omega) q).symm
    · exact dif_pos ⟨Nat.le_add_left 2 n.val, by omega⟩

/-- The bias's gradient. -/
theorem sum_D (q : Fin 5632) : ∑ n : Fin 8192, A.D n q = ∑ n : Fin 8192, A.Dp n.val q :=
  Finset.sum_congr rfl fun n _ => (A.Dp_of_lt n.isLt q).symm

end Args

end Cert.Spec

end
-- ==== Proof.Ref.lean ====
/- The reference, read at an index: each of its arrays is the corresponding array of Spec.lean. -/
module

public import proofs.«01_k».proof.Proof.Gen.ReferenceIdeal.Read
public import proofs.«01_k».proof.Proof.Real
public import Idealize.ShloMosaic.Lib.Pointwise
public import Idealize.ShloMosaic.Lib.Pipeline.ValueKit

@[expose] public section

set_option maxRecDepth 16384

noncomputable section

namespace Cert.ReferenceIdeal.Body

open Idealize.ShloMosaic Idealize.ShloMosaic.TcCoe Cert.ReferenceIdeal Cert.ReferenceIdeal.Read Cert.Spec

variable (x0 : (⟨S8192x1024, .f32⟩ : BufTy).Contents (Elt Ideal)) (x1 : (⟨S1024x5632, .f32⟩ : BufTy).Contents (Elt Ideal))
  (x2 : (⟨S3x5632, .f32⟩ : BufTy).Contents (Elt Ideal)) (x3 : (⟨S5632, .f32⟩ : BufTy).Contents (Elt Ideal))
  (x4 : (⟨S2816x1024, .f32⟩ : BufTy).Contents (Elt Ideal)) (x5 : (⟨S8192x1024, .f32⟩ : BufTy).Contents (Elt Ideal))

/-- The arguments' entries. -/
def args : Args where
  x n k := x0 (ix2 n k)
  wu k q := x1 (ix2 k q)
  cw k q := x2 (ix2 k q)
  cb q := x3 (ix1 q)
  wd q k := x4 (ix2 q k)
  ct n k := x5 (ix2 n k)

/-- The up-projection. -/
theorem H_eq (n : Fin 8192) (q : Fin 5632) :
    val_main_v0 (F := Ideal) x0 x1 (ix2 n q) = (args x0 x1 x2 x3 x4 x5).H n q := by
  pointwise [val_main_v0]
  rfl

/-- The up-projection with the convolution's two rows of zeros. -/
theorem Hs_eq (n : Fin 8194) (q : Fin 5632) :
    val_main_v2 (F := Ideal) x0 x1 (ix2 n q) = (args x0 x1 x2 x3 x4 x5).Hs n.val q := by
  pointwise [val_main_v2, val_main_v1, val_main_cst]
  unfold Args.Hs
  split
  · rw [dif_neg (by omega)]
  · rw [dif_pos (by omega)]
    exact H_eq x0 x1 x2 x3 x4 x5 _ q

/-- The convolution. -/
theorem C_eq (n : Fin 8192) (q : Fin 5632) :
    val_main_v26 (F := Ideal) x0 x1 x2 x3 (ix2 n q) = (args x0 x1 x2 x3 x4 x5).C n q := by
  pointwise [val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4]
  simp only [Hs_eq x0 x1 x2 x3 x4 x5, Nat.add_comm 1 n.val, Nat.add_comm 2 n.val]
  rfl

/-- The logistic function of the gate. -/
theorem sg_eq (n : Fin 8192) (q : Fin 2816) :
    val_main_v29_2 (F := Ideal) x0 x1 x2 x3 (ix2 n q) = logis ((args x0 x1 x2 x3 x4 x5).C n (lo q)) := by
  pointwise [val_main_v29_2, val_main_call0_v4, val_main_call0_v3, val_main_v27, val_main_call0_cst_0,
    val_main_call0_v2, val_main_call0_cst, val_main_call0_v1, val_main_call0_v0]
  rw [← C_eq]
  exact (logis_neg _).symm

/-- The gradient at the activation. -/
theorem dact_eq (n : Fin 8192) (q : Fin 2816) :
    val_main_v34 (F := Ideal) x4 x5 (ix2 n q) = (args x0 x1 x2 x3 x4 x5).dact n q := by
  pointwise [val_main_v34]
  rfl

/-- The gate. -/
theorem g_eq (n : Fin 8192) (q : Fin 2816) :
    val_main_v27 (F := Ideal) x0 x1 x2 x3 (ix2 n q) = (args x0 x1 x2 x3 x4 x5).C n (lo q) := by
  rw [← C_eq]
  pointwise [val_main_v27]
  rfl

/-- The value. -/
theorem u_eq (n : Fin 8192) (q : Fin 2816) :
    val_main_v28 (F := Ideal) x0 x1 x2 x3 (ix2 n q) = (args x0 x1 x2 x3 x4 x5).C n (hi q) := by
  rw [← C_eq]
  pointwise [val_main_v28]
  rfl

/-- The gradient at the convolution's result. -/
theorem D_eq (h : (args x0 x1 x2 x3 x4 x5).Real) (n : Fin 8192) (q : Fin 5632) :
    val_main_v38 (F := Ideal) x0 x1 x2 x3 x4 x5 (ix2 n q) = (args x0 x1 x2 x3 x4 x5).D n q := by
  pointwise [val_main_v38, val_main_v37, val_main_v35, val_main_v36, val_main_v29_0, val_main_v29_1,
    val_main_call1_v0, val_main_call1_v1, val_main_call1_v2, val_main_call0_v7, val_main_call0_v6, val_main_call0_cst_1]
  simp only [sg_eq x0 x1 x2 x3 x4 x5, dact_eq x0 x1 x2 x3 x4 x5, g_eq x0 x1 x2 x3 x4 x5, u_eq x0 x1 x2 x3 x4 x5]
  unfold Args.D
  split
  · exact h.dG_sum n _
  · exact mul_comm _ _

/-- The gradient at the up-projection: the three shifted products, added over the padded rows. -/
theorem dh_eq (h : (args x0 x1 x2 x3 x4 x5).Real) (n : Fin 8192) (q : Fin 5632) :
    val_main_v74 (F := Ideal) x0 x1 x2 x3 x4 x5 (ix2 n q) = (args x0 x1 x2 x3 x4 x5).dH n q := by
  pointwise [val_main_v74, val_main_v72, val_main_v71, val_main_v61, val_main_v60, val_main_v50, val_main_v46,
    val_main_v45, val_main_v55, val_main_v54, val_main_v66, val_main_v65, val_main_v20, val_main_v19, val_main_v18,
    val_main_v13, val_main_v12, val_main_v11, val_main_v7, val_main_v6, val_main_v5, val_main_cst_10, val_main_cst_14]
  simp only [D_eq x0 x1 x2 x3 x4 x5 h]
  have e1 : 2 + n.val - 1 = n.val + 1 := by omega
  have e2 : 2 + n.val = n.val + 2 := by omega
  refine congrArg₂ (· + ·) (congrArg₂ (· + ·) ?_ ?_) ?_
  · rw [Args.Dp_of_lt _ n.isLt]
    exact mul_comm _ _
  · simp only [e1]
    split
    · rename_i hn
      rw [Args.Dp_of_lt _ hn.2]
      exact mul_comm _ _
    · rw [Args.Dp_of_le _ (by omega), mul_zero]
  · simp only [e2]
    split
    · rename_i hn
      rw [Args.Dp_of_lt _ hn]
      exact mul_comm _ _
    · rw [Args.Dp_of_le _ (by omega), mul_zero]

/-- The first row's gradient, by the reference's two sums. -/
theorem sum0_eq (h : (args x0 x1 x2 x3 x4 x5).Real) (q : Fin 5632) :
    val_main_v67 (F := Ideal) x0 x1 x2 x3 x4 x5 (ix1 q) = (args x0 x1 x2 x3 x4 x5).dPar 0 q := by
  pointwise [val_main_v67, val_main_v64, val_main_v63, val_main_v62, val_main_v4, val_main_cst_11, val_main_cst_12]
  simp only [Finset.univ_unique, Finset.sum_singleton, Hs_eq x0 x1 x2 x3 x4 x5, D_eq x0 x1 x2 x3 x4 x5 h]
  exact Args.sum_Hs _ 2 0 rfl q

/-- The second row's gradient. -/
theorem sum1_eq (h : (args x0 x1 x2 x3 x4 x5).Real) (q : Fin 5632) :
    val_main_v56 (F := Ideal) x0 x1 x2 x3 x4 x5 (ix1 q) = (args x0 x1 x2 x3 x4 x5).dPar 1 q := by
  pointwise [val_main_v56, val_main_v53, val_main_v52, val_main_v51, val_main_v10, val_main_cst_7, val_main_cst_8]
  simp only [Finset.univ_unique, Finset.sum_singleton, Hs_eq x0 x1 x2 x3 x4 x5, D_eq x0 x1 x2 x3 x4 x5 h]
  simp only [Nat.add_comm 1]
  exact Args.sum_Hs _ 1 1 rfl q

/-- The third row's gradient. -/
theorem sum2_eq (h : (args x0 x1 x2 x3 x4 x5).Real) (q : Fin 5632) :
    val_main_v47 (F := Ideal) x0 x1 x2 x3 x4 x5 (ix1 q) = (args x0 x1 x2 x3 x4 x5).dPar 2 q := by
  pointwise [val_main_v47, val_main_v44, val_main_v43, val_main_v42, val_main_v17, val_main_cst_3, val_main_cst_4]
  simp only [Finset.univ_unique, Finset.sum_singleton, Hs_eq x0 x1 x2 x3 x4 x5, D_eq x0 x1 x2 x3 x4 x5 h]
  simp only [Nat.add_comm 2]
  exact Args.sum_Hs _ 0 2 rfl q

/-- The bias's gradient. -/
theorem sum3_eq (h : (args x0 x1 x2 x3 x4 x5).Real) (q : Fin 5632) :
    val_main_v41 (F := Ideal) x0 x1 x2 x3 x4 x5 (ix1 q) = (args x0 x1 x2 x3 x4 x5).dPar 3 q := by
  pointwise [val_main_v41, val_main_v40, val_main_v39, val_main_cst_1, val_main_cst_2]
  simp only [Finset.univ_unique, Finset.sum_singleton, D_eq x0 x1 x2 x3 x4 x5 h]
  exact Args.sum_D _ q

/-- The convolution's parameter gradients in one array of eight rows. -/
theorem par_eq (h : (args x0 x1 x2 x3 x4 x5).Real) (n : Fin 8) (q : Fin 5632) :
    val_main_v79 (F := Ideal) x0 x1 x2 x3 x4 x5 (ix2 n q) = (args x0 x1 x2 x3 x4 x5).dPar n.val q := by
  pointwise [val_main_v79, val_main_v77, val_main_v78, val_main_v70, val_main_v69, val_main_v59, val_main_v58,
    val_main_v49, val_main_v48, val_main_v57, val_main_v68, val_main_cst_5, val_main_cst_9, val_main_cst_13, val_main_cst_15]
  simp only [sum0_eq x0 x1 x2 x3 x4 x5 h, sum1_eq x0 x1 x2 x3 x4 x5 h, sum2_eq x0 x1 x2 x3 x4 x5 h,
    sum3_eq x0 x1 x2 x3 x4 x5 h]
  have zero : ∀ k, 4 ≤ k → (args x0 x1 x2 x3 x4 x5).dPar k q = 0 := fun k hk =>
    Finset.sum_eq_zero fun r _ => Args.par_of_le _ hk r q
  by_cases h0 : n.val = 0
  · simp [h0]
  by_cases h1 : n.val = 1
  · simp [h1]
  by_cases h2 : n.val = 2
  · simp [h2]
  by_cases h3 : n.val = 3
  · simp [h3]
  rw [dif_neg (by omega), dif_neg (by omega), zero _ (by omega)]

/-! ## The six results -/

/-- The gate half of the up-projection's gradient. -/
theorem r81 (h : (args x0 x1 x2 x3 x4 x5).Real) (n : Fin 8192) (q : Fin 2816) :
    val_main_v81 (F := Ideal) x0 x1 x2 x3 x4 x5 (ix2 n q) = (args x0 x1 x2 x3 x4 x5).dH n (lo q) := by
  rw [← dh_eq x0 x1 x2 x3 x4 x5 h]
  pointwise [val_main_v81, val_main_v80]
  rfl

/-- The value half of the up-projection's gradient. -/
theorem r83 (h : (args x0 x1 x2 x3 x4 x5).Real) (n : Fin 8192) (q : Fin 2816) :
    val_main_v83 (F := Ideal) x0 x1 x2 x3 x4 x5 (ix2 n q) = (args x0 x1 x2 x3 x4 x5).dH n (hi q) := by
  rw [← dh_eq x0 x1 x2 x3 x4 x5 h]
  pointwise [val_main_v83, val_main_v82]
  rfl

/-- The down-projection's weight gradient. -/
theorem r33 (q : Fin 2816) (k : Fin 1024) :
    val_main_v33 (F := Ideal) x0 x1 x2 x3 x5 (ix2 q k) = (args x0 x1 x2 x3 x4 x5).dWd q k := by
  pointwise [val_main_v33, val_main_v32, val_main_v30, val_main_v29_0]
  simp only [sg_eq x0 x1 x2 x3 x4 x5, g_eq x0 x1 x2 x3 x4 x5, u_eq x0 x1 x2 x3 x4 x5]
  exact Finset.sum_congr rfl fun n _ => mul_comm _ _

/-- The up-projection's weight gradient, transposed and cut into its halves. -/
theorem r85 (h : (args x0 x1 x2 x3 x4 x5).Real) (z : Fin 2) (q : Fin 2816) (k : Fin 1024) :
    val_main_v85 (F := Ideal) x0 x1 x2 x3 x4 x5 (ix3 z q k)
      = (args x0 x1 x2 x3 x4 x5).dWu (if z.val = 0 then lo q else hi q) k := by
  pointwise [val_main_v85, val_main_v84, val_main_v76, val_main_v75]
  simp only [dh_eq x0 x1 x2 x3 x4 x5 h]
  have : z = 0 ∨ z = 1 := by omega
  rcases this with rfl | rfl
  · refine congrArg (fun p => (args x0 x1 x2 x3 x4 x5).dWu p k) (Fin.ext ?_)
    show 0 * 2816 + q.val = q.val
    omega
  · refine congrArg (fun p => (args x0 x1 x2 x3 x4 x5).dWu p k) (Fin.ext ?_)
    show 1 * 2816 + q.val = 2816 + q.val
    omega

/-- The convolution's parameter gradients, the gate half. -/
theorem r86 (h : (args x0 x1 x2 x3 x4 x5).Real) (n : Fin 8) (q : Fin 2816) :
    val_main_v86 (F := Ideal) x0 x1 x2 x3 x4 x5 (ix2 n q) = (args x0 x1 x2 x3 x4 x5).dPar n.val (lo q) := by
  rw [← par_eq x0 x1 x2 x3 x4 x5 h]
  pointwise [val_main_v86]
  rfl

/-- The convolution's parameter gradients, the value half. -/
theorem r87 (h : (args x0 x1 x2 x3 x4 x5).Real) (n : Fin 8) (q : Fin 2816) :
    val_main_v87 (F := Ideal) x0 x1 x2 x3 x4 x5 (ix2 n q) = (args x0 x1 x2 x3 x4 x5).dPar n.val (hi q) := by
  rw [← par_eq x0 x1 x2 x3 x4 x5 h]
  pointwise [val_main_v87]
  rfl

end Cert.ReferenceIdeal.Body

end
-- ==== Proof.Finite.lean ====
/- The claim's precondition: every entry of the arguments is below infinity in absolute value, so every entry is real. -/
module

public import proofs.«01_k».proof.Defs
public import proofs.«01_k».proof.Proof.Blocks
public import proofs.«01_k».proof.Proof.Real
public import proofs.«01_k».proof.Proof.Gen.Pre_finite

@[expose] public section

noncomputable section

namespace Cert.KernelIdeal.Body

open Idealize.ShloMosaic Idealize.ShloMosaic.TcCoe Cert.KernelIdeal Cert.Spec

/-- Where the comparison with infinity holds, the entry is real. -/
theorem real_of_lt {s : Shape} {d : Fin 0 → Fin s.rank} (h : Cert.Pre_finite.S_.BroadcastsInDim s d) (a : FVec Ideal s .f32)
    (e : cmpf .olt (Host.absf a) (broadcastInDim s d h (constant (F := Ideal) Cert.Pre_finite.S_ .f32 0x7F800000#32)) = fun _ => 1#1)
    (i : s.Idx) : IsReal (a i) := by
  have e := congrFun e i
  pointwise at e
  have lt : FloatOps.absf (F := Ideal) (φ := .f32) (a i) < Ideal.ofBits .f32 0x7F800000#32 := by
    by_contra hn
    rw [decide_eq_false hn] at e
    exact absurd e (by decide)
  have top : Ideal.ofBits .f32 0x7F800000#32 = ⊤ := by rw [Ideal.ofBits]; unfold Ideal.ieee; simp
  rw [top] at lt
  exact IsReal.of_abs_lt lt

/-- Under the precondition every argument is real. -/
theorem args_real (m : (ℓ : Loc nD τ sig) → Buf (Elt Ideal) ℓ) (c : Dev nD)
    (h : Pre_KernelIdeal_finite (hPre_finite := Cert.Pre_finite.Gen.facts) m) : (args m c).Real := by
  obtain ⟨h0, h1, h2, h3, h4, h5⟩ := h c
  exact ⟨fun n k => real_of_lt _ _ h0 (ix2 n k), fun n k => real_of_lt _ _ h1 (ix2 n k), fun n k => real_of_lt _ _ h2 (ix2 n k),
    fun n => real_of_lt _ _ h3 (ix1 n), fun n k => real_of_lt _ _ h4 (ix2 n k), fun n k => real_of_lt _ _ h5 (ix2 n k)⟩

end Cert.KernelIdeal.Body

end
-- ==== Proof.In.Run.lean ====
/- One grid point of the gradient of the mixer's input projection, at any float values: the body runs, and what each output's
   buffer ends with is the list of its stores. -/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Claim

@[expose] public section

set_option maxRecDepth 16384

noncomputable section

namespace Cert.Kernel2Ideal.Body

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's condition: the point is the first. -/
abbrev cond (i : grid0.Coords) : Prop :=
  (Scalar.cmpi .ne (Scalar.extui (Scalar.cmpi .eq (BitVec.ofNat 32 (i 0).val) 0#32)) 0#32) = 1#1

/-- The condition, by the point's number. -/
theorem cond_iff (t : Fin cfg0.N) : cond (grid0.coords t) ↔ t.val = 0 := by
  have ht : t.val < 16 := Nat.lt_of_lt_of_eq t.isLt N_0
  have e0 : (grid0.coords t 0).val = t.val / 1 % 16 := Pipeline.Grid.coords_val t 0 (by decide) rfl
  simp only [cond, e0]
  word_cmp

section Runs

variable (c : Dev nD) (i : grid0.Coords)
  (a0 : Memref sig .tc .vmem S512x1024 .f32) (h0 : a0.IsWhole)
  (a1 : Memref sig .tc .vmem S512x1024 .f32) (h1 : a1.IsWhole)
  (a2 : Memref sig .tc .vmem S512x512 .f32) (h2 : a2.IsWhole)
  (a3 : Memref sig .tc .vmem S512x256 .f32) (h3 : a3.IsWhole)
  (a4 : Memref sig .tc .vmem S512x256 .f32) (h4 : a4.IsWhole)
  (a5 : Memref sig .tc .vmem S128x256 .f32) (h5 : a5.IsWhole)
  (a6 : Memref sig .tc .vmem S512x256 .f32) (h6 : a6.IsWhole)
  (a7 : Memref sig .tc .vmem S512x256 .f32) (h7 : a7.IsWhole)
  (a8 : Memref sig .tc .vmem S128x256 .f32) (h8 : a8.IsWhole)
  (a9 : Memref sig .tc .vmem S512x1024 .bf16) (h9 : a9.IsWhole)
  (a10 : Memref sig .tc .vmem S2048x1024 .bf16) (h10 : a10.IsWhole)
  (a11 : Memref sig .tc .vmem S512x1024 .f32) (h11 : a11.IsWhole)
  (a12 : Memref sig .tc .vmem S1792x1024 .f32) (h12 : a12.IsWhole)
  (a13 : Memref sig .tc .vmem S8x1024 .f32) (h13 : a13.IsWhole)
  (x0 : Vec F S512x1024 .f32) (x1 : Vec F S512x1024 .f32) (x2 : Vec F S512x512 .f32) (x3 : Vec F S512x256 .f32) (x4 : Vec F S512x256 .f32) (x5 : Vec F S128x256 .f32) (x6 : Vec F S512x256 .f32) (x7 : Vec F S512x256 .f32) (x8 : Vec F S128x256 .f32) (x9 : Vec F S512x1024 .bf16) (x10 : Vec F S2048x1024 .bf16)

set_option maxHeartbeats 1000000 in
/-- The body at the first point, from any output buffers: the stores that each output's buffer ends with, and the proof that it runs. -/
noncomputable def runA (hc : cond i) :
    Σ' (L11 : List (View.Piece (Elt F) S512x1024 .f32)), Σ' (L12 : List (View.Piece (Elt F) S1792x1024 .f32)),
      { L13 : List (View.Piece (Elt F) S8x1024 .f32) //
        ∀ (E : Set ℕ) (K : PUnit → sProp 𝕄),
          iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ (∃ d, owns (c : Thread nD τ) a13 fullShare d)
              ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13)) -∗ K ⟨⟩))
            ⊢ wp frame (wpE (defs₀ (F := F)) Variants.none c none) E (cc0_in_bwd i a0 h0 a1 h1 a2 h2 a3 h3 a4 h4 a5 h5 a6 h6 a7 h7 a8 h8 a9 h9 a10 h10 a11 h11 a12 h12 a13 h13) K } := by
  refine ⟨?_, ?_, ?_, fun E K => ?run⟩
  case run =>
    simp only [cc0_in_bwd_eq_skeleton]; unfold cc0_in_bwd_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%d13, %f13, -, H13⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]; · iexists _; iexact H11
    isplitl [H12]; · iexists _; iexact H12
    iexists _; iexact H13

set_option maxHeartbeats 1000000 in
/-- The body at a later point, from accumulators that hold `y12` and `y13`: the stores that each output's buffer ends with, and
the proof that it runs. -/
noncomputable def runB (hc : ¬cond i) (y12 : Vec F S1792x1024 .f32) (y13 : Vec F S8x1024 .f32) :
    Σ' (L11 : List (View.Piece (Elt F) S512x1024 .f32)), Σ' (L12 : List (View.Piece (Elt F) S1792x1024 .f32)),
      { L13 : List (View.Piece (Elt F) S8x1024 .f32) //
        ∀ (E : Set ℕ) (K : PUnit → sProp 𝕄),
          iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ owns (c : Thread nD τ) a12 fullShare y12 ∗ owns (c : Thread nD τ) a13 fullShare y13
              ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ f, a11.view.loc (c : Thread nD τ) ↦[a11.view.set]{fullShare} a11.view.writes (Elt F) f L11) ∗ (a12.view.loc (c : Thread nD τ) ↦[a12.view.set]{fullShare} a12.view.writes (Elt F) (h12.unread y12) L12) ∗ (a13.view.loc (c : Thread nD τ) ↦[a13.view.set]{fullShare} a13.view.writes (Elt F) (h13.unread y13) L13)) -∗ K ⟨⟩))
            ⊢ wp frame (wpE (defs₀ (F := F)) Variants.none c none) E (cc0_in_bwd i a0 h0 a1 h1 a2 h2 a3 h3 a4 h4 a5 h5 a6 h6 a7 h7 a8 h8 a9 h9 a10 h10 a11 h11 a12 h12 a13 h13) K } := by
  refine ⟨?_, ?_, ?_, fun E K => ?run⟩
  case run =>
    simp only [cc0_in_bwd_eq_skeleton]; unfold cc0_in_bwd_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%f12, %e12, H12⟩, ⟨%f13, %e13, H13⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h12.eq_unread e12; obtain rfl := h13.eq_unread e13
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]; · iexists _; iexact H11
    isplitl [H12]; · iexact H12
    iexact H13

end Runs

end Cert.Kernel2Ideal.Body

end
-- ==== Proof.In.Frame.lean ====
/- The run of the gradient of the mixer's input projection, at any float values: what the outputs' buffers hold after each
   grid point, the pipeline's invariant, and the whole run. -/
module

public import proofs.«01_k».proof.Proof.In.Run
public import Idealize.ShloMosaic.Lib.Pipeline.FrameBody

@[expose] public section

set_option maxRecDepth 16384

noncomputable section

namespace Cert.Kernel2Ideal.Body

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in the outputs' buffers -/

/-- A buffer of the first output, through which its contents are read. -/
abbrev VO11 : View sig .tc .vmem S512x1024 .f32 := (Memref.whole cc0_stg11_0 : Memref sig .tc .vmem S512x1024 .f32).view
/-- The weight gradient's buffer. -/
abbrev VO12 : View sig .tc .vmem S1792x1024 .f32 := (Memref.whole cc0_stg12_0 : Memref sig .tc .vmem S1792x1024 .f32).view
/-- The bias gradient's buffer. -/
abbrev VO13 : View sig .tc .vmem S8x1024 .f32 := (Memref.whole cc0_stg13_0 : Memref sig .tc .vmem S8x1024 .f32).view

section Outs

variable (c : Dev nD) (i : grid0.Coords)
  (a0 : Memref sig .tc .vmem S512x1024 .f32) (h0 : a0.IsWhole)
  (a1 : Memref sig .tc .vmem S512x1024 .f32) (h1 : a1.IsWhole)
  (a2 : Memref sig .tc .vmem S512x512 .f32) (h2 : a2.IsWhole)
  (a3 : Memref sig .tc .vmem S512x256 .f32) (h3 : a3.IsWhole)
  (a4 : Memref sig .tc .vmem S512x256 .f32) (h4 : a4.IsWhole)
  (a5 : Memref sig .tc .vmem S128x256 .f32) (h5 : a5.IsWhole)
  (a6 : Memref sig .tc .vmem S512x256 .f32) (h6 : a6.IsWhole)
  (a7 : Memref sig .tc .vmem S512x256 .f32) (h7 : a7.IsWhole)
  (a8 : Memref sig .tc .vmem S128x256 .f32) (h8 : a8.IsWhole)
  (a9 : Memref sig .tc .vmem S512x1024 .bf16) (h9 : a9.IsWhole)
  (a10 : Memref sig .tc .vmem S2048x1024 .bf16) (h10 : a10.IsWhole)
  (a11 : Memref sig .tc .vmem S512x1024 .f32) (h11 : a11.IsWhole)
  (a12 : Memref sig .tc .vmem S1792x1024 .f32) (h12 : a12.IsWhole)
  (a13 : Memref sig .tc .vmem S8x1024 .f32) (h13 : a13.IsWhole)
  (x0 : Vec F S512x1024 .f32) (x1 : Vec F S512x1024 .f32) (x2 : Vec F S512x512 .f32) (x3 : Vec F S512x256 .f32) (x4 : Vec F S512x256 .f32) (x5 : Vec F S128x256 .f32) (x6 : Vec F S512x256 .f32) (x7 : Vec F S512x256 .f32) (x8 : Vec F S128x256 .f32) (x9 : Vec F S512x1024 .bf16) (x10 : Vec F S2048x1024 .bf16)
/-- At the first point the stores cover the first output's buffer. -/
theorem coverA11 (hc : cond i) (y : S512x1024.Idx) : ∃ pc ∈ (runA c i a0 h0 a1 h1 a2 h2 a3 h3 a4 h4 a5 h5 a6 h6 a7 h7 a8 h8 a9 h9 a10 h10 a11 h11 a12 h12 a13 h13 x0 x1 x2 x3 x4 x5 x6 x7 x8 x9 x10 hc).1, y ∈ pc.1.set :=
  View.cover_of_tiledL (runA c i a0 h0 a1 h1 a2 h2 a3 h3 a4 h4 a5 h5 a6 h6 a7 h7 a8 h8 a9 h9 a10 h10 a11 h11 a12 h12 a13 h13 x0 x1 x2 x3 x4 x5 x6 x7 x8 x9 x10 hc).1 S512x1024.size (by sl_kernel_rfl) y
/-- At the first point the stores cover the weight gradient's buffer. -/
theorem coverA12 (hc : cond i) (y : S1792x1024.Idx) : ∃ pc ∈ (runA c i a0 h0 a1 h1 a2 h2 a3 h3 a4 h4 a5 h5 a6 h6 a7 h7 a8 h8 a9 h9 a10 h10 a11 h11 a12 h12 a13 h13 x0 x1 x2 x3 x4 x5 x6 x7 x8 x9 x10 hc).2.1, y ∈ pc.1.set :=
  View.cover_of_tiledBy (runA c i a0 h0 a1 h1 a2 h2 a3 h3 a4 h4 a5 h5 a6 h6 a7 h7 a8 h8 a9 h9 a10 h10 a11 h11 a12 h12 a13 h13 x0 x1 x2 x3 x4 x5 x6 x7 x8 x9 x10 hc).2.1 ![64, 1024] (by sl_kernel_rfl) y
/-- At the first point the stores cover the bias gradient's buffer. -/
theorem coverA13 (hc : cond i) (y : S8x1024.Idx) : ∃ pc ∈ (runA c i a0 h0 a1 h1 a2 h2 a3 h3 a4 h4 a5 h5 a6 h6 a7 h7 a8 h8 a9 h9 a10 h10 a11 h11 a12 h12 a13 h13 x0 x1 x2 x3 x4 x5 x6 x7 x8 x9 x10 hc).2.2.1, y ∈ pc.1.set :=
  View.cover_of_tiledBy (runA c i a0 h0 a1 h1 a2 h2 a3 h3 a4 h4 a5 h5 a6 h6 a7 h7 a8 h8 a9 h9 a10 h10 a11 h11 a12 h12 a13 h13 x0 x1 x2 x3 x4 x5 x6 x7 x8 x9 x10 hc).2.2.1 ![1, 256] (by sl_kernel_rfl) y
/-- The first output's buffer after the first point. -/
def outA11 (hc : cond i) : Vec F S512x1024 .f32 :=
  VO11.read (Elt F) (VO11.writes (Elt F) VO11.junk (runA c i a0 h0 a1 h1 a2 h2 a3 h3 a4 h4 a5 h5 a6 h6 a7 h7 a8 h8 a9 h9 a10 h10 a11 h11 a12 h12 a13 h13 x0 x1 x2 x3 x4 x5 x6 x7 x8 x9 x10 hc).1)
/-- The weight gradient's buffer after the first point. -/
def outA12 (hc : cond i) : Vec F S1792x1024 .f32 :=
  VO12.read (Elt F) (VO12.writes (Elt F) VO12.junk (runA c i a0 h0 a1 h1 a2 h2 a3 h3 a4 h4 a5 h5 a6 h6 a7 h7 a8 h8 a9 h9 a10 h10 a11 h11 a12 h12 a13 h13 x0 x1 x2 x3 x4 x5 x6 x7 x8 x9 x10 hc).2.1)
/-- The bias gradient's buffer after the first point. -/
def outA13 (hc : cond i) : Vec F S8x1024 .f32 :=
  VO13.read (Elt F) (VO13.writes (Elt F) VO13.junk (runA c i a0 h0 a1 h1 a2 h2 a3 h3 a4 h4 a5 h5 a6 h6 a7 h7 a8 h8 a9 h9 a10 h10 a11 h11 a12 h12 a13 h13 x0 x1 x2 x3 x4 x5 x6 x7 x8 x9 x10 hc).2.2.1)

variable (hc : ¬cond i) (y12 : Vec F S1792x1024 .f32) (y13 : Vec F S8x1024 .f32)

/-- At a later point the stores cover the first output's buffer. -/
theorem coverB11 (y : S512x1024.Idx) : ∃ pc ∈ (runB c i a0 h0 a1 h1 a2 h2 a3 h3 a4 h4 a5 h5 a6 h6 a7 h7 a8 h8 a9 h9 a10 h10 a11 h11 a12 h12 a13 h13 x0 x1 x2 x3 x4 x5 x6 x7 x8 x9 x10 hc y12 y13).1, y ∈ pc.1.set :=
  View.cover_of_tiledL (runB c i a0 h0 a1 h1 a2 h2 a3 h3 a4 h4 a5 h5 a6 h6 a7 h7 a8 h8 a9 h9 a10 h10 a11 h11 a12 h12 a13 h13 x0 x1 x2 x3 x4 x5 x6 x7 x8 x9 x10 hc y12 y13).1 S512x1024.size (by sl_kernel_rfl) y
/-- The first output's buffer after a later point. -/
def outB11 : Vec F S512x1024 .f32 :=
  VO11.read (Elt F) (VO11.writes (Elt F) VO11.junk (runB c i a0 h0 a1 h1 a2 h2 a3 h3 a4 h4 a5 h5 a6 h6 a7 h7 a8 h8 a9 h9 a10 h10 a11 h11 a12 h12 a13 h13 x0 x1 x2 x3 x4 x5 x6 x7 x8 x9 x10 hc y12 y13).1)
/-- The weight gradient's buffer after a later point that found `y12` in it. -/
def outB12 : Vec F S1792x1024 .f32 :=
  a12.view.read (Elt F) (a12.view.writes (Elt F) (h12.unread y12) (runB c i a0 h0 a1 h1 a2 h2 a3 h3 a4 h4 a5 h5 a6 h6 a7 h7 a8 h8 a9 h9 a10 h10 a11 h11 a12 h12 a13 h13 x0 x1 x2 x3 x4 x5 x6 x7 x8 x9 x10 hc y12 y13).2.1)
/-- The bias gradient's buffer after a later point that found `y13` in it. -/
def outB13 : Vec F S8x1024 .f32 :=
  a13.view.read (Elt F) (a13.view.writes (Elt F) (h13.unread y13) (runB c i a0 h0 a1 h1 a2 h2 a3 h3 a4 h4 a5 h5 a6 h6 a7 h7 a8 h8 a9 h9 a10 h10 a11 h11 a12 h12 a13 h13 x0 x1 x2 x3 x4 x5 x6 x7 x8 x9 x10 hc y12 y13).2.2.1)

end Outs

/-! ## Point by point -/

/-- The buffer of the layer's input at a point. -/
abbrev ms0 (t : Fin cfg0.N) : Memref sig .tc .vmem S512x1024 .f32 := win0_0.stage (cfg0.slots t 0)
/-- It is a whole array. -/
abbrev hs0 (t : Fin cfg0.N) : (ms0 t).IsWhole := hstage0_0 ((cfg0.slots t 0).cast nbuf0_0)
/-- The buffer of the gradient at the layer's output at a point. -/
abbrev ms1 (t : Fin cfg0.N) : Memref sig .tc .vmem S512x1024 .f32 := win0_1.stage (cfg0.slots t 1)
/-- It is a whole array. -/
abbrev hs1 (t : Fin cfg0.N) : (ms1 t).IsWhole := hstage0_1 ((cfg0.slots t 1).cast nbuf0_1)
/-- The buffer of the queries' gradient at a point. -/
abbrev ms2 (t : Fin cfg0.N) : Memref sig .tc .vmem S512x512 .f32 := win0_2.stage (cfg0.slots t 2)
/-- It is a whole array. -/
abbrev hs2 (t : Fin cfg0.N) : (ms2 t).IsWhole := hstage0_2 ((cfg0.slots t 2).cast nbuf0_2)
/-- The buffer of the keys' gradient at a point. -/
abbrev ms3 (t : Fin cfg0.N) : Memref sig .tc .vmem S512x256 .f32 := win0_3.stage (cfg0.slots t 3)
/-- It is a whole array. -/
abbrev hs3 (t : Fin cfg0.N) : (ms3 t).IsWhole := hstage0_3 ((cfg0.slots t 3).cast nbuf0_3)
/-- The buffer of the keys' gradient one block on at a point. -/
abbrev ms4 (t : Fin cfg0.N) : Memref sig .tc .vmem S512x256 .f32 := win0_4.stage (cfg0.slots t 4)
/-- It is a whole array. -/
abbrev hs4 (t : Fin cfg0.N) : (ms4 t).IsWhole := hstage0_4 ((cfg0.slots t 4).cast nbuf0_4)
/-- The buffer of the keys' gradient past the rows at a point. -/
abbrev ms5 (t : Fin cfg0.N) : Memref sig .tc .vmem S128x256 .f32 := win0_5.stage (cfg0.slots t 5)
/-- It is a whole array. -/
abbrev hs5 (t : Fin cfg0.N) : (ms5 t).IsWhole := hstage0_5 ((cfg0.slots t 5).cast nbuf0_5)
/-- The buffer of the values' gradient at a point. -/
abbrev ms6 (t : Fin cfg0.N) : Memref sig .tc .vmem S512x256 .f32 := win0_6.stage (cfg0.slots t 6)
/-- It is a whole array. -/
abbrev hs6 (t : Fin cfg0.N) : (ms6 t).IsWhole := hstage0_6 ((cfg0.slots t 6).cast nbuf0_6)
/-- The buffer of the values' gradient one block on at a point. -/
abbrev ms7 (t : Fin cfg0.N) : Memref sig .tc .vmem S512x256 .f32 := win0_7.stage (cfg0.slots t 7)
/-- It is a whole array. -/
abbrev hs7 (t : Fin cfg0.N) : (ms7 t).IsWhole := hstage0_7 ((cfg0.slots t 7).cast nbuf0_7)
/-- The buffer of the values' gradient past the rows at a point. -/
abbrev ms8 (t : Fin cfg0.N) : Memref sig .tc .vmem S128x256 .f32 := win0_8.stage (cfg0.slots t 8)
/-- It is a whole array. -/
abbrev hs8 (t : Fin cfg0.N) : (ms8 t).IsWhole := hstage0_8 ((cfg0.slots t 8).cast nbuf0_8)
/-- The buffer of the gate's gradient at a point. -/
abbrev ms9 (t : Fin cfg0.N) : Memref sig .tc .vmem S512x1024 .bf16 := win0_9.stage (cfg0.slots t 9)
/-- It is a whole array. -/
abbrev hs9 (t : Fin cfg0.N) : (ms9 t).IsWhole := hstage0_9 ((cfg0.slots t 9).cast nbuf0_9)
/-- The buffer of the weights at a point. -/
abbrev ms10 (t : Fin cfg0.N) : Memref sig .tc .vmem S2048x1024 .bf16 := win0_10.stage (cfg0.slots t 10)
/-- It is a whole array. -/
abbrev hs10 (t : Fin cfg0.N) : (ms10 t).IsWhole := hstage0_10 ((cfg0.slots t 10).cast nbuf0_10)
/-- The buffer of the input's gradient at a point. -/
abbrev ms11 (t : Fin cfg0.N) : Memref sig .tc .vmem S512x1024 .f32 := win0_11.stage (cfg0.slots t 11)
/-- It is a whole array. -/
abbrev hs11 (t : Fin cfg0.N) : (ms11 t).IsWhole := hstage0_11 ((cfg0.slots t 11).cast nbuf0_11)
/-- The buffer of the weight gradient at a point. -/
abbrev ms12 (t : Fin cfg0.N) : Memref sig .tc .vmem S1792x1024 .f32 := win0_12.stage (cfg0.slots t 12)
/-- It is a whole array. -/
abbrev hs12 (t : Fin cfg0.N) : (ms12 t).IsWhole := hstage0_12 ((cfg0.slots t 12).cast nbuf0_12)
/-- The buffer of the bias gradient at a point. -/
abbrev ms13 (t : Fin cfg0.N) : Memref sig .tc .vmem S8x1024 .f32 := win0_13.stage (cfg0.slots t 13)
/-- It is a whole array. -/
abbrev hs13 (t : Fin cfg0.N) : (ms13 t).IsWhole := hstage0_13 ((cfg0.slots t 13).cast nbuf0_13)

variable (m : (ℓ : Loc nD τ sig) → Buf (Elt F) ℓ) (ρ : Dev nD → PrngReg)

/-- The predecessor's number is a point's. -/
theorem prev_lt (t : Fin cfg0.N) : t.val - 1 < cfg0.N := Nat.lt_of_le_of_lt (Nat.sub_le _ _) t.isLt

/-- The outputs' buffers after the first point. -/
def outsA (c : Dev nD) (t : Fin cfg0.N) (hc : cond (grid0.coords t)) : Vec F S512x1024 .f32 × Vec F S1792x1024 .f32 × Vec F S8x1024 .f32 :=
  (outA11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hc, outA12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hc, outA13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hc)

/-- The outputs' buffers after a later point, from what the point before left. -/
def outsB (c : Dev nD) (t : Fin cfg0.N) (hc : ¬cond (grid0.coords t)) (y12 : Vec F S1792x1024 .f32) (y13 : Vec F S8x1024 .f32) :
    Vec F S512x1024 .f32 × Vec F S1792x1024 .f32 × Vec F S8x1024 .f32 :=
  (outB11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hc y12 y13, outB12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hc y12 y13, outB13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hc y12 y13)

/-- The outputs' buffers after each point. -/
def outsAt (c : Dev nD) : (n : ℕ) → n < cfg0.N → Vec F S512x1024 .f32 × Vec F S1792x1024 .f32 × Vec F S8x1024 .f32
  | 0, h => outsA m c ⟨0, h⟩ ((cond_iff ⟨0, h⟩).mpr rfl)
  | n + 1, h => outsB m c ⟨n + 1, h⟩ (fun hc => Nat.succ_ne_zero n ((cond_iff ⟨n + 1, h⟩).mp hc))
      (outsAt c n (Nat.lt_of_succ_lt h)).2.1 (outsAt c n (Nat.lt_of_succ_lt h)).2.2

/-- At the first point. -/
theorem outsAt_A (c : Dev nD) (t : Fin cfg0.N) (h : t.val = 0) :
    outsAt m c t.val t.isLt = outsA m c t ((cond_iff t).mpr h) := by
  obtain ⟨n, hn⟩ := t
  cases n with
  | zero => rfl
  | succ n => exact absurd h (Nat.succ_ne_zero n)

/-- At a later point. -/
theorem outsAt_B (c : Dev nD) (t : Fin cfg0.N) (h : ¬t.val = 0) :
    outsAt m c t.val t.isLt = outsB m c t (fun hc => h ((cond_iff t).mp hc)) (outsAt m c (t.val - 1) (prev_lt t)).2.1 (outsAt m c (t.val - 1) (prev_lt t)).2.2 := by
  obtain ⟨n, hn⟩ := t
  cases n with
  | zero => exact absurd rfl h
  | succ n => rfl

/-! ## The pipeline's data -/

/-- The pipeline's data on a core: the arrays as the call finds them, and what the body leaves in each buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt m c t.val t.isLt).1
    | ⟨12, _⟩ => (outsAt m c t.val t.isLt).2.1
    | ⟨13, _⟩ => (outsAt m c t.val t.isLt).2.2
    | ⟨_ + 14, h⟩ => absurd h (Nat.not_lt.2 (Nat.le_add_left _ _))
  Φ _ := Pipeline.ΦA spec0 c
  q w := Pipeline.shareOf spec0 w
  owed _ := 0

/-- The arrays of the pipeline's data. -/
theorem A_eq (c : Dev nD) (w : Fin cfg0.W) : (dats m 0 c).A w = V m c (Pipeline.arrRef spec0 w) := by
  dsimp only [dats]

/-! What the body leaves in each buffer. -/

/-- The body leaves input 0's block as it is. -/
theorem after_0 (c : Dev nD) (t : Fin cfg0.N) : (dats m 0 c).after 0 t = iblk m c 0 t := by dsimp only [dats]
/-- The body leaves input 1's block as it is. -/
theorem after_1 (c : Dev nD) (t : Fin cfg0.N) : (dats m 0 c).after 1 t = iblk m c 1 t := by dsimp only [dats]
/-- The body leaves input 2's block as it is. -/
theorem after_2 (c : Dev nD) (t : Fin cfg0.N) : (dats m 0 c).after 2 t = iblk m c 2 t := by dsimp only [dats]
/-- The body leaves input 3's block as it is. -/
theorem after_3 (c : Dev nD) (t : Fin cfg0.N) : (dats m 0 c).after 3 t = iblk m c 3 t := by dsimp only [dats]
/-- The body leaves input 4's block as it is. -/
theorem after_4 (c : Dev nD) (t : Fin cfg0.N) : (dats m 0 c).after 4 t = iblk m c 4 t := by dsimp only [dats]
/-- The body leaves input 5's block as it is. -/
theorem after_5 (c : Dev nD) (t : Fin cfg0.N) : (dats m 0 c).after 5 t = iblk m c 5 t := by dsimp only [dats]
/-- The body leaves input 6's block as it is. -/
theorem after_6 (c : Dev nD) (t : Fin cfg0.N) : (dats m 0 c).after 6 t = iblk m c 6 t := by dsimp only [dats]
/-- The body leaves input 7's block as it is. -/
theorem after_7 (c : Dev nD) (t : Fin cfg0.N) : (dats m 0 c).after 7 t = iblk m c 7 t := by dsimp only [dats]
/-- The body leaves input 8's block as it is. -/
theorem after_8 (c : Dev nD) (t : Fin cfg0.N) : (dats m 0 c).after 8 t = iblk m c 8 t := by dsimp only [dats]
/-- The body leaves input 9's block as it is. -/
theorem after_9 (c : Dev nD) (t : Fin cfg0.N) : (dats m 0 c).after 9 t = iblk m c 9 t := by dsimp only [dats]
/-- The body leaves input 10's block as it is. -/
theorem after_10 (c : Dev nD) (t : Fin cfg0.N) : (dats m 0 c).after 10 t = iblk m c 10 t := by dsimp only [dats]
/-- The body leaves in the first output's buffer what the runs say. -/
theorem after_11 (c : Dev nD) (t : Fin cfg0.N) : (dats m 0 c).after 11 t = (outsAt m c t.val t.isLt).1 := by dsimp only [dats]
/-- The body leaves in the weight gradient's buffer what the runs say. -/
theorem after_12 (c : Dev nD) (t : Fin cfg0.N) : (dats m 0 c).after 12 t = (outsAt m c t.val t.isLt).2.1 := by dsimp only [dats]
/-- The body leaves in the bias gradient's buffer what the runs say. -/
theorem after_13 (c : Dev nD) (t : Fin cfg0.N) : (dats m 0 c).after 13 t = (outsAt m c t.val t.isLt).2.2 := by dsimp only [dats]

/-! What the body finds in each input's buffer: its block. -/

/-- The body finds input 0's block. -/
theorem before_0 (c : Dev nD) (t : Fin cfg0.N) (d) : (dats m 0 c).before 0 t d = iblk m c 0 t :=
  before0_0_of m (dats m 0 c) (A_eq m c 0) (after_0 m c) t d
/-- The body finds input 1's block. -/
theorem before_1 (c : Dev nD) (t : Fin cfg0.N) (d) : (dats m 0 c).before 1 t d = iblk m c 1 t :=
  before0_1_of m (dats m 0 c) (A_eq m c 1) (after_1 m c) t d
/-- The body finds input 2's block. -/
theorem before_2 (c : Dev nD) (t : Fin cfg0.N) (d) : (dats m 0 c).before 2 t d = iblk m c 2 t :=
  before0_2_of m (dats m 0 c) (A_eq m c 2) (after_2 m c) t d
/-- The body finds input 3's block. -/
theorem before_3 (c : Dev nD) (t : Fin cfg0.N) (d) : (dats m 0 c).before 3 t d = iblk m c 3 t :=
  before0_3_of m (dats m 0 c) (A_eq m c 3) (after_3 m c) t d
/-- The body finds input 4's block. -/
theorem before_4 (c : Dev nD) (t : Fin cfg0.N) (d) : (dats m 0 c).before 4 t d = iblk m c 4 t :=
  before0_4_of m (dats m 0 c) (A_eq m c 4) (after_4 m c) t d
/-- The body finds input 5's block. -/
theorem before_5 (c : Dev nD) (t : Fin cfg0.N) (d) : (dats m 0 c).before 5 t d = iblk m c 5 t :=
  before0_5_of m (dats m 0 c) (A_eq m c 5) (after_5 m c) t d
/-- The body finds input 6's block. -/
theorem before_6 (c : Dev nD) (t : Fin cfg0.N) (d) : (dats m 0 c).before 6 t d = iblk m c 6 t :=
  before0_6_of m (dats m 0 c) (A_eq m c 6) (after_6 m c) t d
/-- The body finds input 7's block. -/
theorem before_7 (c : Dev nD) (t : Fin cfg0.N) (d) : (dats m 0 c).before 7 t d = iblk m c 7 t :=
  before0_7_of m (dats m 0 c) (A_eq m c 7) (after_7 m c) t d
/-- The body finds input 8's block. -/
theorem before_8 (c : Dev nD) (t : Fin cfg0.N) (d) : (dats m 0 c).before 8 t d = iblk m c 8 t :=
  before0_8_of m (dats m 0 c) (A_eq m c 8) (after_8 m c) t d
/-- The body finds input 9's block. -/
theorem before_9 (c : Dev nD) (t : Fin cfg0.N) (d) : (dats m 0 c).before 9 t d = iblk m c 9 t :=
  before0_9_of m (dats m 0 c) (A_eq m c 9) (after_9 m c) t d
/-- The body finds input 10's block. -/
theorem before_10 (c : Dev nD) (t : Fin cfg0.N) (d) : (dats m 0 c).before 10 t d = iblk m c 10 t :=
  before0_10_of m (dats m 0 c) (A_eq m c 10) (after_10 m c) t d

/-- A later point finds in the weight gradient's buffer what the point before left. -/
theorem before_12 (c : Dev nD) (t : Fin cfg0.N) (h : ¬t.val = 0) (d) :
    (dats m 0 c).before 12 t d = (outsAt m c (t.val - 1) (prev_lt t)).2.1 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]

/-- A later point finds in the bias gradient's buffer what the point before left. -/
theorem before_13 (c : Dev nD) (t : Fin cfg0.N) (h : ¬t.val = 0) (d) :
    (dats m 0 c).before 13 t d = (outsAt m c (t.val - 1) (prev_lt t)).2.2 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)))

/-- What it returns. -/
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t) ∗ owns (c : Thread nD τ) (ms12 t) fullShare ((dats m 0 c).after 12 t) ∗ owns (c : Thread nD τ) (ms13 t) fullShare ((dats m 0 c).after 13 t))

set_option maxHeartbeats 4000000 in
/-- The body runs at every point: from the input blocks and what the point before left, to what the data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  by_cases h : t.val = 0
  · rw [outsAt_A m c t h]
    unfold outsA outA11 outA12 outA13
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((cond_iff t).mpr h)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iintro ⟨H0, H1, H2, H3, H4, H5, H6, H7, H8, H9, H10, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverA11 c _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (coverA12 c _ _ _ _ _ _ _ _ _ _ _ _ _ _ _ _ _ _ _ _ _ _ _ _ _ _ _ _ _ _ _ _ _ _ _ _ _ _ _ _ _)
    unfold owns; iexists _; isplitr
    swap; · iexact H13
    ipureintro; exact View.read_writes_of_cover _ _ _ _ _ (coverA13 c _ _ _ _ _ _ _ _ _ _ _ _ _ _ _ _ _ _ _ _ _ _ _ _ _ _ _ _ _ _ _ _ _ _ _ _ _ _ _ _ _)
  · rw [outsAt_B m c t h]
    simp only [before_12 m c t h, before_13 m c t h]
    unfold outsB outB11 outB12 outB13
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runB c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (fun hc => h ((cond_iff t).mp hc)) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    iintro ⟨H0, H1, H2, H3, H4, H5, H6, H7, H8, H9, H10, ⟨%e11, H11⟩, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverB11 c _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; rfl
    unfold owns; iexists _; isplitr
    swap; · iexact H13
    ipureintro; rfl

/-- The body the pipeline calls at a point. -/
theorem defs₀_row (t : Fin cfg0.N) : defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The whole run: it ends with every array as the data says and the semaphores at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m) (hΦ := fun _ _ => rfl)

end Cert.Kernel2Ideal.Body

end
-- ==== Proof.In.Spec.lean ====
/- The gradient of the combined input projection, on the extended reals: the arrays that the kernel and the reference both
   compute. -/
module

public import proofs.«01_k».proof.Proof.Real

@[expose] public section

noncomputable section

namespace Cert.In

open Idealize.ShloMosaic Cert.Spec

/-- The residual's factor, as both programs print it. -/
def alpha : EReal := Ideal.ofBits .f32 0x3F9837F0#32

/-- The arguments: the layer's input and weight, the gradient at the layer's output, at the queries, at the keys and values
(of a row's own block, and of the block before) in two copies each, and at the gate. -/
structure Args where
  x : Fin 8192 → Fin 1024 → EReal
  w : Fin 1024 → Fin 1792 → EReal
  dp : Fin 8192 → Fin 1024 → EReal
  dq : Fin 8192 → Fin 512 → EReal
  dka : Fin 8192 → Fin 256 → EReal
  dkb : Fin 8192 → Fin 256 → EReal
  dva : Fin 8192 → Fin 256 → EReal
  dvb : Fin 8192 → Fin 256 → EReal
  dag : Fin 8192 → Fin 1024 → EReal

/-- Every argument is a real number. -/
structure Args.Real (A : Args) : Prop where
  x : ∀ n k, IsReal (A.x n k)
  w : ∀ k j, IsReal (A.w k j)
  dp : ∀ n k, IsReal (A.dp n k)
  dq : ∀ n k, IsReal (A.dq n k)
  dka : ∀ n k, IsReal (A.dka n k)
  dkb : ∀ n k, IsReal (A.dkb n k)
  dva : ∀ n k, IsReal (A.dva n k)
  dvb : ∀ n k, IsReal (A.dvb n k)
  dag : ∀ n k, IsReal (A.dag n k)

/-- The gradient at a row that two blocks see: as one's own row and, 128 rows on, as the other's row before. -/
def both (a b : Fin 8192 → Fin 256 → EReal) (n : Fin 8192) (p : Fin 256) : EReal :=
  a n p + (if h : n.val + 128 < 8192 then b ⟨n.val + 128, h⟩ p else 0)

/-- The first copy's column of a key or value column. -/
def c1 (j : Fin 128) : Fin 256 := ⟨j.val / 64 * 128 + j.val % 64, by omega⟩

/-- The second copy's column. -/
def c2 (j : Fin 128) : Fin 256 := ⟨j.val / 64 * 128 + 64 + j.val % 64, by omega⟩

/-- The key or value column that a column of the copies repeats. -/
def kv (p : Fin 256) : Fin 128 := ⟨p.val / 128 * 64 + p.val % 64, by omega⟩

/-- A choice is a value that both its branches are. -/
theorem dite_eq_of {α : Sort*} {P : Prop} [Decidable P] {y : P → α} {z : ¬P → α} {v : α} (hy : ∀ h, y h = v)
    (hz : ∀ h, z h = v) : dite P y z = v := by
  by_cases h : P
  · rw [dif_pos h, hy h]
  · rw [dif_neg h, hz h]

namespace Args

variable (A : Args)

/-- The gradient at the keys. -/
def dk : Fin 8192 → Fin 256 → EReal := both A.dka A.dkb

/-- The gradient at the values. -/
def dv : Fin 8192 → Fin 256 → EReal := both A.dva A.dvb

/-- The gradient at the projection: of a key or value column, the sum over its two copies. -/
def P (n : Fin 8192) (j : Fin 1792) : EReal :=
  if h : j.val < 512 then A.dq n ⟨j.val, h⟩
  else if h : j.val < 640 then A.dk n (c1 ⟨j.val - 512, by omega⟩) + A.dk n (c2 ⟨j.val - 512, by omega⟩)
  else if h : j.val < 768 then A.dv n (c1 ⟨j.val - 640, by omega⟩) + A.dv n (c2 ⟨j.val - 640, by omega⟩)
  else A.dag n ⟨j.val - 768, by omega⟩

/-- The gradient at the layer's input. -/
def dX (n : Fin 8192) (k : Fin 1024) : EReal := alpha * A.dp n k + ∑ j : Fin 1792, A.P n j * A.w k j

/-- The weight's gradient, transposed. -/
def dW (j : Fin 1792) (k : Fin 1024) : EReal := ∑ n : Fin 8192, A.P n j * A.x n k

/-- The bias's gradient at a row: of the queries and either copy of the keys and values. -/
def bias (n : Fin 8192) (p : Fin 1024) : EReal :=
  if h : p.val < 512 then A.dq n ⟨p.val, h⟩
  else if h : p.val < 768 then A.dk n ⟨p.val - 512, by omega⟩
  else A.dv n ⟨p.val - 768, by omega⟩

/-- The bias's gradient, in the first of eight rows. -/
def dB (r : ℕ) (p : Fin 1024) : EReal := if r = 0 then ∑ n : Fin 8192, A.bias n p else 0

end Args

/-- With real numbers both copies' products add up to the sum's product. -/
theorem add_mul_real {a b c : EReal} (ha : IsReal a) (hb : IsReal b) (hc : IsReal c) : (a + b) * c = a * c + b * c := by
  obtain ⟨r, rfl⟩ := ha
  obtain ⟨s, rfl⟩ := hb
  obtain ⟨u, rfl⟩ := hc
  simp only [← EReal.coe_add, ← EReal.coe_mul, add_mul]

/-- The gradient at a row that two blocks see is real. -/
theorem both_real {a b : Fin 8192 → Fin 256 → EReal} (ha : ∀ n p, IsReal (a n p)) (hb : ∀ n p, IsReal (b n p))
    (n : Fin 8192) (p : Fin 256) : IsReal (both a b n p) := by
  unfold both
  split
  · exact (ha n p).add (hb _ p)
  · exact (ha n p).add IsReal.zero

/-- The keys' gradient is real. -/
theorem Args.Real.dk {A : Args} (h : A.Real) (n : Fin 8192) (p : Fin 256) : IsReal (A.dk n p) := both_real h.dka h.dkb n p

/-- The values' gradient is real. -/
theorem Args.Real.dv {A : Args} (h : A.Real) (n : Fin 8192) (p : Fin 256) : IsReal (A.dv n p) := both_real h.dva h.dvb n p

/-- A sum over the copies' columns, by the columns they repeat. -/
theorem sum_copies {f : Fin 256 → EReal} {g : Fin 128 → EReal} (hf : ∀ p, IsReal (f p)) (hg : ∀ j, IsReal (g j)) :
    ∑ p : Fin 256, f p * g (kv p) = ∑ j : Fin 128, (f (c1 j) + f (c2 j)) * g j := by
  have e : ∀ F : Fin 128 → EReal, ∑ j : Fin 128, F j
      = ∑ k : Fin 64, F ⟨k.val, by omega⟩ + ∑ k : Fin 64, F ⟨64 + k.val, by omega⟩ := fun F => Fin.sum_univ_add (a := 64) (b := 64) F
  have e' : ∑ p : Fin 256, f p * g (kv p)
      = ∑ k : Fin 128, f ⟨k.val, by omega⟩ * g (kv ⟨k.val, by omega⟩)
        + ∑ k : Fin 128, f ⟨128 + k.val, by omega⟩ * g (kv ⟨128 + k.val, by omega⟩) :=
    Fin.sum_univ_add (a := 128) (b := 128) fun p => f p * g (kv p)
  rw [e', e, e, e, ← Finset.sum_add_distrib, ← Finset.sum_add_distrib]
  refine congrArg₂ (· + ·) (Finset.sum_congr rfl fun k _ => ?_) (Finset.sum_congr rfl fun k _ => ?_) <;>
    rw [add_mul_real (hf _) (hf _) (hg _)] <;>
    refine congrArg₂ (· + ·) (congrArg₂ (fun a b => f a * g b) (Fin.ext ?_) (Fin.ext ?_))
      (congrArg₂ (fun a b => f a * g b) (Fin.ext ?_) (Fin.ext ?_)) <;>
    simp only [c1, c2, kv] <;> omega

/-- The four products of the input's gradient make the sum over the projection's columns. -/
theorem Args.Real.sum_P {A : Args} (h : A.Real) (n : Fin 8192) (k : Fin 1024) :
    ∑ p : Fin 512, A.dq n p * A.w k ⟨p.val, by omega⟩ + ∑ p : Fin 256, A.dk n p * A.w k ⟨512 + (kv p).val, by omega⟩
        + ∑ p : Fin 256, A.dv n p * A.w k ⟨640 + (kv p).val, by omega⟩
        + ∑ p : Fin 1024, A.dag n p * A.w k ⟨768 + p.val, by omega⟩
      = ∑ j : Fin 1792, A.P n j * A.w k j := by
  have e : ∀ F : Fin 1792 → EReal, ∑ j : Fin 1792, F j
      = ((∑ p : Fin 512, F ⟨p.val, by omega⟩ + ∑ p : Fin 128, F ⟨512 + p.val, by omega⟩)
        + ∑ p : Fin 128, F ⟨640 + p.val, by omega⟩) + ∑ p : Fin 1024, F ⟨768 + p.val, by omega⟩ := fun F => by
    refine (Fin.sum_univ_add (a := 768) (b := 1024) F).trans (congrArg₂ (· + ·) ?_ rfl)
    refine (Fin.sum_univ_add (a := 640) (b := 128) fun j => F (Fin.castAdd 1024 j)).trans (congrArg₂ (· + ·) ?_ rfl)
    exact Fin.sum_univ_add (a := 512) (b := 128) fun j => F (Fin.castAdd 1024 (Fin.castAdd 128 j))
  rw [e, sum_copies (g := fun j => A.w k ⟨512 + j.val, by omega⟩) (h.dk n) (fun j => h.w k _),
    sum_copies (g := fun j => A.w k ⟨640 + j.val, by omega⟩) (h.dv n) (fun j => h.w k _)]
  refine congrArg₂ (· + ·) (congrArg₂ (· + ·) (congrArg₂ (· + ·) ?_ ?_) ?_) ?_ <;>
    refine Finset.sum_congr rfl fun p _ => congrArg (· * _) ?_
  · unfold P
    rw [dif_pos (by show p.val < 512; omega)]
  · unfold P
    rw [dif_neg (by show ¬(512 + p.val) < 512; omega), dif_pos (by show (512 + p.val) < 640; omega)]
    exact congrArg (fun i : Fin 128 => A.dk n (c1 i) + A.dk n (c2 i)) (Fin.ext (by show p.val = 512 + p.val - 512; omega))
  · unfold P
    rw [dif_neg (by show ¬(640 + p.val) < 512; omega), dif_neg (by show ¬(640 + p.val) < 640; omega),
      dif_pos (by show (640 + p.val) < 768; omega)]
    exact congrArg (fun i : Fin 128 => A.dv n (c1 i) + A.dv n (c2 i)) (Fin.ext (by show p.val = 640 + p.val - 640; omega))
  · unfold P
    rw [dif_neg (by show ¬(768 + p.val) < 512; omega), dif_neg (by show ¬(768 + p.val) < 640; omega),
      dif_neg (by show ¬(768 + p.val) < 768; omega)]
    exact congrArg (A.dag n) (Fin.ext (by show p.val = 768 + p.val - 768; omega))

end Cert.In

end
-- ==== Proof.In.Operands.lean ====
/- The operands of the input projection's gradient that the host lines compute, by the coordinates of the arguments. -/
module

public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.In.Spec
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel2Ideal.Body

open Idealize.ShloMosaic Idealize.ShloMosaic.TcCoe Cert.Kernel2Ideal Cert.Kernel2Ideal.Gen Cert.In

variable (m : (ℓ : Loc nD τ sig) → Buf (Elt Ideal) ℓ) (c : Dev nD)

/-- The arguments device `c` holds. -/
def args : Args where
  x n k := m ((c : Thread nD τ).loc main_arg0) (ix2 n k)
  w k j := m ((c : Thread nD τ).loc main_arg1) (ix2 k j)
  dp n k := m ((c : Thread nD τ).loc main_arg2) (ix2 n k)
  dq n p := m ((c : Thread nD τ).loc main_arg3) (ix2 n p)
  dka n p := m ((c : Thread nD τ).loc main_arg4) (ix2 n p)
  dkb n p := m ((c : Thread nD τ).loc main_arg5) (ix2 n p)
  dva n p := m ((c : Thread nD τ).loc main_arg6) (ix2 n p)
  dvb n p := m ((c : Thread nD τ).loc main_arg7) (ix2 n p)
  dag n p := m ((c : Thread nD τ).loc main_arg8) (ix2 n p)

/-- The gate's gradient. -/
theorem V0_apply (r : Fin 8192) (l : Fin 1024) : V m c main_v0 (ix2 r l) = (args m c).dag r l := by
  unfold V; after_reads_at; rfl

/-- The column of the projection that a row of the extended weight repeats. -/
def src (p : Fin 2048) : Fin 1792 :=
  if h : p.val < 512 then ⟨p.val, by omega⟩
  else if h : p.val < 768 then ⟨512 + (kv ⟨p.val - 512, by omega⟩).val, by omega⟩
  else if h : p.val < 1024 then ⟨640 + (kv ⟨p.val - 768, by omega⟩).val, by omega⟩
  else ⟨p.val - 256, by omega⟩

set_option maxHeartbeats 4000000 in
/-- The extended weight. -/
theorem V13_apply (p : Fin 2048) (k : Fin 1024) : V m c main_v13 (ix2 p k) = (args m c).w k (src p) := by
  unfold V; after_reads_at
  repeat' with_reducible refine dite_eq_of (fun h => ?_) (fun h => ?_)
  all_goals after_reads_at
  all_goals refine congrArg (m ((c : Thread nD τ).loc main_arg1)) (congrArg (ix2 k) (Fin.ext ?_))
  all_goals simp only [src]
  all_goals split_ifs <;> simp only [kv] <;> omega

end Cert.Kernel2Ideal.Body

end
-- ==== Proof.In.Blocks.lean ====
/- What the grid points of the input projection's gradient read: the blocks at a point, by the coordinates of the arguments. -/
module

public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.In.Operands
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel2Ideal.Body

open Idealize.ShloMosaic Idealize.ShloMosaic.TcCoe Cert.Kernel2Ideal Cert.Kernel2Ideal.Gen Cert.In

variable (m : (ℓ : Loc nD τ sig) → Buf (Elt Ideal) ℓ) (c : Dev nD)

/-- Every window's block index at point `t`. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![min ((t.val + 1) * 4) 63, 0]
    ∧ win0_6.index t = ![t.val, 0] ∧ win0_7.index t = ![t.val, 0] ∧ win0_8.index t = ![min ((t.val + 1) * 4) 63, 0]
    ∧ win0_9.index t = ![t.val, 0] ∧ win0_10.index t = ![0, 0]
    ∧ win0_11.index t = ![t.val, 0] ∧ win0_12.index t = ![0, 0] ∧ win0_13.index t = ![0, 0] :=
  (by decide +kernel : ∀ t : Fin grid0.N, _)

/-- The number of grid points. -/
theorem lt_16 (t : Fin cfg0.N) : t.val < 16 := lt_of_lt_of_eq t.isLt N_0

/-- Row `r` of the row block of point `t`, counted in the arrays. -/
def row (t : Fin cfg0.N) (r : Fin 512) : Fin 8192 := ⟨t.val * 512 + r.val, by have := lt_16 t; omega⟩

/-- Row `r` of the 128 rows below the row block of point `t` (of the last 128, at the last block). -/
def nxt (t : Fin cfg0.N) (r : Fin 128) : Fin 8192 := ⟨min ((t.val + 1) * 4) 63 * 128 + r.val, by omega⟩

/-- The block of the layer's input. -/
theorem blk0 (t : Fin cfg0.N) (r : Fin 512) (k : Fin 1024) : iblk m c 0 t (ix2 r k) = (args m c).x (row t r) k := by
  refine Eq.trans ?_ (congrFun (V_main_arg0 m c) (ix2 (row t r) k))
  blk_ext [iblk, idx t, row]

/-- The block of the gradient at the layer's output. -/
theorem blk1 (t : Fin cfg0.N) (r : Fin 512) (k : Fin 1024) : iblk m c 1 t (ix2 r k) = (args m c).dp (row t r) k := by
  refine Eq.trans ?_ (congrFun (V_main_arg2 m c) (ix2 (row t r) k))
  blk_ext [iblk, idx t, row]

/-- The block of the queries' gradient. -/
theorem blk2 (t : Fin cfg0.N) (r : Fin 512) (p : Fin 512) : iblk m c 2 t (ix2 r p) = (args m c).dq (row t r) p := by
  refine Eq.trans ?_ (congrFun (V_main_arg3 m c) (ix2 (row t r) p))
  blk_ext [iblk, idx t, row]

/-- The block of the keys' gradient, of the own block. -/
theorem blk3 (t : Fin cfg0.N) (r : Fin 512) (p : Fin 256) : iblk m c 3 t (ix2 r p) = (args m c).dka (row t r) p := by
  refine Eq.trans ?_ (congrFun (V_main_arg4 m c) (ix2 (row t r) p))
  blk_ext [iblk, idx t, row]

/-- The block of the keys' gradient, of the block before. -/
theorem blk4 (t : Fin cfg0.N) (r : Fin 512) (p : Fin 256) : iblk m c 4 t (ix2 r p) = (args m c).dkb (row t r) p := by
  refine Eq.trans ?_ (congrFun (V_main_arg5 m c) (ix2 (row t r) p))
  blk_ext [iblk, idx t, row]

/-- Its next 128 rows. -/
theorem blk5 (t : Fin cfg0.N) (r : Fin 128) (p : Fin 256) : iblk m c 5 t (ix2 r p) = (args m c).dkb (nxt t r) p := by
  refine Eq.trans ?_ (congrFun (V_main_arg5 m c) (ix2 (nxt t r) p))
  blk_ext [iblk, idx t, nxt]

/-- The block of the values' gradient, of the own block. -/
theorem blk6 (t : Fin cfg0.N) (r : Fin 512) (p : Fin 256) : iblk m c 6 t (ix2 r p) = (args m c).dva (row t r) p := by
  refine Eq.trans ?_ (congrFun (V_main_arg6 m c) (ix2 (row t r) p))
  blk_ext [iblk, idx t, row]

/-- The block of the values' gradient, of the block before. -/
theorem blk7 (t : Fin cfg0.N) (r : Fin 512) (p : Fin 256) : iblk m c 7 t (ix2 r p) = (args m c).dvb (row t r) p := by
  refine Eq.trans ?_ (congrFun (V_main_arg7 m c) (ix2 (row t r) p))
  blk_ext [iblk, idx t, row]

/-- Its next 128 rows. -/
theorem blk8 (t : Fin cfg0.N) (r : Fin 128) (p : Fin 256) : iblk m c 8 t (ix2 r p) = (args m c).dvb (nxt t r) p := by
  refine Eq.trans ?_ (congrFun (V_main_arg7 m c) (ix2 (nxt t r) p))
  blk_ext [iblk, idx t, nxt]

/-- The block of the gate's gradient. -/
theorem blk9 (t : Fin cfg0.N) (r : Fin 512) (p : Fin 1024) : iblk m c 9 t (ix2 r p) = (args m c).dag (row t r) p := by
  rw [← V0_apply]; blk_ext [iblk, idx t, row]

/-- The extended weight, whole. -/
theorem blk10 (t : Fin cfg0.N) (p : Fin 2048) (k : Fin 1024) : iblk m c 10 t (ix2 p k) = (args m c).w k (src p) := by
  rw [← V13_apply]; blk_ext [iblk, idx t]

end Cert.Kernel2Ideal.Body

end
-- ==== Proof.In.Point.lean ====
/- What the body computes at one grid point: the gradients at the keys, the values and the layer's input on the point's rows,
   and the point's shares of the weight's and the bias's gradient. -/
module

public import proofs.«01_k».proof.Proof.Gen.Kernel2Ideal.Skeleton
public import proofs.«01_k».proof.Proof.In.Blocks
public import Idealize.ShloMosaic.Lib.Pipeline.ReadBack

@[expose] public section

set_option maxRecDepth 16384

noncomputable section

namespace Cert.Kernel2Ideal.Body

open Idealize.ShloMosaic Idealize.ShloMosaic.TcCoe Cert.Kernel2Ideal Cert.Kernel2Ideal.Gen Cert.In

variable (m : (ℓ : Loc nD τ sig) → Buf (Elt Ideal) ℓ) (c : Dev nD) (t : Fin cfg0.N)

/-- The keys' gradient on the point's rows, as the body computes it. -/
abbrev dkV : FVec Ideal S512x256 .f32 :=
  k0_pay5 (grid0.coords t) (iblk m c 5 t)
    (View.ld (iblk m c 4 t) (Rect.unit (s := S512x256) ![128, 0] S384x256.size inb_S512x256_S384x256_128_0)) (iblk m c 3 t)

/-- The values' gradient on the point's rows, as the body computes it. -/
abbrev dvV : FVec Ideal S512x256 .f32 :=
  k0_pay6 (grid0.coords t) (iblk m c 8 t)
    (View.ld (iblk m c 7 t) (Rect.unit (s := S512x256) ![128, 0] S384x256.size inb_S512x256_S384x256_128_0)) (iblk m c 6 t)

/-- The body's test for the last row block. -/
theorem last_eq : ∀ t : Fin cfg0.N, Scalar.cmpi .eq (BitVec.ofNat 32 ↑(grid0.coords t 0)) 15#32
    = if t.val = 15 then 1#1 else 0#1 :=
  (by decide +kernel : ∀ t : Fin grid0.N, _)

/-- The rows below a row block's first 384 are its last 128 and the next block's first, none at the last block. -/
theorem below (b : Fin 8192 → Fin 256 → EReal) (r : Fin 512) (p : Fin 256) :
    (if h : r.val < 384 then b (row t ⟨128 + r.val, by omega⟩) p
      else Scalar.select (Scalar.cmpi .eq (BitVec.ofNat 32 ↑(grid0.coords t 0)) 15#32) (0 : EReal)
        (b (nxt t ⟨r.val - 384, by omega⟩) p))
      = if h : (row t r).val + 128 < 8192 then b ⟨(row t r).val + 128, h⟩ p else 0 := by
  rw [last_eq]
  have ht := lt_16 t
  have hr : (row t r).val = t.val * 512 + r.val := rfl
  by_cases h : r.val < 384
  · rw [dif_pos h, dif_pos (by omega)]
    exact congrArg (b · p) (Fin.ext (by simp only [row]; omega))
  · rw [dif_neg h]
    by_cases h15 : t.val = 15
    · rw [if_pos h15, dif_neg (by omega)]; rfl
    · rw [if_neg h15, dif_pos (by omega)]
      refine Eq.trans (b := b (nxt t ⟨r.val - 384, by omega⟩) p) rfl ?_
      exact congrArg (b · p) (Fin.ext (by simp only [row, nxt]; omega))

/-- The keys' gradient. -/
theorem dk_apply (r : Fin 512) (p : Fin 256) : dkV m c t (ix2 r p) = (args m c).dk (row t r) p := by
  pointwise [k0_pay5]
  refine Eq.trans ?_ (congrArg ((args m c).dka (row t r) p + ·) (below t (args m c).dkb r p))
  simp only [blk3, blk4, blk5]

/-- The values' gradient. -/
theorem dv_apply (r : Fin 512) (p : Fin 256) : dvV m c t (ix2 r p) = (args m c).dv (row t r) p := by
  pointwise [k0_pay6]
  refine Eq.trans ?_ (congrArg ((args m c).dva (row t r) p + ·) (below t (args m c).dvb r p))
  simp only [blk6, blk7, blk8]

/-- The first output's block, as the body stores it. -/
abbrev dxV : FVec Ideal S512x1024 .f32 :=
  k0_pay16 (iblk m c 2 t) (dkV m c t) (dvV m c t) (iblk m c 9 t) (iblk m c 1 t)
    (View.ld (iblk m c 10 t) (Rect.unit (s := S2048x1024) ![0, 0] S512x1024.size inb_S2048x1024_S512x1024_0_0))
    (View.ld (iblk m c 10 t) (Rect.unit (s := S2048x1024) ![512, 0] S256x1024.size inb_S2048x1024_S256x1024_512_0))
    (View.ld (iblk m c 10 t) (Rect.unit (s := S2048x1024) ![768, 0] S256x1024.size inb_S2048x1024_S256x1024_768_0))
    (View.ld (iblk m c 10 t) (Rect.unit (s := S2048x1024) ![1024, 0] S1024x1024.size inb_S2048x1024_S1024x1024_1024_0))

/-- The first 512 rows of the extended weight are the queries' columns. -/
theorem src_q (p : Fin 512) : src ⟨p.val, by omega⟩ = ⟨p.val, by omega⟩ := dif_pos p.isLt

/-- The next 256 repeat the keys' columns. -/
theorem src_k (p : Fin 256) : src ⟨512 + p.val, by omega⟩ = ⟨512 + (kv p).val, by omega⟩ := by
  apply Fin.ext; simp only [src]; split_ifs <;> simp only [kv] <;> omega

/-- The next 256 repeat the values' columns. -/
theorem src_v (p : Fin 256) : src ⟨768 + p.val, by omega⟩ = ⟨640 + (kv p).val, by omega⟩ := by
  apply Fin.ext; simp only [src]; split_ifs <;> simp only [kv] <;> omega

/-- The last 1024 are the gate's columns. -/
theorem src_g (p : Fin 1024) : src ⟨1024 + p.val, by omega⟩ = ⟨768 + p.val, by omega⟩ := by
  apply Fin.ext; simp only [src]; split_ifs <;> simp only [kv] <;> omega

/-- The gradient at the layer's input. -/
theorem dx_apply (h : (args m c).Real) (r : Fin 512) (k : Fin 1024) :
    dxV m c t (ix2 r k) = (args m c).dX (row t r) k := by
  unfold Args.dX
  rw [← h.sum_P (row t r) k, ← add_assoc, ← add_assoc, ← add_assoc]
  pointwise [k0_pay16]
  refine congrArg₂ (· + ·) (congrArg₂ (· + ·) (congrArg₂ (· + ·) (congrArg₂ (· + ·) ?_ ?_) ?_) ?_) ?_
  · rw [blk1]; rfl
  all_goals refine Finset.sum_congr rfl fun p _ => ?_
  · rw [blk10, src_q]; pointwise [k0_pay12]; rw [blk2]
  · rw [blk10, src_k, ← dk_apply]; pointwise [k0_pay13]
  · rw [blk10, src_v, ← dv_apply]; pointwise [k0_pay14]
  · rw [blk10, src_g, ← blk9]; pointwise [k0_pay15]

/-! ## The point's share of the weight's gradient -/

/-- What the point adds at an entry. -/
def termW (t : Fin cfg0.N) (j : Fin 1792 × Fin 1024) : EReal :=
  ∑ r : Fin 512, (args m c).P (row t r) j.1 * (args m c).x (row t r) j.2

/-- A sum of two products with the same real factor, over a row block. -/
theorem sum_two {a b x : Fin 512 → EReal} (ha : ∀ r, Spec.IsReal (a r)) (hb : ∀ r, Spec.IsReal (b r))
    (hx : ∀ r, Spec.IsReal (x r)) : ∑ r, a r * x r + ∑ r, b r * x r = ∑ r, (a r + b r) * x r := by
  rw [← Finset.sum_add_distrib]
  exact Finset.sum_congr rfl fun r _ => (add_mul_real (ha r) (hb r) (hx r)).symm

/-- The store into the queries' rows. -/
theorem storeQ (X : Vec Ideal S512x1024 .f32) (r : Fin 512) (k : Fin 1024) :
    k0_pay18 (k0_pay12 (iblk m c 2 t)) (iblk m c 0 t) X (ix2 r k)
      = (show EReal from X (ix2 r k)) + termW m c t (⟨r.val, by omega⟩, k) := by
  pointwise [k0_pay18]
  refine congrArg (fun s : EReal => (show EReal from X (ix2 r k)) + s) (Finset.sum_congr rfl fun n _ => ?_)
  pointwise [k0_pay12, k0_pay17]
  rw [blk0, blk2]
  refine congrArg (· * _) ?_
  unfold Args.P
  rw [dif_pos (by show r.val < 512; omega)]

/-- The store into the gate's rows. -/
theorem storeG (X : Vec Ideal S1024x1024 .f32) (r : Fin 1024) (k : Fin 1024) :
    k0_pay2 (k0_pay15 (iblk m c 9 t)) (k0_pay17 (iblk m c 0 t)) X (ix2 r k)
      = (show EReal from X (ix2 r k)) + termW m c t (⟨768 + r.val, by omega⟩, k) := by
  pointwise [k0_pay2]
  refine congrArg (fun s : EReal => (show EReal from X (ix2 r k)) + s) (Finset.sum_congr rfl fun n _ => ?_)
  pointwise [k0_pay15, k0_pay17]
  rw [blk0, blk9]
  unfold Args.P
  rw [dif_neg (by show ¬768 + r.val < 512; omega), dif_neg (by show ¬768 + r.val < 640; omega),
    dif_neg (by show ¬768 + r.val < 768; omega)]
  exact congrArg (fun i => (args m c).dag (row t n) i * _) (Fin.ext (by show r.val = 768 + r.val - 768; omega))

/-- What the point adds at a key's row: the two copies' products. -/
theorem termW_k (h : (args m c).Real) (j : Fin 128) (k : Fin 1024) :
    ∑ r : Fin 512, (args m c).dk (row t r) (c1 j) * (args m c).x (row t r) k
        + ∑ r : Fin 512, (args m c).dk (row t r) (c2 j) * (args m c).x (row t r) k
      = termW m c t (⟨512 + j.val, by omega⟩, k) := by
  rw [sum_two (fun r => h.dk _ _) (fun r => h.dk _ _) (fun r => h.x _ _)]
  refine Finset.sum_congr rfl fun r _ => congrArg (· * _) ?_
  unfold Args.P
  rw [dif_neg (by show ¬512 + j.val < 512; omega), dif_pos (by show 512 + j.val < 640; omega)]
  exact congrArg (fun i : Fin 128 => (args m c).dk (row t r) (c1 i) + (args m c).dk (row t r) (c2 i))
    (Fin.ext (by show j.val = 512 + j.val - 512; omega))

/-- What the point adds at a value's row: the two copies' products. -/
theorem termW_v (h : (args m c).Real) (j : Fin 128) (k : Fin 1024) :
    ∑ r : Fin 512, (args m c).dv (row t r) (c1 j) * (args m c).x (row t r) k
        + ∑ r : Fin 512, (args m c).dv (row t r) (c2 j) * (args m c).x (row t r) k
      = termW m c t (⟨640 + j.val, by omega⟩, k) := by
  rw [sum_two (fun r => h.dv _ _) (fun r => h.dv _ _) (fun r => h.x _ _)]
  refine Finset.sum_congr rfl fun r _ => congrArg (· * _) ?_
  unfold Args.P
  rw [dif_neg (by show ¬640 + j.val < 512; omega), dif_neg (by show ¬640 + j.val < 640; omega),
    dif_pos (by show 640 + j.val < 768; omega)]
  exact congrArg (fun i : Fin 128 => (args m c).dv (row t r) (c1 i) + (args m c).dv (row t r) (c2 i))
    (Fin.ext (by show j.val = 640 + j.val - 640; omega))

/-- The store into the first keys' rows. -/
theorem storeK1 (h : (args m c).Real) (X : Vec Ideal S64x1024 .f32) (r : Fin 64) (k : Fin 1024) :
    k0_pay20 (k0_pay13 (dkV m c t)) (iblk m c 0 t) X (ix2 r k)
      = (show EReal from X (ix2 r k)) + termW m c t (⟨512 + r.val, by omega⟩, k) := by
  rw [← termW_k m c t h ⟨r.val, by omega⟩ k]
  pointwise [k0_pay20, k0_pay19]
  refine congrArg (fun s : EReal => (show EReal from X (ix2 r k)) + s) (congrArg₂ (· + ·)
    (Finset.sum_congr rfl fun n _ => ?_) (Finset.sum_congr rfl fun n _ => ?_)) <;>
    pointwise [k0_pay13, k0_pay17] <;> rw [blk0, dk_apply] <;>
    refine congrArg (fun p => (args m c).dk (row t n) p * _) (Fin.ext ?_) <;> simp only [c1, c2] <;> omega

/-- The store into the second keys' rows. -/
theorem storeK2 (h : (args m c).Real) (X : Vec Ideal S64x1024 .f32) (r : Fin 64) (k : Fin 1024) :
    k0_pay21 (k0_pay13 (dkV m c t)) (iblk m c 0 t) X (ix2 r k)
      = (show EReal from X (ix2 r k)) + termW m c t (⟨512 + (64 + r.val), by omega⟩, k) := by
  rw [← termW_k m c t h ⟨64 + r.val, by omega⟩ k]
  pointwise [k0_pay21, k0_pay19]
  refine congrArg (fun s : EReal => (show EReal from X (ix2 r k)) + s) (congrArg₂ (· + ·)
    (Finset.sum_congr rfl fun n _ => ?_) (Finset.sum_congr rfl fun n _ => ?_)) <;>
    pointwise [k0_pay13, k0_pay17] <;> rw [blk0, dk_apply] <;>
    refine congrArg (fun p => (args m c).dk (row t n) p * _) (Fin.ext ?_) <;> simp only [c1, c2] <;> omega

/-- The store into the first values' rows. -/
theorem storeV1 (h : (args m c).Real) (X : Vec Ideal S64x1024 .f32) (r : Fin 64) (k : Fin 1024) :
    k0_pay23 (k0_pay14 (dvV m c t)) (iblk m c 0 t) X (ix2 r k)
      = (show EReal from X (ix2 r k)) + termW m c t (⟨640 + r.val, by omega⟩, k) := by
  rw [← termW_v m c t h ⟨r.val, by omega⟩ k]
  pointwise [k0_pay23, k0_pay22]
  refine congrArg (fun s : EReal => (show EReal from X (ix2 r k)) + s) (congrArg₂ (· + ·)
    (Finset.sum_congr rfl fun n _ => ?_) (Finset.sum_congr rfl fun n _ => ?_)) <;>
    pointwise [k0_pay14, k0_pay17] <;> rw [blk0, dv_apply] <;>
    refine congrArg (fun p => (args m c).dv (row t n) p * _) (Fin.ext ?_) <;> simp only [c1, c2] <;> omega

/-- The store into the second values' rows. -/
theorem storeV2 (h : (args m c).Real) (X : Vec Ideal S64x1024 .f32) (r : Fin 64) (k : Fin 1024) :
    k0_pay1 (k0_pay22 (k0_pay14 (dvV m c t)) (iblk m c 0 t)) X (ix2 r k)
      = (show EReal from X (ix2 r k)) + termW m c t (⟨640 + (64 + r.val), by omega⟩, k) := by
  rw [← termW_v m c t h ⟨64 + r.val, by omega⟩ k]
  pointwise [k0_pay1, k0_pay22]
  refine congrArg (fun s : EReal => (show EReal from X (ix2 r k)) + s) (congrArg₂ (· + ·)
    (Finset.sum_congr rfl fun n _ => ?_) (Finset.sum_congr rfl fun n _ => ?_)) <;>
    pointwise [k0_pay14, k0_pay17] <;> rw [blk0, dv_apply] <;>
    refine congrArg (fun p => (args m c).dv (row t n) p * _) (Fin.ext ?_) <;> simp only [c1, c2] <;> omega

/-! ## The point's share of the bias's gradient -/

/-- What the point adds at an entry. -/
def termB (t : Fin cfg0.N) (j : Fin 8 × Fin 1024) : EReal :=
  if j.1.val = 0 then ∑ r : Fin 512, (args m c).bias (row t r) j.2 else 0

/-- The store into the queries' columns. -/
theorem storeBq (X : Vec Ideal S1x512 .f32) (p : Fin 512) :
    k0_pay7 (iblk m c 2 t) X (ix2 (0 : Fin 1) p)
      = (show EReal from X (ix2 (0 : Fin 1) p)) + termB m c t (0, ⟨p.val, by omega⟩) := by
  pointwise [k0_pay7]
  refine congrArg (fun s : EReal => (show EReal from X (ix2 (0 : Fin 1) p)) + s) ?_
  refine Eq.trans (Finset.sum_congr rfl fun n _ => ?_) (if_pos rfl).symm
  rw [blk2]
  unfold Args.bias
  rw [dif_pos (by show p.val < 512; omega)]

/-- The store into the keys' columns. -/
theorem storeBk (X : Vec Ideal S1x256 .f32) (p : Fin 256) :
    k0_pay10 (k0_pay8 X) (k0_pay9 (grid0.coords t) (iblk m c 5 t)
        (View.ld (iblk m c 4 t) (Rect.unit (s := S512x256) ![128, 0] S384x256.size inb_S512x256_S384x256_128_0))
        (iblk m c 3 t)) (ix2 (0 : Fin 1) p)
      = (show EReal from X (ix2 (0 : Fin 1) p)) + termB m c t (0, ⟨512 + p.val, by omega⟩) := by
  pointwise [k0_pay10, k0_pay8, k0_pay9]
  refine congrArg (fun s : EReal => (show EReal from X (ix2 (0 : Fin 1) p)) + s) ?_
  refine Eq.trans (Finset.sum_congr rfl fun n _ => ?_) (if_pos rfl).symm
  refine (dk_apply m c t n p).trans ?_
  unfold Args.bias
  rw [dif_neg (by show ¬512 + p.val < 512; omega), dif_pos (by show 512 + p.val < 768; omega)]
  exact congrArg ((args m c).dk (row t n)) (Fin.ext (by show p.val = 512 + p.val - 512; omega))

/-- The store into the values' columns. -/
theorem storeBv (X : Vec Ideal S1x256 .f32) (p : Fin 256) :
    k0_pay11 (dvV m c t) X (ix2 (0 : Fin 1) p)
      = (show EReal from X (ix2 (0 : Fin 1) p)) + termB m c t (0, ⟨768 + p.val, by omega⟩) := by
  pointwise [k0_pay11]
  refine congrArg (fun s : EReal => (show EReal from X (ix2 (0 : Fin 1) p)) + s) ?_
  refine Eq.trans (Finset.sum_congr rfl fun n _ => ?_) (if_pos rfl).symm
  refine (dv_apply m c t n p).trans ?_
  unfold Args.bias
  rw [dif_neg (by show ¬768 + p.val < 512; omega), dif_neg (by show ¬768 + p.val < 768; omega)]
  exact congrArg ((args m c).dv (row t n)) (Fin.ext (by show p.val = 768 + p.val - 768; omega))

end Cert.Kernel2Ideal.Body

end
-- ==== Proof.In.Outs.lean ====
/- What the three output buffers hold at a grid point: the gradient at the layer's input, and the weight's and the bias's
   gradient as sums over the row blocks taken so far. -/
module

public import proofs.«01_k».proof.Proof.In.Frame
public import proofs.«01_k».proof.Proof.In.Point
public import Idealize.ShloMosaic.Lib.WritesUnit

@[expose] public section

set_option maxRecDepth 16384

noncomputable section

namespace Cert.Kernel2Ideal.Body

open Idealize.ShloMosaic Idealize.ShloMosaic.TcCoe Cert.Kernel2Ideal Cert.Kernel2Ideal.Gen Cert.In

variable (m : (ℓ : Loc nD τ sig) → Buf (Elt Ideal) ℓ) (c : Dev nD) (t : Fin cfg0.N)

/-! ## The gradient at the layer's input, written at every point -/

/-- The first output's buffer holds the block the point computes. -/
theorem outs11 : (outsAt m c t.val t.isLt).1 = dxV m c t := by
  by_cases h : t.val = 0
  · rw [outsAt_A m c t h]
    dsimp only [outsA, outA11]
    frame_open
    simp (disch := decide) only [↓ View.readCov_fill]
    frame_out
    rfl
  · rw [outsAt_B m c t h]
    dsimp only [outsB, outB11]
    frame_open
    simp (disch := decide) only [↓ View.readCov_fill]
    frame_out
    rfl

/-! ## The weight's gradient: six stores of whole rows -/

section Rows

variable {κ : Kind} {sp : Space} (v : View sig κ sp S1792x1024 .f32) (f : v.ty.Contents (Elt Ideal))
  (L : List (View.Piece (Elt Ideal) S1792x1024 .f32)) (X : Vec Ideal S1792x1024 .f32)

/-- The six stores of a point, newest first, where the buffer held `X`. -/
abbrev rowStores : List (View.Piece (Elt Ideal) S1792x1024 .f32) :=
  ⟨Rect.unit (s := S1792x1024) ![768, 0] S1024x1024.size inb_S1792x1024_S1024x1024_768_0,
      k0_pay2 (k0_pay15 (iblk m c 9 t)) (k0_pay17 (iblk m c 0 t))
        (View.ld X (Rect.unit (s := S1792x1024) ![768, 0] S1024x1024.size inb_S1792x1024_S1024x1024_768_0))⟩
    :: ⟨Rect.unit (s := S1792x1024) ![704, 0] S64x1024.size inb_S1792x1024_S64x1024_704_0,
      k0_pay1 (k0_pay22 (k0_pay14 (dvV m c t)) (iblk m c 0 t))
        (View.ld X (Rect.unit (s := S1792x1024) ![704, 0] S64x1024.size inb_S1792x1024_S64x1024_704_0))⟩
    :: ⟨Rect.unit (s := S1792x1024) ![640, 0] S64x1024.size inb_S1792x1024_S64x1024_640_0,
      k0_pay23 (k0_pay14 (dvV m c t)) (iblk m c 0 t)
        (View.ld X (Rect.unit (s := S1792x1024) ![640, 0] S64x1024.size inb_S1792x1024_S64x1024_640_0))⟩
    :: ⟨Rect.unit (s := S1792x1024) ![576, 0] S64x1024.size inb_S1792x1024_S64x1024_576_0,
      k0_pay21 (k0_pay13 (dkV m c t)) (iblk m c 0 t)
        (View.ld X (Rect.unit (s := S1792x1024) ![576, 0] S64x1024.size inb_S1792x1024_S64x1024_576_0))⟩
    :: ⟨Rect.unit (s := S1792x1024) ![512, 0] S64x1024.size inb_S1792x1024_S64x1024_512_0,
      k0_pay20 (k0_pay13 (dkV m c t)) (iblk m c 0 t)
        (View.ld X (Rect.unit (s := S1792x1024) ![512, 0] S64x1024.size inb_S1792x1024_S64x1024_512_0))⟩
    :: ⟨Rect.unit (s := S1792x1024) ![0, 0] S512x1024.size inb_S1792x1024_S512x1024_0_0,
      k0_pay18 (k0_pay12 (iblk m c 2 t)) (iblk m c 0 t)
        (View.ld X (Rect.unit (s := S1792x1024) ![0, 0] S512x1024.size inb_S1792x1024_S512x1024_0_0))⟩ :: L

/-- Rows loaded from offset `o` are the rows from there on. -/
theorem ld_rows {n : ℕ} (o : ℕ) (inb) (r : Fin n) (k : Fin 1024) (h : o + r.val < 1792) :
    View.ld X (Rect.unit (s := S1792x1024) ![o, 0] (⟨2, ![n, 1024]⟩ : Shape).size inb) (ix2 r k) = X (ix2 ⟨o + r.val, h⟩ k) := by
  refine congrArg X ?_
  funext a; apply Fin.ext; fin_cases a
  · show o + 1 * r.val = o + r.val; omega
  · show 0 + 1 * k.val = k.val; omega

/-- After the six stores the buffer holds `X` and the point's share. -/
theorem rowStores_add (h : (args m c).Real) (j : Fin 1792 × Fin 1024) :
    v.read (Elt Ideal) (v.writes (Elt Ideal) f (rowStores m c t L X)) (ix2 j.1 j.2)
      = (show EReal from X (ix2 j.1 j.2)) + termW m c t j := by
  obtain ⟨j, k⟩ := j
  have hit : ∀ (o n : ℕ) (inb) (w : Vec Ideal ⟨2, ![n, 1024]⟩ .f32) (L' : List (View.Piece (Elt Ideal) S1792x1024 .f32))
      (r : Fin n) (hr : j.val = o + r.val) (hw : w (ix2 r k) = (show EReal from X (ix2 j k)) + termW m c t (j, k)),
      v.read (Elt Ideal) (v.writes (Elt Ideal) f
        (⟨Rect.unit (s := S1792x1024) ![o, 0] (⟨2, ![n, 1024]⟩ : Shape).size inb, w⟩ :: L')) (ix2 j k)
        = (show EReal from X (ix2 j k)) + termW m c t (j, k) := fun o n inb w L' r hr hw =>
    (View.read_writes_cons_rows_of_mem v f inb w L' (ix2 j k) (ix2 r k) (o := o) rfl hr rfl).trans hw
  have miss : ∀ (o n : ℕ) (hj : j.val < o) (inb) (w : Vec Ideal ⟨2, ![n, 1024]⟩ .f32)
      (L' : List (View.Piece (Elt Ideal) S1792x1024 .f32)),
      v.read (Elt Ideal) (v.writes (Elt Ideal) f
        (⟨Rect.unit (s := S1792x1024) ![o, 0] (⟨2, ![n, 1024]⟩ : Shape).size inb, w⟩ :: L')) (ix2 j k)
        = v.read (Elt Ideal) (v.writes (Elt Ideal) f L') (ix2 j k) := fun o n hj inb w L' =>
    View.read_writes_cons_rows_of_not_mem v f inb w L' (ix2 j k) (o := o) (W := n) rfl rfl (Or.inl hj)
  have at_ : ∀ (o n : ℕ) (inb) (r : Fin n) (hr : j.val = o + r.val) (i : Fin 1792) (hi : j.val = i.val),
      (show EReal from View.ld X (Rect.unit (s := S1792x1024) ![o, 0] (⟨2, ![n, 1024]⟩ : Shape).size inb) (ix2 r k))
        + termW m c t (i, k) = (show EReal from X (ix2 j k)) + termW m c t (j, k) := fun o n inb r hr i hi => by
    obtain rfl : j = i := Fin.ext hi
    exact congrArg (fun s : EReal => s + termW m c t (j, k)) ((ld_rows X o inb r k (hr ▸ j.isLt)).trans
      (congrArg (fun i => X (ix2 i k)) (Fin.ext hr.symm)))
  rcases lt_or_ge j.val 768 with h768 | h768
  · refine (miss 768 1024 h768 _ _ _).trans ?_
    rcases lt_or_ge j.val 704 with h704 | h704
    · refine (miss 704 64 h704 _ _ _).trans ?_
      rcases lt_or_ge j.val 640 with h640 | h640
      · refine (miss 640 64 h640 _ _ _).trans ?_
        rcases lt_or_ge j.val 576 with h576 | h576
        · refine (miss 576 64 h576 _ _ _).trans ?_
          rcases lt_or_ge j.val 512 with h512 | h512
          · refine (miss 512 64 h512 _ _ _).trans ?_
            refine hit 0 512 _ _ _ ⟨j.val, h512⟩ (by simp) ((storeQ m c t _ _ k).trans (at_ 0 512 _ _ (by simp) _ ?_))
            rfl
          · refine hit 512 64 _ _ _ ⟨j.val - 512, by omega⟩ (by simp only; omega)
              ((storeK1 m c t h _ _ k).trans (at_ 512 64 _ _ (by simp only; omega) _ ?_))
            simp only; omega
        · refine hit 576 64 _ _ _ ⟨j.val - 576, by omega⟩ (by simp only; omega)
            ((storeK2 m c t h _ _ k).trans (at_ 576 64 _ _ (by simp only; omega) _ ?_))
          simp only; omega
      · refine hit 640 64 _ _ _ ⟨j.val - 640, by omega⟩ (by simp only; omega)
          ((storeV1 m c t h _ _ k).trans (at_ 640 64 _ _ (by simp only; omega) _ ?_))
        simp only; omega
    · refine hit 704 64 _ _ _ ⟨j.val - 704, by omega⟩ (by simp only; omega)
        ((storeV2 m c t h _ _ k).trans (at_ 704 64 _ _ (by simp only; omega) _ ?_))
      simp only; omega
  · refine hit 768 1024 _ _ _ ⟨j.val - 768, by omega⟩ (by simp only; omega)
      ((storeG m c t _ _ k).trans (at_ 768 1024 _ _ (by simp only; omega) _ ?_))
    simp only; omega

end Rows

/-- At the first point the weight's gradient starts from zero. -/
theorem outs12_A (hR : (args m c).Real) (h : t.val = 0) (j : Fin 1792 × Fin 1024) :
    (outsAt m c t.val t.isLt).2.1 (ix2 j.1 j.2) = (0 : EReal) + termW m c t j := by
  rw [outsAt_A m c t h]
  dsimp only [outsA, outA12]
  frame_open
  simp (disch := decide) only [↓ View.readCov_skip, ↓ View.readCov_cons_toLoadRect, ↓ View.readCov_fill]
  frame_out
  rw [← View.read_writes_junk_apply_eq_canon VO12]
  refine (rowStores_add m c t _ _ _ _ hR j).trans ?_
  pointwise [k0_pay3]

/-- At a later point it goes on from what the point before left. -/
theorem outs12_B (hR : (args m c).Real) (h : ¬t.val = 0) (j : Fin 1792 × Fin 1024) :
    (outsAt m c t.val t.isLt).2.1 (ix2 j.1 j.2)
      = (show EReal from (outsAt m c (t.val - 1) (prev_lt t)).2.1 (ix2 j.1 j.2)) + termW m c t j := by
  rw [outsAt_B m c t h]
  dsimp only [outsB, outB12]
  frame_open
  simp (disch := decide) only [↓ View.readCov_skip, ↓ View.readCov_cons_toLoadRect, ↓ View.readCov_fill]
  frame_out
  exact rowStores_add m c t _ _ [] _ hR j

/-! ## The bias's gradient: three stores into the first row -/

section Cols

variable {κ : Kind} {sp : Space} (v : View sig κ sp S8x1024 .f32) (f : v.ty.Contents (Elt Ideal))
  (L : List (View.Piece (Elt Ideal) S8x1024 .f32)) (X : Vec Ideal S8x1024 .f32)

/-- The three stores of a point, newest first, where the buffer held `X`. -/
abbrev colStores : List (View.Piece (Elt Ideal) S8x1024 .f32) :=
  ⟨Rect.unit (s := S8x1024) ![0, 768] S1x256.size inb_S8x1024_S1x256_0_768,
      k0_pay11 (dvV m c t) (View.ld X (Rect.unit (s := S8x1024) ![0, 768] S1x256.size inb_S8x1024_S1x256_0_768))⟩
    :: ⟨Rect.unit (s := S8x1024) ![0, 512] S1x256.size inb_S8x1024_S1x256_0_512,
      k0_pay10 (k0_pay8 (View.ld X (Rect.unit (s := S8x1024) ![0, 512] S1x256.size inb_S8x1024_S1x256_0_512)))
        (k0_pay9 (grid0.coords t) (iblk m c 5 t)
          (View.ld (iblk m c 4 t) (Rect.unit (s := S512x256) ![128, 0] S384x256.size inb_S512x256_S384x256_128_0))
          (iblk m c 3 t))⟩
    :: ⟨Rect.unit (s := S8x1024) ![0, 0] S1x512.size inb_S8x1024_S1x512_0_0,
      k0_pay7 (iblk m c 2 t) (View.ld X (Rect.unit (s := S8x1024) ![0, 0] S1x512.size inb_S8x1024_S1x512_0_0))⟩ :: L

/-- Columns loaded from the first row at offset `o` are the columns from there on. -/
theorem ld_cols {n : ℕ} (o : ℕ) (inb) (p : Fin n) (h : o + p.val < 1024) :
    View.ld X (Rect.unit (s := S8x1024) ![0, o] (⟨2, ![1, n]⟩ : Shape).size inb) (ix2 (0 : Fin 1) p)
      = X (ix2 (0 : Fin 8) ⟨o + p.val, h⟩) := by
  refine congrArg X ?_
  funext a; apply Fin.ext; fin_cases a
  · rfl
  · show o + 1 * p.val = o + p.val; omega

/-- If the buffer held `X`, it holds `X` and the point's share after the three stores. -/
theorem colStores_add (hL : ∀ y, v.read (Elt Ideal) (v.writes (Elt Ideal) f L) y = X y) (j : Fin 8 × Fin 1024) :
    v.read (Elt Ideal) (v.writes (Elt Ideal) f (colStores m c t L X)) (ix2 j.1 j.2)
      = (show EReal from X (ix2 j.1 j.2)) + termB m c t j := by
  obtain ⟨j, p⟩ := j
  have off : ∀ (o n : ℕ) (hj : 1 ≤ j.val) (inb) (w : Vec Ideal ⟨2, ![1, n]⟩ .f32)
      (L' : List (View.Piece (Elt Ideal) S8x1024 .f32)),
      v.read (Elt Ideal) (v.writes (Elt Ideal) f
        (⟨Rect.unit (s := S8x1024) ![0, o] (⟨2, ![1, n]⟩ : Shape).size inb, w⟩ :: L')) (ix2 j p)
        = v.read (Elt Ideal) (v.writes (Elt Ideal) f L') (ix2 j p) := fun o n hj inb w L' =>
    View.read_writes_cons_unit_of_not_mem _ _ _ _ _ _ rfl 0 (Or.inr hj)
  have left : ∀ (o n : ℕ) (hp : p.val < o) (inb) (w : Vec Ideal ⟨2, ![1, n]⟩ .f32)
      (L' : List (View.Piece (Elt Ideal) S8x1024 .f32)),
      v.read (Elt Ideal) (v.writes (Elt Ideal) f
        (⟨Rect.unit (s := S8x1024) ![0, o] (⟨2, ![1, n]⟩ : Shape).size inb, w⟩ :: L')) (ix2 j p)
        = v.read (Elt Ideal) (v.writes (Elt Ideal) f L') (ix2 j p) := fun o n hp inb w L' =>
    View.read_writes_cons_unit_of_not_mem _ _ _ _ _ _ rfl 1 (Or.inl hp)
  have hit : ∀ (o n : ℕ) (h0 : j = 0) (inb) (w : Vec Ideal ⟨2, ![1, n]⟩ .f32)
      (L' : List (View.Piece (Elt Ideal) S8x1024 .f32)) (q : Fin n) (hq : p.val = o + q.val),
      v.read (Elt Ideal) (v.writes (Elt Ideal) f
        (⟨Rect.unit (s := S8x1024) ![0, o] (⟨2, ![1, n]⟩ : Shape).size inb, w⟩ :: L')) (ix2 j p)
        = w (ix2 (0 : Fin 1) q) := fun o n h0 inb w L' q hq => by
    refine View.read_writes_cons_unit_of_mem _ _ inb w L' _ (ix2 (0 : Fin 1) q) rfl fun a => ?_
    fin_cases a
    · exact congrArg Fin.val h0
    · exact hq
  have at_ : ∀ (o n : ℕ) (h0 : j = 0) (inb) (q : Fin n) (hq : p.val = o + q.val) (i : Fin 1024) (hi : p.val = i.val),
      (show EReal from View.ld X (Rect.unit (s := S8x1024) ![0, o] (⟨2, ![1, n]⟩ : Shape).size inb) (ix2 (0 : Fin 1) q))
        + termB m c t (0, i) = (show EReal from X (ix2 j p)) + termB m c t (j, p) := fun o n h0 inb q hq i hi => by
    obtain rfl : p = i := Fin.ext hi
    subst h0
    exact congrArg (fun s : EReal => s + termB m c t (0, p)) ((ld_cols X o inb q (hq ▸ p.isLt)).trans
      (congrArg (fun i => X (ix2 0 i)) (Fin.ext hq.symm)))
  rcases Nat.eq_zero_or_pos j.val with hj | hj
  · have h0 : j = 0 := Fin.ext hj
    rcases lt_or_ge p.val 768 with h768 | h768
    · refine (left 768 256 h768 _ _ _).trans ?_
      rcases lt_or_ge p.val 512 with h512 | h512
      · refine (left 512 256 h512 _ _ _).trans ((hit 0 512 h0 _ _ _ ⟨p.val, h512⟩ (by simp)).trans
          ((storeBq m c t _ _).trans (at_ 0 512 h0 _ _ (by simp) _ ?_)))
        rfl
      · refine (hit 512 256 h0 _ _ _ ⟨p.val - 512, by omega⟩ (by simp only; omega)).trans
          ((storeBk m c t _ _).trans (at_ 512 256 h0 _ _ (by simp only; omega) _ ?_))
        simp only; omega
    · refine (hit 768 256 h0 _ _ _ ⟨p.val - 768, by omega⟩ (by simp only; omega)).trans
        ((storeBv m c t _ _).trans (at_ 768 256 h0 _ _ (by simp only; omega) _ ?_))
      simp only; omega
  · have e : termB m c t (j, p) = 0 := if_neg (by show ¬j.val = 0; omega)
    rw [e, add_zero]
    exact (off 768 256 hj _ _ _).trans ((off 512 256 hj _ _ _).trans ((off 0 512 hj _ _ _).trans (hL _)))

end Cols

/-- At the first point the bias's gradient starts from zero. -/
theorem outs13_A (h : t.val = 0) (j : Fin 8 × Fin 1024) :
    (outsAt m c t.val t.isLt).2.2 (ix2 j.1 j.2) = (0 : EReal) + termB m c t j := by
  rw [outsAt_A m c t h]
  dsimp only [outsA, outA13]
  frame_open
  simp (disch := decide) only [↓ View.readCov_skip, ↓ View.readCov_cons_toLoadRect, ↓ View.readCov_fill]
  frame_out
  rw [← View.read_writes_junk_apply_eq_canon VO13]
  refine (colStores_add m c t _ _ _ _ (fun y => ?_) j).trans ?_
  · rw [View.read_writes_junk_apply_eq_canon, View.canon_cons_unit_lit _ _ _ (by decide)]
  pointwise [k0_pay4]

/-- At a later point it goes on from what the point before left. -/
theorem outs13_B (h : ¬t.val = 0) (j : Fin 8 × Fin 1024) :
    (outsAt m c t.val t.isLt).2.2 (ix2 j.1 j.2)
      = (show EReal from (outsAt m c (t.val - 1) (prev_lt t)).2.2 (ix2 j.1 j.2)) + termB m c t j := by
  rw [outsAt_B m c t h]
  dsimp only [outsB, outB13]
  frame_open
  simp (disch := decide) only [↓ View.readCov_skip, ↓ View.readCov_cons_toLoadRect, ↓ View.readCov_fill]
  frame_out
  exact colStores_add m c t _ _ [] _ (fun y => congrFun ((hs13 t).read_unread _) y) j

end Cert.Kernel2Ideal.Body

end
-- ==== Proof.In.Final.lean ====
/- The three output arrays of the input projection's gradient after the run: the two accumulators are sums over all rows, and
   each array is the corresponding array of Spec.lean. -/
module

public import proofs.«01_k».proof.Proof.In.Outs

@[expose] public section

set_option maxRecDepth 16384

noncomputable section

namespace Cert.Kernel2Ideal.Body

open Idealize.ShloMosaic Idealize.ShloMosaic.TcCoe Idealize.SL.Sem Cert.Kernel2Ideal Cert.Kernel2Ideal.Gen Cert.In

/-! ## The run, at any float values -/

section Run

variable {F : FTy → Type} [FloatOps F] (m : (ℓ : Loc nD τ sig) → Buf (Elt F) ℓ) (ρ : Dev nD → PrngReg)

/-- The whole run: the arguments stay, the outputs hold the blocks written back, and the semaphores are zero again. -/
theorem run_all : θ_run defs (onTc (τ := τ) (main (F := F))) ⟨m, fun _ => 0, ρ⟩ (fun r =>
    (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
    ∧ Pipeline.FramePost cfgs (dats m) 0 (V m) r ∧ r.2.sem = fun _ => 0) :=
  θ_run_and (frame_of m ρ (dats m) (A_eq m) ((θ_run defs _ _).mono (fun _ h => h.1) (run_main m ρ))) (run_main m ρ)

/-- Of which the frame: the arguments stay, and the semaphores are zero again. -/
theorem run_frame : θ_run defs (onTc (τ := τ) (main (F := F))) ⟨m, fun _ => 0, ρ⟩ (fun r =>
    (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
    ∧ r.2.sem = fun _ => 0) :=
  (θ_run defs _ _).mono (fun _ h => ⟨h.1, h.2.2⟩) (run_all m ρ)

end Run

variable (m : (ℓ : Loc nD τ sig) → Buf (Elt Ideal) ℓ) (c : Dev nD)

/-! ## Sums over the row blocks -/

/-- A value that starts from zero at the first point and adds, row block by row block, the sum of `G` over the block's rows
is, at the last point, the sum over all rows. -/
theorem run_sum {ι : Type} (f : (n : ℕ) → n < cfg0.N → ι → EReal) (G : Fin 8192 → ι → EReal)
    (hA : ∀ t : Fin cfg0.N, t.val = 0 → ∀ j, f t.val t.isLt j = 0 + ∑ r, G (row t r) j)
    (hB : ∀ t : Fin cfg0.N, ¬t.val = 0 → ∀ j, f t.val t.isLt j = f (t.val - 1) (prev_lt t) j + ∑ r, G (row t r) j)
    (t : Fin cfg0.N) (ht : t.val % 16 = 15) (j : ι) : f t.val t.isLt j = ∑ n, G n j := by
  rw [Pipeline.eq_sum_fin_of_reset_step_apply_of_flush f 16 (fun _ => 0) (fun t j => ∑ r, G (row t r) j)
    (fun t h => hA t (by have := lt_16 t; omega)) (fun t h => hB t (by omega)) t ht j, zero_add]
  refine Fin.sum_mul_add_congr fun s k hl => ?_
  refine congrArg (fun n => G n j) (Fin.ext ?_)
  show (16 * (t.val / 16) + s.val) * 512 + k.val = s.val * 512 + k.val
  have := lt_16 t
  omega

/-- The weight's gradient at the last point. -/
theorem last12 (h : (args m c).Real) (t : Fin cfg0.N) (ht : t.val % 16 = 15) (j : Fin 1792 × Fin 1024) :
    (outsAt m c t.val t.isLt).2.1 (ix2 j.1 j.2) = (args m c).dW j.1 j.2 :=
  run_sum (fun n h j => (outsAt m c n h).2.1 (ix2 j.1 j.2)) (fun n j => (args m c).P n j.1 * (args m c).x n j.2)
    (fun t => outs12_A m c t h) (fun t => outs12_B m c t h) t ht j

/-- What a point adds to the bias's gradient, as a sum over its rows. -/
theorem termB_eq (t : Fin cfg0.N) (j : Fin 8 × Fin 1024) :
    termB m c t j = ∑ r : Fin 512, if j.1.val = 0 then (args m c).bias (row t r) j.2 else 0 := by
  unfold termB
  split
  · rfl
  · exact Finset.sum_const_zero.symm

/-- The bias's gradient at the last point. -/
theorem last13 (t : Fin cfg0.N) (ht : t.val % 16 = 15) (j : Fin 8 × Fin 1024) :
    (outsAt m c t.val t.isLt).2.2 (ix2 j.1 j.2) = (args m c).dB j.1.val j.2 := by
  rw [run_sum (fun n h j => (outsAt m c n h).2.2 (ix2 j.1 j.2))
    (fun n j => if j.1.val = 0 then (args m c).bias n j.2 else 0)
    (fun t h j => by rw [← termB_eq]; exact outs13_A m c t h j)
    (fun t h j => by rw [← termB_eq]; exact outs13_B m c t h j) t ht j]
  unfold Args.dB
  split
  · rfl
  · exact Finset.sum_const_zero

/-! ## The arrays -/

/-- The gradient at the layer's input. -/
theorem arr11 (h : (args m c).Real) :
    (dats m 0 c).arrAt 11 cfg0.N = fun i : S8192x1024.Idx => (args m c).dX (i 0) (i 1) :=
  (dats m 0 c).arrAt_eq_of_covers 11 _ (by decide +kernel) fun t hf y => by
    blk_simp
    rw [after_11, outs11]
    refine (congrArg _ (by funext a; fin_cases a <;> rfl : y = ix2 (y 0) (y 1))).trans ((dx_apply m c t h (y 0) (y 1)).trans ?_)
    refine congrArg₂ (args m c).dX (Fin.ext ?_) (Fin.ext ?_) <;> blk_simp [idx t, row]

/-- The weight's gradient, transposed. -/
theorem arr12 (h : (args m c).Real) :
    (dats m 0 c).arrAt 12 cfg0.N = fun i : S1792x1024.Idx => (args m c).dW (i 0) (i 1) :=
  (dats m 0 c).arrAt_eq_of_covers 12 _ (by decide +kernel) fun t hf y => by
    have ht := (flush0_12 t).mp hf
    blk_simp
    rw [after_12]
    refine (congrArg _ (by funext a; fin_cases a <;> rfl : y = ix2 (y 0) (y 1))).trans ((last12 m c h t ht (y 0, y 1)).trans ?_)
    refine congrArg₂ (args m c).dW (Fin.ext ?_) (Fin.ext ?_) <;> blk_simp [idx t]

/-- The bias's gradient, in the first of eight rows. -/
theorem arr13 : (dats m 0 c).arrAt 13 cfg0.N = fun i : S8x1024.Idx => (args m c).dB (i 0).val (i 1) :=
  (dats m 0 c).arrAt_eq_of_covers 13 _ (by decide +kernel) fun t hf y => by
    have ht := (flush0_13 t).mp hf
    blk_simp
    rw [after_13]
    refine (congrArg _ (by funext a; fin_cases a <;> rfl : y = ix2 (y 0) (y 1))).trans ((last13 m c t ht (y 0, y 1)).trans ?_)
    refine congrArg₂ (fun r p => (args m c).dB r p) ?_ (Fin.ext ?_) <;> blk_simp [idx t]

end Cert.Kernel2Ideal.Body

end
-- ==== Proof.In.Ref.lean ====
/- The second reference, read at an index: each of its arrays is the corresponding array of Spec.lean. -/
module

public import proofs.«01_k».proof.Proof.Gen.Reference2Ideal.Read
public import proofs.«01_k».proof.Proof.In.Spec
public import Idealize.ShloMosaic.Lib.Pointwise
public import Idealize.ShloMosaic.Lib.Pipeline.ValueKit

@[expose] public section

set_option maxRecDepth 16384

noncomputable section

namespace Cert.Reference2Ideal.Body

open Idealize.ShloMosaic Idealize.ShloMosaic.TcCoe Cert.Reference2Ideal Cert.Reference2Ideal.Read Cert.In

variable (x0 : (⟨S8192x1024, .f32⟩ : BufTy).Contents (Elt Ideal)) (x1 : (⟨S1024x1792, .f32⟩ : BufTy).Contents (Elt Ideal))
  (x2 : (⟨S8192x1024, .f32⟩ : BufTy).Contents (Elt Ideal)) (x3 : (⟨S8192x512, .f32⟩ : BufTy).Contents (Elt Ideal))
  (x4 x5 x6 x7 : (⟨S8192x256, .f32⟩ : BufTy).Contents (Elt Ideal)) (x8 : (⟨S8192x1024, .f32⟩ : BufTy).Contents (Elt Ideal))

/-- The arguments' entries. -/
def args : Args where
  x n k := x0 (ix2 n k)
  w k j := x1 (ix2 k j)
  dp n k := x2 (ix2 n k)
  dq n p := x3 (ix2 n p)
  dka n p := x4 (ix2 n p)
  dkb n p := x5 (ix2 n p)
  dva n p := x6 (ix2 n p)
  dvb n p := x7 (ix2 n p)
  dag n p := x8 (ix2 n p)

/-- The gradient at the keys. -/
theorem dk_eq (n : Fin 8192) (p : Fin 256) :
    val_main_v41 (F := Ideal) x4 x5 (ix2 n p) = (args x0 x1 x2 x3 x4 x5 x6 x7 x8).dk n p := by
  pointwise [val_main_v41, val_main_v40, val_main_v39, val_main_cst_6]
  refine congrArg (x4 (ix2 n p) + ·) ?_
  split
  · rename_i h
    rw [dif_pos (by omega)]
    exact congrArg (fun i => x5 (ix2 i p)) (Fin.ext (Nat.add_comm 128 n.val))
  · rw [dif_neg (by omega)]

/-- The gradient at the values. -/
theorem dv_eq (n : Fin 8192) (p : Fin 256) :
    val_main_v37 (F := Ideal) x6 x7 (ix2 n p) = (args x0 x1 x2 x3 x4 x5 x6 x7 x8).dv n p := by
  pointwise [val_main_v37, val_main_v36, val_main_v35, val_main_cst_5]
  refine congrArg (x6 (ix2 n p) + ·) ?_
  split
  · rename_i h
    rw [dif_pos (by omega)]
    exact congrArg (fun i => x7 (ix2 i p)) (Fin.ext (Nat.add_comm 128 n.val))
  · rw [dif_neg (by omega)]

/-- A sum over a key or value column's two copies. -/
theorem copies (f : Fin 256 → EReal) (j : Fin 128) :
    ∑ x : Fin 2, f ⟨j.val / 64 * 128 + x.val * 64 + j.val % 64, by omega⟩ = f (c1 j) + f (c2 j) := by
  rw [Fin.sum_univ_two]
  refine congrArg₂ (f · + f ·) (Fin.ext ?_) (Fin.ext ?_)
  · show j.val / 64 * 128 + 0 * 64 + j.val % 64 = j.val / 64 * 128 + j.val % 64
    omega
  · show j.val / 64 * 128 + 1 * 64 + j.val % 64 = j.val / 64 * 128 + 64 + j.val % 64
    omega

/-- The gradient at the projection's key columns. -/
theorem k_eq (n : Fin 8192) (j : Fin 128) :
    val_main_v68 (F := Ideal) x4 x5 (ix2 n j)
      = (args x0 x1 x2 x3 x4 x5 x6 x7 x8).dk n (c1 j) + (args x0 x1 x2 x3 x4 x5 x6 x7 x8).dk n (c2 j) := by
  pointwise [val_main_v68, val_main_v67, val_main_v66, val_main_v65, val_main_v59, val_main_cst_18]
  simp only [dk_eq x0 x1 x2 x3 x4 x5 x6 x7 x8]
  exact copies _ j

/-- The gradient at the projection's value columns. -/
theorem v_eq (n : Fin 8192) (j : Fin 128) :
    val_main_v58 (F := Ideal) x6 x7 (ix2 n j)
      = (args x0 x1 x2 x3 x4 x5 x6 x7 x8).dv n (c1 j) + (args x0 x1 x2 x3 x4 x5 x6 x7 x8).dv n (c2 j) := by
  pointwise [val_main_v58, val_main_v57, val_main_v56, val_main_v55, val_main_v49, val_main_cst_14]
  simp only [dv_eq x0 x1 x2 x3 x4 x5 x6 x7 x8]
  exact copies _ j

/-- The gradient at the projection. -/
theorem P_eq (n : Fin 8192) (j : Fin 1792) :
    val_main_v69 (F := Ideal) x3 x4 x5 x6 x7 x8 (ix2 n j) = (args x0 x1 x2 x3 x4 x5 x6 x7 x8).P n j := by
  pointwise [val_main_v69, val_main_v42]
  simp only [k_eq x0 x1 x2 x3 x4 x5 x6 x7 x8, v_eq x0 x1 x2 x3 x4 x5 x6 x7 x8]
  unfold Args.P
  by_cases h1 : j.val < 512
  · rw [dif_pos h1, dif_pos h1]
    rfl
  rw [dif_neg h1, dif_neg h1]
  by_cases h2 : j.val < 640
  · rw [dif_pos (by omega), dif_pos h2]
  rw [dif_neg (by omega), dif_neg h2]
  by_cases h3 : j.val < 768
  · rw [dif_pos (by omega), dif_pos h3]
    exact congrArg (fun i : Fin 128 => (args x0 x1 x2 x3 x4 x5 x6 x7 x8).dv n (c1 i)
      + (args x0 x1 x2 x3 x4 x5 x6 x7 x8).dv n (c2 i)) (Fin.ext (by show j.val - 512 - 128 = j.val - 640; omega))
  rw [dif_neg (by omega), dif_neg h3]
  exact congrArg (fun i => x8 (ix2 n i)) (Fin.ext (by show j.val - 512 - 128 - 128 = j.val - 768; omega))

/-- The bias's gradient: the three sums over the rows, each beside zeros. -/
theorem bias_eq (p : Fin 1024) :
    val_main_v64 (F := Ideal) x3 x4 x5 x6 x7 (ix1 p) = ∑ n : Fin 8192, (args x0 x1 x2 x3 x4 x5 x6 x7 x8).bias n p := by
  pointwise [val_main_v64, val_main_v63, val_main_v62, val_main_v61, val_main_v60, val_main_v54, val_main_v53,
    val_main_v52, val_main_v51, val_main_v50, val_main_v46, val_main_v45, val_main_v44, val_main_v43,
    val_main_cst_7, val_main_cst_8, val_main_cst_9, val_main_cst_11, val_main_cst_12, val_main_cst_13,
    val_main_cst_15, val_main_cst_16, val_main_cst_17]
  simp only [Finset.univ_unique, Finset.sum_singleton, dk_eq x0 x1 x2 x3 x4 x5 x6 x7 x8, dv_eq x0 x1 x2 x3 x4 x5 x6 x7 x8]
  unfold Args.bias
  by_cases h1 : p.val < 512
  · rw [dif_pos h1, dif_neg (by omega), dif_neg (by omega), add_zero, add_zero]
    refine Finset.sum_congr rfl fun n _ => ?_
    rw [dif_pos h1]
    rfl
  by_cases h2 : p.val < 768
  · rw [dif_neg h1, dif_neg (by omega), dif_pos (by omega), add_zero, zero_add]
    refine Finset.sum_congr rfl fun n _ => ?_
    rw [dif_neg h1, dif_pos h2]
  · rw [dif_neg h1, dif_pos (by omega), dif_neg (by omega), add_zero, zero_add]
    refine Finset.sum_congr rfl fun n _ => ?_
    rw [dif_neg h1, dif_neg h2]

/-- The first result: the gradient at the layer's input. -/
theorem r73 (n : Fin 8192) (k : Fin 1024) :
    val_main_v73 (F := Ideal) x1 x2 x3 x4 x5 x6 x7 x8 (ix2 n k) = (args x0 x1 x2 x3 x4 x5 x6 x7 x8).dX n k := by
  pointwise [val_main_v73, val_main_v72, val_main_v48, val_main_v47]
  simp only [P_eq x0 x1 x2 x3 x4 x5 x6 x7 x8]
  rfl

/-- The second result: the weight's gradient, transposed. -/
theorem r74 (j : Fin 1792) (k : Fin 1024) :
    val_main_v74 (F := Ideal) x0 x3 x4 x5 x6 x7 x8 (ix2 j k) = (args x0 x1 x2 x3 x4 x5 x6 x7 x8).dW j k := by
  pointwise [val_main_v74, val_main_v71, val_main_v70]
  simp only [P_eq x0 x1 x2 x3 x4 x5 x6 x7 x8]
  rfl

/-- The third result: the bias's gradient in its row, and the rows of zeros. -/
theorem r77 (r : Fin 8) (p : Fin 1024) :
    val_main_v77 (F := Ideal) x3 x4 x5 x6 x7 (ix2 r p) = (args x0 x1 x2 x3 x4 x5 x6 x7 x8).dB r.val p := by
  pointwise [val_main_v77, val_main_v75, val_main_v76, val_main_cst_19]
  unfold Args.dB
  by_cases h : r.val = 0
  · rw [dif_pos (by omega), if_pos h]
    exact bias_eq x0 x1 x2 x3 x4 x5 x6 x7 x8 p
  · rw [dif_neg (by omega), if_neg h]

end Cert.Reference2Ideal.Body

end
-- ==== Proof.In.Finite.lean ====
/- The second claim's precondition: every entry of the arguments is below infinity in absolute value, so every entry is
   real. -/
module

public import proofs.«01_k».proof.Defs
public import proofs.«01_k».proof.Proof.In.Operands
public import proofs.«01_k».proof.Proof.Finite
public import proofs.«01_k».proof.Proof.Gen.Pre_finite2

@[expose] public section

noncomputable section

namespace Cert.Kernel2Ideal.Body

open Idealize.ShloMosaic Idealize.ShloMosaic.TcCoe Cert.Kernel2Ideal Cert.In
open Cert.KernelIdeal.Body (real_of_lt)

/-- Under the precondition every argument is real. -/
theorem args_real (m : (ℓ : Loc nD τ sig) → Buf (Elt Ideal) ℓ) (c : Dev nD)
    (h : Pre_Kernel2Ideal_finite2 (hPre_finite2 := Cert.Pre_finite2.Gen.facts) m) : (args m c).Real := by
  obtain ⟨h0, h1, h2, h3, h4, h5, h6, h7, h8⟩ := h c
  exact ⟨fun n k => real_of_lt _ _ h0 (ix2 n k), fun n k => real_of_lt _ _ h1 (ix2 n k), fun n k => real_of_lt _ _ h2 (ix2 n k),
    fun n k => real_of_lt _ _ h3 (ix2 n k), fun n k => real_of_lt _ _ h4 (ix2 n k), fun n k => real_of_lt _ _ h5 (ix2 n k),
    fun n k => real_of_lt _ _ h6 (ix2 n k), fun n k => real_of_lt _ _ h7 (ix2 n k), fun n k => real_of_lt _ _ h8 (ix2 n k)⟩

end Cert.Kernel2Ideal.Body

end
-- ==== Proof.Dx.Spec.lean ====
/- The gradient at the up-projection's input, on the extended reals. -/
module

public import proofs.«01_k».proof.Proof.Spec

@[expose] public section

noncomputable section

namespace Cert.Dx

open Idealize.ShloMosaic Cert.Spec

/-- The gradient at the up-projection's input: the gradient at its result times the weight, transposed. -/
def dX (w : Fin 1024 → Fin 5632 → EReal) (d : Fin 8192 → Fin 5632 → EReal) (n : Fin 8192) (k : Fin 1024) : EReal :=
  ∑ q : Fin 5632, d n q * w k q

/-- It is the sum of what its two halves give. -/
theorem dX_halves (w : Fin 1024 → Fin 5632 → EReal) (d : Fin 8192 → Fin 5632 → EReal) (n : Fin 8192) (k : Fin 1024) :
    dX w d n k = ∑ p : Fin 2816, d n (lo p) * w k (lo p) + ∑ p : Fin 2816, d n (hi p) * w k (hi p) :=
  Fin.sum_univ_add (a := 2816) (b := 2816) fun q => d n q * w k q

end Cert.Dx

end
-- ==== Proof.Dx.Array.lean ====
/- The third kernel's output array after the run: each point takes a block of rows, and adds the products of the two halves of
   the columns. -/
module

public import proofs.«01_k».proof.Proof.Gen.Kernel3Ideal.Value
public import proofs.«01_k».proof.Proof.Gen.Kernel3Ideal.Skeleton
public import proofs.«01_k».proof.Proof.Dx.Spec
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel3Ideal.Body

open Idealize.ShloMosaic Idealize.ShloMosaic.TcCoe Cert.Kernel3Ideal Cert.Kernel3Ideal.Gen Cert.Dx Cert.Spec

variable (m : (ℓ : Loc nD τ sig) → Buf (Elt Ideal) ℓ) (c : Dev nD)

/-- The up-projection's weight on device `c`. -/
def w (k : Fin 1024) (q : Fin 5632) : EReal := m ((c : Thread nD τ).loc main_arg0) (ix2 k q)

/-- The gradient at the up-projection's result. -/
def d (n : Fin 8192) (q : Fin 5632) : EReal := m ((c : Thread nD τ).loc main_arg1) (ix2 n q)

/-! ## The operands the host lines compute -/

/-- The gate half of the gradient. -/
theorem V1_apply (r : Fin 8192) (l : Fin 2816) : V m c main_v1 (ix2 r l) = d m c r (lo l) := by
  unfold V; after_reads_at; rfl

/-- The value half. -/
theorem V3_apply (r : Fin 8192) (l : Fin 2816) : V m c main_v3 (ix2 r l) = d m c r (hi l) := by
  unfold V; after_reads_at; rfl

/-- The weight, transposed. -/
theorem V5_apply (q : Fin 5632) (k : Fin 1024) : V m c main_v5 (ix2 q k) = w m c k q := by
  unfold V; after_reads_at; rfl

/-! ## The blocks at a grid point -/

/-- Every window's block index at point `t`. -/
theorem idx : ∀ t : Fin cfg0.N,
    win0_0.index t = ![t.val, 0] ∧ win0_1.index t = ![t.val, 0] ∧ win0_2.index t = ![0, 0] ∧ win0_3.index t = ![1, 0]
    ∧ win0_4.index t = ![t.val, 0] :=
  (by decide +kernel : ∀ t : Fin grid0.N, _)

/-- The number of grid points. -/
theorem lt_16 (t : Fin cfg0.N) : t.val < 16 := lt_of_lt_of_eq t.isLt N_0

/-- Row `r` of the row block of point `t`, counted in the arrays. -/
def row (t : Fin cfg0.N) (r : Fin 512) : Fin 8192 := ⟨t.val * 512 + r.val, by have := lt_16 t; omega⟩

/-- The rows' gradients, the gate half. -/
theorem blk0 (t : Fin cfg0.N) (r : Fin 512) (l : Fin 2816) : iblk m c 0 t (ix2 r l) = d m c (row t r) (lo l) := by
  rw [← V1_apply]; blk_ext [iblk, idx t, row]

/-- The value half. -/
theorem blk1 (t : Fin cfg0.N) (r : Fin 512) (l : Fin 2816) : iblk m c 1 t (ix2 r l) = d m c (row t r) (hi l) := by
  rw [← V3_apply]; blk_ext [iblk, idx t, row]

/-- The weight's gate half. -/
theorem blk2 (t : Fin cfg0.N) (l : Fin 2816) (k : Fin 1024) : iblk m c 2 t (ix2 l k) = w m c k (lo l) := by
  rw [← V5_apply]; blk_ext [iblk, idx t, lo]

/-- The weight's value half. -/
theorem blk3 (t : Fin cfg0.N) (l : Fin 2816) (k : Fin 1024) : iblk m c 3 t (ix2 l k) = w m c k (hi l) := by
  rw [← V5_apply]; blk_ext [iblk, idx t, hi]

/-! ## The array -/

/-- What point `t` leaves in the output's buffer: the gradient at its rows. -/
theorem out_apply (t : Fin cfg0.N) (r : Fin 512) (k : Fin 1024) :
    out0_4 (iblk m c 0 t) (iblk m c 1 t) (iblk m c 2 t) (iblk m c 3 t) (ix2 r k) = dX (w m c) (d m c) (row t r) k := by
  rw [dX_halves]
  unfold out0_4
  frame_out
  pointwise [k0_pay1]
  simp only [blk0 m c, blk1 m c, blk2 m c, blk3 m c]

/-- The output array after the run. -/
theorem arr4 : (dats m 0 c).arrAt 4 cfg0.N = fun i : S8192x1024.Idx => dX (w m c) (d m c) (i 0) (i 1) :=
  (dats m 0 c).arrAt_eq_of_covers 4 _ (by decide +kernel) fun t hf y => by
    blk_simp
    rw [after0_4]
    refine (congrArg _ (by funext a; fin_cases a <;> rfl : y = ix2 (y 0) (y 1))).trans ((out_apply m c t (y 0) (y 1)).trans ?_)
    refine congrArg₂ (dX (w m c) (d m c)) (Fin.ext ?_) (Fin.ext ?_) <;> blk_simp [idx t, row]

end Cert.Kernel3Ideal.Body

end
-- ==== Proof.Dx.Ref.lean ====
/- The third reference, read at an index. -/
module

public import proofs.«01_k».proof.Proof.Gen.Reference3Ideal.Read
public import proofs.«01_k».proof.Proof.Dx.Spec
public import Idealize.ShloMosaic.Lib.Pointwise
public import Idealize.ShloMosaic.Lib.Pipeline.ValueKit

@[expose] public section

set_option maxRecDepth 16384

noncomputable section

namespace Cert.Reference3Ideal.Body

open Idealize.ShloMosaic Idealize.ShloMosaic.TcCoe Cert.Reference3Ideal Cert.Reference3Ideal.Read Cert.Dx

/-- The result: the gradient at the up-projection's input. -/
theorem r2 (x0 : (⟨S1024x5632, .f32⟩ : BufTy).Contents (Elt Ideal)) (x1 : (⟨S8192x5632, .f32⟩ : BufTy).Contents (Elt Ideal))
    (n : Fin 8192) (k : Fin 1024) :
    val_main_v2 (F := Ideal) x0 x1 (ix2 n k) = dX (fun k q => x0 (ix2 k q)) (fun n q => x1 (ix2 n q)) n k := by
  pointwise [val_main_v2]
  rfl

end Cert.Reference3Ideal.Body

end
-- ==== Proof.Mix.Run.lean ====
/- One grid point of the gradient of the mixer's output stage, at any float values: the body runs, and what each output's buffer
   ends with is the list of its stores. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import Idealize.ShloMosaic.Lib.Claim

@[expose] public section

set_option maxRecDepth 16384

noncomputable section

namespace Cert.Kernel4Ideal.Body

open Idealize.ShloMosaic Idealize.ShloMosaic.TcCoe Idealize.ShloMosaic.Tactic Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's condition: the point is the first. -/
abbrev cond (i : grid0.Coords) : Prop :=
  (Scalar.cmpi .ne (Scalar.extui (Scalar.cmpi .eq (BitVec.ofNat 32 (i 0).val) 0#32)) 0#32) = 1#1

/-- The condition, by the point's number. -/
theorem cond_iff (t : Fin cfg0.N) : cond (grid0.coords t) ↔ t.val = 0 := by
  have ht : t.val < 16 := Nat.lt_of_lt_of_eq t.isLt N_0
  have e0 : (grid0.coords t 0).val = t.val / 1 % 16 := Pipeline.Grid.coords_val t 0 (by decide) rfl
  simp only [cond, e0]
  word_cmp

section Runs

variable (c : Dev nD) (i : grid0.Coords)
  (a0 : Memref sig .tc .vmem S512x1024 .f32) (h0 : a0.IsWhole)
  (a1 : Memref sig .tc .vmem S512x1024 .f32) (h1 : a1.IsWhole)
  (a2 : Memref sig .tc .vmem S512x1024 .f32) (h2 : a2.IsWhole)
  (a3 : Memref sig .tc .vmem S1x1024 .f32) (h3 : a3.IsWhole)
  (a4 : Memref sig .tc .vmem S1024x1024 .bf16) (h4 : a4.IsWhole)
  (a5 : Memref sig .tc .vmem S512x512 .f32) (h5 : a5.IsWhole)
  (a6 : Memref sig .tc .vmem S512x512 .f32) (h6 : a6.IsWhole)
  (a7 : Memref sig .tc .vmem S1x512 .f32) (h7 : a7.IsWhole)
  (a8 : Memref sig .tc .vmem S1x512 .f32) (h8 : a8.IsWhole)
  (a9 : Memref sig .tc .vmem S1x512 .f32) (h9 : a9.IsWhole)
  (a10 : Memref sig .tc .vmem S1x512 .f32) (h10 : a10.IsWhole)
  (a11 : Memref sig .tc .vmem S512x512 .bf16) (h11 : a11.IsWhole)
  (a12 : Memref sig .tc .vmem S512x512 .bf16) (h12 : a12.IsWhole)
  (a13 : Memref sig .tc .vmem S512x1024 .f32) (h13 : a13.IsWhole)
  (a14 : Memref sig .tc .vmem S512x512 .f32) (h14 : a14.IsWhole)
  (a15 : Memref sig .tc .vmem S512x512 .f32) (h15 : a15.IsWhole)
  (a16 : Memref sig .tc .vmem S1024x1024 .f32) (h16 : a16.IsWhole)
  (a17 : Memref sig .tc .vmem S8x1024 .f32) (h17 : a17.IsWhole)
  (x0 : Vec F S512x1024 .f32) (x1 : Vec F S512x1024 .f32) (x2 : Vec F S512x1024 .f32) (x3 : Vec F S1x1024 .f32) (x4 : Vec F S1024x1024 .bf16) (x5 : Vec F S512x512 .f32) (x6 : Vec F S512x512 .f32) (x7 : Vec F S1x512 .f32) (x8 : Vec F S1x512 .f32) (x9 : Vec F S1x512 .f32) (x10 : Vec F S1x512 .f32) (x11 : Vec F S512x512 .bf16) (x12 : Vec F S512x512 .bf16)

set_option maxHeartbeats 4000000 in
/-- The body at the first point, from any output buffers: the stores that each output's buffer ends with, and the proof that it
runs. -/
noncomputable def runA (hc : cond i) :
    Σ' (L13 : List (View.Piece (Elt F) S512x1024 .f32)), Σ' (L14 : List (View.Piece (Elt F) S512x512 .f32)), Σ' (L15 : List (View.Piece (Elt F) S512x512 .f32)), Σ' (L16 : List (View.Piece (Elt F) S1024x1024 .f32)),
      { L17 : List (View.Piece (Elt F) S8x1024 .f32) //
        ∀ (E : Set ℕ) (K : PUnit → sProp 𝕄),
          iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)
              ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (∃ f, a16.view.loc (c : Thread nD τ) ↦[a16.view.set]{fullShare} a16.view.writes (Elt F) f L16) ∗ (∃ f, a17.view.loc (c : Thread nD τ) ↦[a17.view.set]{fullShare} a17.view.writes (Elt F) f L17)) -∗ K ⟨⟩))
            ⊢ wp frame (wpE (defs₀ (F := F)) Variants.none c none) E (cc0_mix_bwd i a0 h0 a1 h1 a2 h2 a3 h3 a4 h4 a5 h5 a6 h6 a7 h7 a8 h8 a9 h9 a10 h10 a11 h11 a12 h12 a13 h13 a14 h14 a15 h15 a16 h16 a17 h17) K } := by
  refine ⟨?_, ?_, ?_, ?_, ?_, fun E K => ?run⟩
  case run =>
    simp only [cc0_mix_bwd_eq_skeleton]; unfold cc0_mix_bwd_skel
    simp only [k0_part1_eq_skeleton, k0_part2_eq_skeleton, k0_part3_eq_skeleton, k0_part4_eq_skeleton, k0_part5_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, -, H13⟩, ⟨%d14, %f14, -, H14⟩, ⟨%d15, %f15, -, H15⟩, ⟨%d16, %f16, -, H16⟩, ⟨%d17, %f17, -, H17⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The body at a later point, from accumulators that hold `y16` and `y17`: the stores that each output's buffer ends with, and
the proof that it runs. -/
noncomputable def runB (hc : ¬cond i) (y16 : Vec F S1024x1024 .f32) (y17 : Vec F S8x1024 .f32) :
    Σ' (L13 : List (View.Piece (Elt F) S512x1024 .f32)), Σ' (L14 : List (View.Piece (Elt F) S512x512 .f32)), Σ' (L15 : List (View.Piece (Elt F) S512x512 .f32)), Σ' (L16 : List (View.Piece (Elt F) S1024x1024 .f32)),
      { L17 : List (View.Piece (Elt F) S8x1024 .f32) //
        ∀ (E : Set ℕ) (K : PUnit → sProp 𝕄),
          iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d) ∗ owns (c : Thread nD τ) a16 fullShare y16 ∗ owns (c : Thread nD τ) a17 fullShare y17
              ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (a16.view.loc (c : Thread nD τ) ↦[a16.view.set]{fullShare} a16.view.writes (Elt F) (h16.unread y16) L16) ∗ (a17.view.loc (c : Thread nD τ) ↦[a17.view.set]{fullShare} a17.view.writes (Elt F) (h17.unread y17) L17)) -∗ K ⟨⟩))
            ⊢ wp frame (wpE (defs₀ (F := F)) Variants.none c none) E (cc0_mix_bwd i a0 h0 a1 h1 a2 h2 a3 h3 a4 h4 a5 h5 a6 h6 a7 h7 a8 h8 a9 h9 a10 h10 a11 h11 a12 h12 a13 h13 a14 h14 a15 h15 a16 h16 a17 h17) K } := by
  refine ⟨?_, ?_, ?_, ?_, ?_, fun E K => ?run⟩
  case run =>
    simp only [cc0_mix_bwd_eq_skeleton]; unfold cc0_mix_bwd_skel
    simp only [k0_part1_eq_skeleton, k0_part2_eq_skeleton, k0_part3_eq_skeleton, k0_part4_eq_skeleton, k0_part5_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, -, H13⟩, ⟨%d14, %f14, -, H14⟩, ⟨%d15, %f15, -, H15⟩, ⟨%f16, %e16, H16⟩, ⟨%f17, %e17, H17⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h16.eq_unread e16; obtain rfl := h17.eq_unread e17
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    isplitl [H15]; · iexists _; iexact H15
    isplitl [H16]; · iexact H16
    iexact H17

end Runs

end Cert.Kernel4Ideal.Body

end
-- ==== Proof.Mix.Frame.lean ====
/- The run of the gradient of the mixer's output stage, at any float values: what the outputs' buffers hold after each grid
   point, the pipeline's invariant, and the whole run. -/
module

public import proofs.«01_k».proof.Proof.Mix.Run
public import Idealize.ShloMosaic.Lib.Pipeline.FrameBody

@[expose] public section

set_option maxRecDepth 16384

noncomputable section

namespace Cert.Kernel4Ideal.Body

open Idealize.ShloMosaic Idealize.ShloMosaic.TcCoe Idealize.ShloMosaic.Tactic Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in the outputs' buffers -/

/-- A buffer of the gradient before the norm, through which its contents are read. -/
abbrev VO13 : View sig .tc .vmem S512x1024 .f32 := (Memref.whole cc0_stg13_0 : Memref sig .tc .vmem S512x1024 .f32).view
/-- A buffer of the attention's gradient, through which its contents are read. -/
abbrev VO14 : View sig .tc .vmem S512x512 .f32 := (Memref.whole cc0_stg14_0 : Memref sig .tc .vmem S512x512 .f32).view
/-- A buffer of the convolution's gradient, through which its contents are read. -/
abbrev VO15 : View sig .tc .vmem S512x512 .f32 := (Memref.whole cc0_stg15_0 : Memref sig .tc .vmem S512x512 .f32).view
/-- A buffer of the weight gradient, through which its contents are read. -/
abbrev VO16 : View sig .tc .vmem S1024x1024 .f32 := (Memref.whole cc0_stg16_0 : Memref sig .tc .vmem S1024x1024 .f32).view
/-- A buffer of the gains' and biases' gradients, through which its contents are read. -/
abbrev VO17 : View sig .tc .vmem S8x1024 .f32 := (Memref.whole cc0_stg17_0 : Memref sig .tc .vmem S8x1024 .f32).view

section Outs

variable (c : Dev nD) (i : grid0.Coords)
  (a0 : Memref sig .tc .vmem S512x1024 .f32) (h0 : a0.IsWhole)
  (a1 : Memref sig .tc .vmem S512x1024 .f32) (h1 : a1.IsWhole)
  (a2 : Memref sig .tc .vmem S512x1024 .f32) (h2 : a2.IsWhole)
  (a3 : Memref sig .tc .vmem S1x1024 .f32) (h3 : a3.IsWhole)
  (a4 : Memref sig .tc .vmem S1024x1024 .bf16) (h4 : a4.IsWhole)
  (a5 : Memref sig .tc .vmem S512x512 .f32) (h5 : a5.IsWhole)
  (a6 : Memref sig .tc .vmem S512x512 .f32) (h6 : a6.IsWhole)
  (a7 : Memref sig .tc .vmem S1x512 .f32) (h7 : a7.IsWhole)
  (a8 : Memref sig .tc .vmem S1x512 .f32) (h8 : a8.IsWhole)
  (a9 : Memref sig .tc .vmem S1x512 .f32) (h9 : a9.IsWhole)
  (a10 : Memref sig .tc .vmem S1x512 .f32) (h10 : a10.IsWhole)
  (a11 : Memref sig .tc .vmem S512x512 .bf16) (h11 : a11.IsWhole)
  (a12 : Memref sig .tc .vmem S512x512 .bf16) (h12 : a12.IsWhole)
  (a13 : Memref sig .tc .vmem S512x1024 .f32) (h13 : a13.IsWhole)
  (a14 : Memref sig .tc .vmem S512x512 .f32) (h14 : a14.IsWhole)
  (a15 : Memref sig .tc .vmem S512x512 .f32) (h15 : a15.IsWhole)
  (a16 : Memref sig .tc .vmem S1024x1024 .f32) (h16 : a16.IsWhole)
  (a17 : Memref sig .tc .vmem S8x1024 .f32) (h17 : a17.IsWhole)
  (x0 : Vec F S512x1024 .f32) (x1 : Vec F S512x1024 .f32) (x2 : Vec F S512x1024 .f32) (x3 : Vec F S1x1024 .f32) (x4 : Vec F S1024x1024 .bf16) (x5 : Vec F S512x512 .f32) (x6 : Vec F S512x512 .f32) (x7 : Vec F S1x512 .f32) (x8 : Vec F S1x512 .f32) (x9 : Vec F S1x512 .f32) (x10 : Vec F S1x512 .f32) (x11 : Vec F S512x512 .bf16) (x12 : Vec F S512x512 .bf16)
/-- At the first point the stores cover the buffer of the gradient before the norm. -/
theorem coverA13 (hc : cond i) (y : S512x1024.Idx) : ∃ pc ∈ (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).1, y ∈ pc.1.set :=
  View.cover_of_tiledL (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).1 S512x1024.size (by sl_kernel_rfl) y
/-- At the first point the stores cover the buffer of the attention's gradient. -/
theorem coverA14 (hc : cond i) (y : S512x512.Idx) : ∃ pc ∈ (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.1, y ∈ pc.1.set :=
  View.cover_of_tiledL (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.1 S512x512.size (by sl_kernel_rfl) y
/-- At the first point the stores cover the buffer of the convolution's gradient. -/
theorem coverA15 (hc : cond i) (y : S512x512.Idx) : ∃ pc ∈ (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.2.1, y ∈ pc.1.set :=
  View.cover_of_tiledL (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.2.1 S512x512.size (by sl_kernel_rfl) y
/-- At the first point the stores cover the buffer of the weight gradient. -/
theorem coverA16 (hc : cond i) (y : S1024x1024.Idx) : ∃ pc ∈ (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.2.2.1, y ∈ pc.1.set :=
  View.cover_of_tiledBy (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.2.2.1 ![512, 1024] (by sl_kernel_rfl) y
/-- At the first point the stores cover the buffer of the gains' and biases' gradients. -/
theorem coverA17 (hc : cond i) (y : S8x1024.Idx) : ∃ pc ∈ (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.2.2.2.1, y ∈ pc.1.set :=
  View.cover_of_tiledBy (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.2.2.2.1 ![1, 512] (by sl_kernel_rfl) y
/-- The buffer of the gradient before the norm after the first point. -/
def outA13 (hc : cond i) : Vec F S512x1024 .f32 :=
  VO13.read (Elt F) (VO13.writes (Elt F) VO13.junk (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).1)
/-- The buffer of the attention's gradient after the first point. -/
def outA14 (hc : cond i) : Vec F S512x512 .f32 :=
  VO14.read (Elt F) (VO14.writes (Elt F) VO14.junk (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.1)
/-- The buffer of the convolution's gradient after the first point. -/
def outA15 (hc : cond i) : Vec F S512x512 .f32 :=
  VO15.read (Elt F) (VO15.writes (Elt F) VO15.junk (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.2.1)
/-- The buffer of the weight gradient after the first point. -/
def outA16 (hc : cond i) : Vec F S1024x1024 .f32 :=
  VO16.read (Elt F) (VO16.writes (Elt F) VO16.junk (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.2.2.1)
/-- The buffer of the gains' and biases' gradients after the first point. -/
def outA17 (hc : cond i) : Vec F S8x1024 .f32 :=
  VO17.read (Elt F) (VO17.writes (Elt F) VO17.junk (runA c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc).2.2.2.2.1)

variable (hc : ¬cond i) (y16 : Vec F S1024x1024 .f32) (y17 : Vec F S8x1024 .f32)

/-- At a later point the stores cover the buffer of the gradient before the norm. -/
theorem coverB13 (y : S512x1024.Idx) : ∃ pc ∈ (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).1, y ∈ pc.1.set :=
  View.cover_of_tiledL (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).1 S512x1024.size (by sl_kernel_rfl) y
/-- At a later point the stores cover the buffer of the attention's gradient. -/
theorem coverB14 (y : S512x512.Idx) : ∃ pc ∈ (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).2.1, y ∈ pc.1.set :=
  View.cover_of_tiledL (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).2.1 S512x512.size (by sl_kernel_rfl) y
/-- At a later point the stores cover the buffer of the convolution's gradient. -/
theorem coverB15 (y : S512x512.Idx) : ∃ pc ∈ (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).2.2.1, y ∈ pc.1.set :=
  View.cover_of_tiledL (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).2.2.1 S512x512.size (by sl_kernel_rfl) y
/-- The buffer of the gradient before the norm after a later point. -/
def outB13 : Vec F S512x1024 .f32 :=
  VO13.read (Elt F) (VO13.writes (Elt F) VO13.junk (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).1)
/-- The buffer of the attention's gradient after a later point. -/
def outB14 : Vec F S512x512 .f32 :=
  VO14.read (Elt F) (VO14.writes (Elt F) VO14.junk (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).2.1)
/-- The buffer of the convolution's gradient after a later point. -/
def outB15 : Vec F S512x512 .f32 :=
  VO15.read (Elt F) (VO15.writes (Elt F) VO15.junk (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).2.2.1)
/-- The buffer of the weight gradient after a later point that found `y16` in it. -/
def outB16 : Vec F S1024x1024 .f32 :=
  a16.view.read (Elt F) (a16.view.writes (Elt F) (h16.unread y16) (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).2.2.2.1)
/-- The buffer of the gains' and biases' gradients after a later point that found `y17` in it. -/
def outB17 : Vec F S8x1024 .f32 :=
  a17.view.read (Elt F) (a17.view.writes (Elt F) (h17.unread y17) (runB c i a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 hc y16 y17).2.2.2.2.1)

end Outs

/-! ## Point by point -/

/-- The buffer of the gradient at the block's output at a point. -/
abbrev ms0 (t : Fin cfg0.N) : Memref sig .tc .vmem S512x1024 .f32 := win0_0.stage (cfg0.slots t 0)
/-- It is a whole array. -/
abbrev hs0 (t : Fin cfg0.N) : (ms0 t).IsWhole := hstage0_0 ((cfg0.slots t 0).cast nbuf0_0)
/-- The buffer of the gradient at the norm's output at a point. -/
abbrev ms1 (t : Fin cfg0.N) : Memref sig .tc .vmem S512x1024 .f32 := win0_1.stage (cfg0.slots t 1)
/-- It is a whole array. -/
abbrev hs1 (t : Fin cfg0.N) : (ms1 t).IsWhole := hstage0_1 ((cfg0.slots t 1).cast nbuf0_1)
/-- The buffer of the layer's input to the norm at a point. -/
abbrev ms2 (t : Fin cfg0.N) : Memref sig .tc .vmem S512x1024 .f32 := win0_2.stage (cfg0.slots t 2)
/-- It is a whole array. -/
abbrev hs2 (t : Fin cfg0.N) : (ms2 t).IsWhole := hstage0_2 ((cfg0.slots t 2).cast nbuf0_2)
/-- The buffer of the norm's gain at a point. -/
abbrev ms3 (t : Fin cfg0.N) : Memref sig .tc .vmem S1x1024 .f32 := win0_3.stage (cfg0.slots t 3)
/-- It is a whole array. -/
abbrev hs3 (t : Fin cfg0.N) : (ms3 t).IsWhole := hstage0_3 ((cfg0.slots t 3).cast nbuf0_3)
/-- The buffer of the output projection at a point. -/
abbrev ms4 (t : Fin cfg0.N) : Memref sig .tc .vmem S1024x1024 .bf16 := win0_4.stage (cfg0.slots t 4)
/-- It is a whole array. -/
abbrev hs4 (t : Fin cfg0.N) : (ms4 t).IsWhole := hstage0_4 ((cfg0.slots t 4).cast nbuf0_4)
/-- The buffer of the attention's output at a point. -/
abbrev ms5 (t : Fin cfg0.N) : Memref sig .tc .vmem S512x512 .f32 := win0_5.stage (cfg0.slots t 5)
/-- It is a whole array. -/
abbrev hs5 (t : Fin cfg0.N) : (ms5 t).IsWhole := hstage0_5 ((cfg0.slots t 5).cast nbuf0_5)
/-- The buffer of the convolution's output at a point. -/
abbrev ms6 (t : Fin cfg0.N) : Memref sig .tc .vmem S512x512 .f32 := win0_6.stage (cfg0.slots t 6)
/-- It is a whole array. -/
abbrev hs6 (t : Fin cfg0.N) : (ms6 t).IsWhole := hstage0_6 ((cfg0.slots t 6).cast nbuf0_6)
/-- The buffer of the branch norm's gain at a point. -/
abbrev ms7 (t : Fin cfg0.N) : Memref sig .tc .vmem S1x512 .f32 := win0_7.stage (cfg0.slots t 7)
/-- It is a whole array. -/
abbrev hs7 (t : Fin cfg0.N) : (ms7 t).IsWhole := hstage0_7 ((cfg0.slots t 7).cast nbuf0_7)
/-- The buffer of the branch norm's bias at a point. -/
abbrev ms8 (t : Fin cfg0.N) : Memref sig .tc .vmem S1x512 .f32 := win0_8.stage (cfg0.slots t 8)
/-- It is a whole array. -/
abbrev hs8 (t : Fin cfg0.N) : (ms8 t).IsWhole := hstage0_8 ((cfg0.slots t 8).cast nbuf0_8)
/-- The buffer of the attention branch's gain at a point. -/
abbrev ms9 (t : Fin cfg0.N) : Memref sig .tc .vmem S1x512 .f32 := win0_9.stage (cfg0.slots t 9)
/-- It is a whole array. -/
abbrev hs9 (t : Fin cfg0.N) : (ms9 t).IsWhole := hstage0_9 ((cfg0.slots t 9).cast nbuf0_9)
/-- The buffer of the convolution branch's gain at a point. -/
abbrev ms10 (t : Fin cfg0.N) : Memref sig .tc .vmem S1x512 .f32 := win0_10.stage (cfg0.slots t 10)
/-- It is a whole array. -/
abbrev hs10 (t : Fin cfg0.N) : (ms10 t).IsWhole := hstage0_10 ((cfg0.slots t 10).cast nbuf0_10)
/-- The buffer of the attention branch at a point. -/
abbrev ms11 (t : Fin cfg0.N) : Memref sig .tc .vmem S512x512 .bf16 := win0_11.stage (cfg0.slots t 11)
/-- It is a whole array. -/
abbrev hs11 (t : Fin cfg0.N) : (ms11 t).IsWhole := hstage0_11 ((cfg0.slots t 11).cast nbuf0_11)
/-- The buffer of the convolution branch at a point. -/
abbrev ms12 (t : Fin cfg0.N) : Memref sig .tc .vmem S512x512 .bf16 := win0_12.stage (cfg0.slots t 12)
/-- It is a whole array. -/
abbrev hs12 (t : Fin cfg0.N) : (ms12 t).IsWhole := hstage0_12 ((cfg0.slots t 12).cast nbuf0_12)
/-- The buffer of the gradient before the norm at a point. -/
abbrev ms13 (t : Fin cfg0.N) : Memref sig .tc .vmem S512x1024 .f32 := win0_13.stage (cfg0.slots t 13)
/-- It is a whole array. -/
abbrev hs13 (t : Fin cfg0.N) : (ms13 t).IsWhole := hstage0_13 ((cfg0.slots t 13).cast nbuf0_13)
/-- The buffer of the attention's gradient at a point. -/
abbrev ms14 (t : Fin cfg0.N) : Memref sig .tc .vmem S512x512 .f32 := win0_14.stage (cfg0.slots t 14)
/-- It is a whole array. -/
abbrev hs14 (t : Fin cfg0.N) : (ms14 t).IsWhole := hstage0_14 ((cfg0.slots t 14).cast nbuf0_14)
/-- The buffer of the convolution's gradient at a point. -/
abbrev ms15 (t : Fin cfg0.N) : Memref sig .tc .vmem S512x512 .f32 := win0_15.stage (cfg0.slots t 15)
/-- It is a whole array. -/
abbrev hs15 (t : Fin cfg0.N) : (ms15 t).IsWhole := hstage0_15 ((cfg0.slots t 15).cast nbuf0_15)
/-- The buffer of the weight gradient at a point. -/
abbrev ms16 (t : Fin cfg0.N) : Memref sig .tc .vmem S1024x1024 .f32 := win0_16.stage (cfg0.slots t 16)
/-- It is a whole array. -/
abbrev hs16 (t : Fin cfg0.N) : (ms16 t).IsWhole := hstage0_16 ((cfg0.slots t 16).cast nbuf0_16)
/-- The buffer of the gains' and biases' gradients at a point. -/
abbrev ms17 (t : Fin cfg0.N) : Memref sig .tc .vmem S8x1024 .f32 := win0_17.stage (cfg0.slots t 17)
/-- It is a whole array. -/
abbrev hs17 (t : Fin cfg0.N) : (ms17 t).IsWhole := hstage0_17 ((cfg0.slots t 17).cast nbuf0_17)

variable (m : (ℓ : Loc nD τ sig) → Buf (Elt F) ℓ) (ρ : Dev nD → PrngReg)

/-- The predecessor's number is a point's. -/
theorem prev_lt (t : Fin cfg0.N) : t.val - 1 < cfg0.N := Nat.lt_of_le_of_lt (Nat.sub_le _ _) t.isLt

/-- The outputs' buffers after the first point. -/
def outsA (c : Dev nD) (t : Fin cfg0.N) (hc : cond (grid0.coords t)) : Vec F S512x1024 .f32 × Vec F S512x512 .f32 × Vec F S512x512 .f32 × Vec F S1024x1024 .f32 × Vec F S8x1024 .f32 :=
  (outA13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc, outA14 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc, outA15 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc, outA16 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc, outA17 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc)

/-- The outputs' buffers after a later point, from what the point before left. -/
def outsB (c : Dev nD) (t : Fin cfg0.N) (hc : ¬cond (grid0.coords t)) (y16 : Vec F S1024x1024 .f32) (y17 : Vec F S8x1024 .f32) :
    Vec F S512x1024 .f32 × Vec F S512x512 .f32 × Vec F S512x512 .f32 × Vec F S1024x1024 .f32 × Vec F S8x1024 .f32 :=
  (outB13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc y16 y17, outB14 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc y16 y17, outB15 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc y16 y17, outB16 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc y16 y17, outB17 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hc y16 y17)

/-- The outputs' buffers after each point. -/
def outsAt (c : Dev nD) : (n : ℕ) → n < cfg0.N → Vec F S512x1024 .f32 × Vec F S512x512 .f32 × Vec F S512x512 .f32 × Vec F S1024x1024 .f32 × Vec F S8x1024 .f32
  | 0, h => outsA m c ⟨0, h⟩ ((cond_iff ⟨0, h⟩).mpr rfl)
  | n + 1, h => outsB m c ⟨n + 1, h⟩ (fun hc => Nat.succ_ne_zero n ((cond_iff ⟨n + 1, h⟩).mp hc))
      (outsAt c n (Nat.lt_of_succ_lt h)).2.2.2.1 (outsAt c n (Nat.lt_of_succ_lt h)).2.2.2.2

/-- At the first point. -/
theorem outsAt_A (c : Dev nD) (t : Fin cfg0.N) (h : t.val = 0) :
    outsAt m c t.val t.isLt = outsA m c t ((cond_iff t).mpr h) := by
  obtain ⟨n, hn⟩ := t
  cases n with
  | zero => rfl
  | succ n => exact absurd h (Nat.succ_ne_zero n)

/-- At a later point. -/
theorem outsAt_B (c : Dev nD) (t : Fin cfg0.N) (h : ¬t.val = 0) :
    outsAt m c t.val t.isLt = outsB m c t (fun hc => h ((cond_iff t).mp hc)) (outsAt m c (t.val - 1) (prev_lt t)).2.2.2.1 (outsAt m c (t.val - 1) (prev_lt t)).2.2.2.2 := by
  obtain ⟨n, hn⟩ := t
  cases n with
  | zero => exact absurd rfl h
  | succ n => rfl

/-! ## The pipeline's data -/

/-- The pipeline's data on a core: the arrays as the call finds them, and what the body leaves in each buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt m c t.val t.isLt).1
    | ⟨14, _⟩ => (outsAt m c t.val t.isLt).2.1
    | ⟨15, _⟩ => (outsAt m c t.val t.isLt).2.2.1
    | ⟨16, _⟩ => (outsAt m c t.val t.isLt).2.2.2.1
    | ⟨17, _⟩ => (outsAt m c t.val t.isLt).2.2.2.2
    | ⟨_ + 18, h⟩ => absurd h (Nat.not_lt.2 (Nat.le_add_left _ _))
  Φ _ := Pipeline.ΦA spec0 c
  q w := Pipeline.shareOf spec0 w
  owed _ := 0

/-- The arrays of the pipeline's data. -/
theorem A_eq (c : Dev nD) (w : Fin cfg0.W) : (dats m 0 c).A w = V m c (Pipeline.arrRef spec0 w) := by
  dsimp only [dats]

/-! What the body leaves in each buffer. -/

/-- The body leaves input 0's block as it is. -/
theorem after_0 (c : Dev nD) (t : Fin cfg0.N) : (dats m 0 c).after 0 t = iblk m c 0 t := by dsimp only [dats]
/-- The body leaves input 1's block as it is. -/
theorem after_1 (c : Dev nD) (t : Fin cfg0.N) : (dats m 0 c).after 1 t = iblk m c 1 t := by dsimp only [dats]
/-- The body leaves input 2's block as it is. -/
theorem after_2 (c : Dev nD) (t : Fin cfg0.N) : (dats m 0 c).after 2 t = iblk m c 2 t := by dsimp only [dats]
/-- The body leaves input 3's block as it is. -/
theorem after_3 (c : Dev nD) (t : Fin cfg0.N) : (dats m 0 c).after 3 t = iblk m c 3 t := by dsimp only [dats]
/-- The body leaves input 4's block as it is. -/
theorem after_4 (c : Dev nD) (t : Fin cfg0.N) : (dats m 0 c).after 4 t = iblk m c 4 t := by dsimp only [dats]
/-- The body leaves input 5's block as it is. -/
theorem after_5 (c : Dev nD) (t : Fin cfg0.N) : (dats m 0 c).after 5 t = iblk m c 5 t := by dsimp only [dats]
/-- The body leaves input 6's block as it is. -/
theorem after_6 (c : Dev nD) (t : Fin cfg0.N) : (dats m 0 c).after 6 t = iblk m c 6 t := by dsimp only [dats]
/-- The body leaves input 7's block as it is. -/
theorem after_7 (c : Dev nD) (t : Fin cfg0.N) : (dats m 0 c).after 7 t = iblk m c 7 t := by dsimp only [dats]
/-- The body leaves input 8's block as it is. -/
theorem after_8 (c : Dev nD) (t : Fin cfg0.N) : (dats m 0 c).after 8 t = iblk m c 8 t := by dsimp only [dats]
/-- The body leaves input 9's block as it is. -/
theorem after_9 (c : Dev nD) (t : Fin cfg0.N) : (dats m 0 c).after 9 t = iblk m c 9 t := by dsimp only [dats]
/-- The body leaves input 10's block as it is. -/
theorem after_10 (c : Dev nD) (t : Fin cfg0.N) : (dats m 0 c).after 10 t = iblk m c 10 t := by dsimp only [dats]
/-- The body leaves input 11's block as it is. -/
theorem after_11 (c : Dev nD) (t : Fin cfg0.N) : (dats m 0 c).after 11 t = iblk m c 11 t := by dsimp only [dats]
/-- The body leaves input 12's block as it is. -/
theorem after_12 (c : Dev nD) (t : Fin cfg0.N) : (dats m 0 c).after 12 t = iblk m c 12 t := by dsimp only [dats]
/-- The body leaves in the buffer of the gradient before the norm what the runs say. -/
theorem after_13 (c : Dev nD) (t : Fin cfg0.N) : (dats m 0 c).after 13 t = (outsAt m c t.val t.isLt).1 := by dsimp only [dats]
/-- The body leaves in the buffer of the attention's gradient what the runs say. -/
theorem after_14 (c : Dev nD) (t : Fin cfg0.N) : (dats m 0 c).after 14 t = (outsAt m c t.val t.isLt).2.1 := by dsimp only [dats]
/-- The body leaves in the buffer of the convolution's gradient what the runs say. -/
theorem after_15 (c : Dev nD) (t : Fin cfg0.N) : (dats m 0 c).after 15 t = (outsAt m c t.val t.isLt).2.2.1 := by dsimp only [dats]
/-- The body leaves in the buffer of the weight gradient what the runs say. -/
theorem after_16 (c : Dev nD) (t : Fin cfg0.N) : (dats m 0 c).after 16 t = (outsAt m c t.val t.isLt).2.2.2.1 := by dsimp only [dats]
/-- The body leaves in the buffer of the gains' and biases' gradients what the runs say. -/
theorem after_17 (c : Dev nD) (t : Fin cfg0.N) : (dats m 0 c).after 17 t = (outsAt m c t.val t.isLt).2.2.2.2 := by dsimp only [dats]

/-! What the body finds in each input's buffer: its block. -/

/-- The body finds input 0's block. -/
theorem before_0 (c : Dev nD) (t : Fin cfg0.N) (d) : (dats m 0 c).before 0 t d = iblk m c 0 t :=
  before0_0_of m (dats m 0 c) (A_eq m c 0) (after_0 m c) t d
/-- The body finds input 1's block. -/
theorem before_1 (c : Dev nD) (t : Fin cfg0.N) (d) : (dats m 0 c).before 1 t d = iblk m c 1 t :=
  before0_1_of m (dats m 0 c) (A_eq m c 1) (after_1 m c) t d
/-- The body finds input 2's block. -/
theorem before_2 (c : Dev nD) (t : Fin cfg0.N) (d) : (dats m 0 c).before 2 t d = iblk m c 2 t :=
  before0_2_of m (dats m 0 c) (A_eq m c 2) (after_2 m c) t d
/-- The body finds input 3's block. -/
theorem before_3 (c : Dev nD) (t : Fin cfg0.N) (d) : (dats m 0 c).before 3 t d = iblk m c 3 t :=
  before0_3_of m (dats m 0 c) (A_eq m c 3) (after_3 m c) t d
/-- The body finds input 4's block. -/
theorem before_4 (c : Dev nD) (t : Fin cfg0.N) (d) : (dats m 0 c).before 4 t d = iblk m c 4 t :=
  before0_4_of m (dats m 0 c) (A_eq m c 4) (after_4 m c) t d
/-- The body finds input 5's block. -/
theorem before_5 (c : Dev nD) (t : Fin cfg0.N) (d) : (dats m 0 c).before 5 t d = iblk m c 5 t :=
  before0_5_of m (dats m 0 c) (A_eq m c 5) (after_5 m c) t d
/-- The body finds input 6's block. -/
theorem before_6 (c : Dev nD) (t : Fin cfg0.N) (d) : (dats m 0 c).before 6 t d = iblk m c 6 t :=
  before0_6_of m (dats m 0 c) (A_eq m c 6) (after_6 m c) t d
/-- The body finds input 7's block. -/
theorem before_7 (c : Dev nD) (t : Fin cfg0.N) (d) : (dats m 0 c).before 7 t d = iblk m c 7 t :=
  before0_7_of m (dats m 0 c) (A_eq m c 7) (after_7 m c) t d
/-- The body finds input 8's block. -/
theorem before_8 (c : Dev nD) (t : Fin cfg0.N) (d) : (dats m 0 c).before 8 t d = iblk m c 8 t :=
  before0_8_of m (dats m 0 c) (A_eq m c 8) (after_8 m c) t d
/-- The body finds input 9's block. -/
theorem before_9 (c : Dev nD) (t : Fin cfg0.N) (d) : (dats m 0 c).before 9 t d = iblk m c 9 t :=
  before0_9_of m (dats m 0 c) (A_eq m c 9) (after_9 m c) t d
/-- The body finds input 10's block. -/
theorem before_10 (c : Dev nD) (t : Fin cfg0.N) (d) : (dats m 0 c).before 10 t d = iblk m c 10 t :=
  before0_10_of m (dats m 0 c) (A_eq m c 10) (after_10 m c) t d
/-- The body finds input 11's block. -/
theorem before_11 (c : Dev nD) (t : Fin cfg0.N) (d) : (dats m 0 c).before 11 t d = iblk m c 11 t :=
  before0_11_of m (dats m 0 c) (A_eq m c 11) (after_11 m c) t d
/-- The body finds input 12's block. -/
theorem before_12 (c : Dev nD) (t : Fin cfg0.N) (d) : (dats m 0 c).before 12 t d = iblk m c 12 t :=
  before0_12_of m (dats m 0 c) (A_eq m c 12) (after_12 m c) t d

/-- A later point finds in the buffer of the weight gradient what the point before left. -/
theorem before_16 (c : Dev nD) (t : Fin cfg0.N) (h : ¬t.val = 0) (d) :
    (dats m 0 c).before 16 t d = (outsAt m c (t.val - 1) (prev_lt t)).2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]

/-- A later point finds in the buffer of the gains' and biases' gradients what the point before left. -/
theorem before_17 (c : Dev nD) (t : Fin cfg0.N) (h : ¬t.val = 0) (d) :
    (dats m 0 c).before 17 t d = (outsAt m c (t.val - 1) (prev_lt t)).2.2.2.2 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d)) ∗ (∃ d, owns (c : Thread nD τ) (ms16 t) fullShare ((dats m 0 c).before 16 t d)) ∗ (∃ d, owns (c : Thread nD τ) (ms17 t) fullShare ((dats m 0 c).before 17 t d)))

/-- What it returns. -/
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t) ∗ owns (c : Thread nD τ) (ms12 t) fullShare ((dats m 0 c).after 12 t) ∗ owns (c : Thread nD τ) (ms13 t) fullShare ((dats m 0 c).after 13 t) ∗ owns (c : Thread nD τ) (ms14 t) fullShare ((dats m 0 c).after 14 t) ∗ owns (c : Thread nD τ) (ms15 t) fullShare ((dats m 0 c).after 15 t) ∗ owns (c : Thread nD τ) (ms16 t) fullShare ((dats m 0 c).after 16 t) ∗ owns (c : Thread nD τ) (ms17 t) fullShare ((dats m 0 c).after 17 t))

set_option maxHeartbeats 8000000 in
/-- The body runs at every point: from the input blocks and what the point before left, to what the data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17]
  by_cases h : t.val = 0
  · rw [outsAt_A m c t h]
    unfold outsA outA13 outA14 outA15 outA16 outA17
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runA c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((cond_iff t).mpr h)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    iintro ⟨H0, H1, H2, H3, H4, H5, H6, H7, H8, H9, H10, H11, H12, ⟨%e13, H13⟩, ⟨%e14, H14⟩, ⟨%e15, H15⟩, ⟨%e16, H16⟩, ⟨%e17, H17⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (coverA13 c _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (coverA14 c _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (coverA15 c _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (coverA16 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H17
    ipureintro; exact View.read_writes_of_cover _ _ _ _ _ (coverA17 c _ _ _ _ _ _ _ _ _ _ _ _ _ _ _ _ _ _ _ _ _ _ _ _ _ _ _ _ _ _ _ _ _ _ _ _ _ _ _ _ _ _ _ _ _ _ _ _ _ _ _)
  · rw [outsAt_B m c t h]
    simp only [before_16 m c t h, before_17 m c t h]
    unfold outsB outB13 outB14 outB15 outB16 outB17
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runB c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun hc => h ((cond_iff t).mp hc)) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexact H16
    isplitl [H17]; · iexact H17
    iintro ⟨H0, H1, H2, H3, H4, H5, H6, H7, H8, H9, H10, H11, H12, ⟨%e13, H13⟩, ⟨%e14, H14⟩, ⟨%e15, H15⟩, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (coverB13 c _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (coverB14 c _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (coverB15 c _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; rfl
    unfold owns; iexists _; isplitr
    swap; · iexact H17
    ipureintro; rfl

/-- The body the pipeline calls at a point. -/
theorem defs₀_row (t : Fin cfg0.N) : defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The whole run: it ends with every array as the data says and the semaphores at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch0.to₀ defs₀ Variants.none m ρ main
    (hbody := fun c => (body_obligation m c).loose) (hq := fun _ _ _ => rfl) (howed := fun _ _ => rfl)
    (V := V m) (hmain := hmain m Variants.none) (hA := A_eq m) (hΦ := fun _ _ => rfl)

end Cert.Kernel4Ideal.Body

end
-- ==== Proof.Mix.Spec.lean ====
/- The gradient of the mixer's output stage, on the extended reals: the arrays that the kernel and the reference both compute. -/
module

public import proofs.«01_k».proof.Proof.Real

@[expose] public section

noncomputable section

namespace Cert.Mix

open Idealize.ShloMosaic Cert.Spec

/-! ## The two normalisations of one row, and their gradients -/

section Row

variable {N : ℕ} (w : BitVec 32) (f d : Fin N → EReal)

/-- The mean of a row, `w` its length's word. -/
def mean : EReal := Ideal.div (∑ i, f i) (Ideal.ofBits .f32 w)

/-- The reciprocal of a row's root mean square, with the small number under the root. -/
def rs : EReal := Ideal.rsqrt (mean w (fun i => f i * f i) + Ideal.ofBits .f32 0x3727C5AC#32)

/-- The row divided by its root mean square. -/
def rn (i : Fin N) : EReal := f i * rs w f

/-- The row less its mean. -/
def cen (i : Fin N) : EReal := f i - mean w f

/-- The row less its mean, divided by its standard deviation. -/
def xh (i : Fin N) : EReal := rn w (cen w f) i

/-- The gradient at a row, from the gradient `d` at its normalisation by the root mean square. -/
def rmsBwd (i : Fin N) : EReal := rs w f * (d i - rn w f i * mean w (fun j => d j * rn w f j))

/-- The gradient at a row, from the gradient `d` at its normalisation by mean and standard deviation. -/
def lnBwd (i : Fin N) : EReal :=
  rs w (cen w f) * ((d i - mean w d) - xh w f i * mean w (fun j => d j * xh w f j))

end Row

/-! ## The arrays -/

/-- The arguments: the layer's input, the attention's and the convolution's output, the output projection and its bias, the
gains of the two branches, the gain and bias of the convolution's norm, the gain of the layer's norm, the gradients at the
block's output and at the norm's output. -/
structure Args where
  x : Fin 8192 → Fin 1024 → EReal
  o : Fin 8192 → Fin 512 → EReal
  c1 : Fin 8192 → Fin 512 → EReal
  w : Fin 1024 → Fin 1024 → EReal
  b : Fin 1024 → EReal
  ga : Fin 512 → EReal
  gc : Fin 512 → EReal
  lg : Fin 512 → EReal
  lb : Fin 512 → EReal
  g1 : Fin 1024 → EReal
  dp : Fin 8192 → Fin 1024 → EReal
  dx : Fin 8192 → Fin 1024 → EReal

/-- The residual's factor, as both programs print it. -/
def alpha : EReal := Ideal.ofBits .f32 0x3F9837F0#32

/-- A column of the attention branch, in the projection's input. -/
def lo (p : Fin 512) : Fin 1024 := ⟨p.val, by omega⟩

/-- A column of the convolution branch, in the projection's input. -/
def hi (p : Fin 512) : Fin 1024 := ⟨512 + p.val, by omega⟩

/-- Two rows of 512 side by side. -/
def side (f g : Fin 512 → EReal) (p : Fin 1024) : EReal :=
  if h : p.val < 512 then f ⟨p.val, h⟩ else g ⟨p.val - 512, by omega⟩

/-- The left half of two rows side by side. -/
theorem side_lo (f g : Fin 512 → EReal) (p : Fin 512) : side f g (lo p) = f p := dif_pos p.isLt

/-- The right half. -/
theorem side_hi (f g : Fin 512 → EReal) (p : Fin 512) : side f g (hi p) = g p := by
  refine (dif_neg (by show ¬512 + p.val < 512; omega)).trans (congrArg g (Fin.ext ?_))
  show 512 + p.val - 512 = p.val
  omega

/-- A sum over both halves. -/
theorem sum_halves (f : Fin 1024 → EReal) : ∑ p, f p = ∑ p : Fin 512, f (lo p) + ∑ p : Fin 512, f (hi p) :=
  Fin.sum_univ_add (a := 512) (b := 512) f

namespace Args

variable (A : Args)

/-- The attention branch. -/
def ya (n : Fin 8192) (p : Fin 512) : EReal := rn 0x44000000#32 (A.o n) p * A.ga p

/-- The convolution branch before its gate. -/
def z (n : Fin 8192) (p : Fin 512) : EReal := xh 0x44000000#32 (A.c1 n) p * A.lg p + A.lb p

/-- The convolution branch after its gate. -/
def s (n : Fin 8192) (p : Fin 512) : EReal := A.z n p * logis (A.z n p)

/-- The convolution branch. -/
def yc (n : Fin 8192) (p : Fin 512) : EReal := rn 0x44000000#32 (A.s n) p * A.gc p

/-- The projection's input. -/
def y (n : Fin 8192) : Fin 1024 → EReal := side (A.ya n) (A.yc n)

/-- The layer norm's input. -/
def pre (n : Fin 8192) (k : Fin 1024) : EReal := alpha * A.x n k + ((∑ p : Fin 1024, A.y n p * A.w p k) + A.b k)

/-- The gradient at the layer norm's output. -/
def ct (n : Fin 8192) (k : Fin 1024) : EReal := alpha * A.dp n k + A.dx n k

/-- The gradient at the layer norm's input. -/
def dpre (n : Fin 8192) : Fin 1024 → EReal := lnBwd 0x44800000#32 (A.pre n) fun k => A.ct n k * A.g1 k

/-- The gradient at the projection's input. -/
def dy (n : Fin 8192) (p : Fin 1024) : EReal := ∑ k : Fin 1024, A.dpre n k * A.w p k

/-- The gradient at the attention's output. -/
def dO (n : Fin 8192) : Fin 512 → EReal := rmsBwd 0x44000000#32 (A.o n) fun p => A.dy n (lo p) * A.ga p

/-- The gradient at the gated convolution. -/
def ds (n : Fin 8192) : Fin 512 → EReal := rmsBwd 0x44000000#32 (A.s n) fun p => A.dy n (hi p) * A.gc p

/-- The gradient at the gate's input. -/
def dz (n : Fin 8192) (p : Fin 512) : EReal :=
  A.ds n p * (logis (A.z n p) * (1 + A.z n p * (1 - logis (A.z n p))))

/-- The gradient at the convolution's output. -/
def dc1 (n : Fin 8192) : Fin 512 → EReal := lnBwd 0x44000000#32 (A.c1 n) fun p => A.dz n p * A.lg p

/-- The projection's gradient. -/
def dW (p k : Fin 1024) : EReal := ∑ n : Fin 8192, A.y n p * A.dpre n k

/-- What row `n` adds to the gradients of the gains and biases. -/
def g (n : Fin 8192) (r : ℕ) (p : Fin 1024) : EReal :=
  if r = 0 then A.ct n p * xh 0x44800000#32 (A.pre n) p
  else if r = 1 then A.ct n p
  else if r = 2 then A.dpre n p
  else if r = 3 then side (fun p => A.dy n (lo p) * rn 0x44000000#32 (A.o n) p)
    (fun p => A.dy n (hi p) * rn 0x44000000#32 (A.s n) p) p
  else if r = 4 then side (fun p => A.dz n p * xh 0x44000000#32 (A.c1 n) p) (A.dz n) p
  else 0

/-- The gradients of the gains and biases, one to a row or half a row, and rows of zeros. -/
def dG (r : ℕ) (p : Fin 1024) : EReal := ∑ n : Fin 8192, A.g n r p

end Args

end Cert.Mix

end
-- ==== Proof.Mix.Operands.lean ====
/- The operands of the gradient of the mixer's output stage that the host lines compute, by the coordinates of the arguments. -/
module

public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Mix.Spec
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel4Ideal.Body

open Idealize.ShloMosaic Idealize.ShloMosaic.TcCoe Cert.Kernel4Ideal Cert.Kernel4Ideal.Gen Cert.Mix

variable (m : (ℓ : Loc nD τ sig) → Buf (Elt Ideal) ℓ) (c : Dev nD)

/-- The arguments device `c` holds. -/
def args : Args where
  x n k := m ((c : Thread nD τ).loc main_arg0) (ix2 n k)
  o n p := m ((c : Thread nD τ).loc main_arg1) (ix2 n p)
  c1 n p := m ((c : Thread nD τ).loc main_arg2) (ix2 n p)
  w p k := m ((c : Thread nD τ).loc main_arg3) (ix2 p k)
  b k := m ((c : Thread nD τ).loc main_arg4) (ix2 (0 : Fin 1) k)
  ga p := m ((c : Thread nD τ).loc main_arg5) (ix2 (0 : Fin 1) p)
  gc p := m ((c : Thread nD τ).loc main_arg6) (ix2 (0 : Fin 1) p)
  lg p := m ((c : Thread nD τ).loc main_arg7) (ix2 (0 : Fin 1) p)
  lb p := m ((c : Thread nD τ).loc main_arg8) (ix2 (0 : Fin 1) p)
  g1 k := m ((c : Thread nD τ).loc main_arg9) (ix2 (0 : Fin 1) k)
  dp n k := m ((c : Thread nD τ).loc main_arg10) (ix2 n k)
  dx n k := m ((c : Thread nD τ).loc main_arg11) (ix2 n k)

/-- The output projection. -/
theorem V54_apply (p k : Fin 1024) : V m c main_v54 (ix2 p k) = (args m c).w p k := by
  unfold V; after_reads_at; rfl

set_option maxHeartbeats 4000000 in
/-- The attention branch. -/
theorem V55_apply (n : Fin 8192) (p : Fin 512) : V m c main_v55 (ix2 n p) = (args m c).ya n p := by
  unfold V; after_reads_at
  rfl

set_option maxHeartbeats 4000000 in
/-- The gated convolution. -/
theorem V34_apply (n : Fin 8192) (p : Fin 512) : V m c main_v34 (ix2 n p) = (args m c).s n p := by
  unfold V; after_reads_at
  unfold Args.s
  rw [Cert.Spec.logis_neg]
  rfl

set_option maxHeartbeats 4000000 in
/-- The convolution branch. -/
theorem V56_apply (n : Fin 8192) (p : Fin 512) : V m c main_v56 (ix2 n p) = (args m c).yc n p := by
  unfold V; after_reads_at
  unfold Args.yc Args.s
  simp only [Cert.Spec.logis_neg]
  rfl

set_option maxHeartbeats 4000000 in
/-- The layer norm's input. -/
theorem V53_apply (n : Fin 8192) (k : Fin 1024) : V m c main_v53 (ix2 n k) = (args m c).pre n k := by
  have e : (args m c).pre n k = alpha * (args m c).x n k + (∑ p : Fin 512, (args m c).ya n p * (args m c).w (lo p) k
      + ∑ p : Fin 512, (args m c).yc n p * (args m c).w (hi p) k + (args m c).b k) := by
    unfold Args.pre
    rw [sum_halves]
    simp only [Args.y, side_lo, side_hi]
  rw [e]
  unfold V; after_reads_at
  after_reads_at
  unfold Args.yc Args.s
  simp only [Cert.Spec.logis_neg]
  rfl

end Cert.Kernel4Ideal.Body

end
-- ==== Proof.Mix.Blocks.lean ====
/- What the grid points of the gradient of the mixer's output stage read: the blocks at a point, by the coordinates of the arguments. -/
module

public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Mix.Operands
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel4Ideal.Body

open Idealize.ShloMosaic Idealize.ShloMosaic.TcCoe Cert.Kernel4Ideal Cert.Kernel4Ideal.Gen Cert.Mix

variable (m : (ℓ : Loc nD τ sig) → Buf (Elt Ideal) ℓ) (c : Dev nD)

/-- Every window's block index at point `t`. -/
theorem idx : ∀ t : Fin cfg0.N,
    win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![0, 0]
    ∧ win0_17.index t = ![0, 0] :=
  (by decide +kernel : ∀ t : Fin grid0.N, _)

/-- The number of grid points. -/
theorem lt_16 (t : Fin cfg0.N) : t.val < 16 := lt_of_lt_of_eq t.isLt N_0

/-- Row `r` of the row block of point `t`, counted in the arrays. -/
def row (t : Fin cfg0.N) (r : Fin 512) : Fin 8192 := ⟨t.val * 512 + r.val, by have := lt_16 t; omega⟩

/-- The block of the gradient at the layer's output. -/
theorem blk0 (t : Fin cfg0.N) (r : Fin 512) (k : Fin 1024) : iblk m c 0 t (ix2 r k) = (args m c).dp (row t r) k := by
  refine Eq.trans ?_ (congrFun (V_main_arg10 m c) (ix2 (row t r) k))
  blk_ext [iblk, idx t, row]

/-- The block of the second gradient. -/
theorem blk1 (t : Fin cfg0.N) (r : Fin 512) (k : Fin 1024) : iblk m c 1 t (ix2 r k) = (args m c).dx (row t r) k := by
  refine Eq.trans ?_ (congrFun (V_main_arg11 m c) (ix2 (row t r) k))
  blk_ext [iblk, idx t, row]

/-- The block of the layer norm's input. -/
theorem blk2 (t : Fin cfg0.N) (r : Fin 512) (k : Fin 1024) : iblk m c 2 t (ix2 r k) = (args m c).pre (row t r) k := by
  rw [← V53_apply]; blk_ext [iblk, idx t, row]

/-- The layer norm's gain. -/
theorem blk3 (t : Fin cfg0.N) (p : Fin 1024) : iblk m c 3 t (ix2 (0 : Fin 1) p) = (args m c).g1 p := by
  refine Eq.trans ?_ (congrFun (V_main_arg9 m c) (ix2 (0 : Fin 1) p))
  blk_ext [iblk, idx t]

/-- The weight, whole. -/
theorem blk4 (t : Fin cfg0.N) (p k : Fin 1024) : iblk m c 4 t (ix2 p k) = (args m c).w p k := by
  rw [← V54_apply]; blk_ext [iblk, idx t]

/-- The block of the first half. -/
theorem blk5 (t : Fin cfg0.N) (r : Fin 512) (k : Fin 512) : iblk m c 5 t (ix2 r k) = (args m c).o (row t r) k := by
  refine Eq.trans ?_ (congrFun (V_main_arg1 m c) (ix2 (row t r) k))
  blk_ext [iblk, idx t, row]

/-- The block of the second half. -/
theorem blk6 (t : Fin cfg0.N) (r : Fin 512) (k : Fin 512) : iblk m c 6 t (ix2 r k) = (args m c).c1 (row t r) k := by
  refine Eq.trans ?_ (congrFun (V_main_arg2 m c) (ix2 (row t r) k))
  blk_ext [iblk, idx t, row]

/-- The gate's gain. -/
theorem blk7 (t : Fin cfg0.N) (p : Fin 512) : iblk m c 7 t (ix2 (0 : Fin 1) p) = (args m c).lg p := by
  refine Eq.trans ?_ (congrFun (V_main_arg7 m c) (ix2 (0 : Fin 1) p))
  blk_ext [iblk, idx t]

/-- The gate's bias. -/
theorem blk8 (t : Fin cfg0.N) (p : Fin 512) : iblk m c 8 t (ix2 (0 : Fin 1) p) = (args m c).lb p := by
  refine Eq.trans ?_ (congrFun (V_main_arg8 m c) (ix2 (0 : Fin 1) p))
  blk_ext [iblk, idx t]

/-- The first half's gain. -/
theorem blk9 (t : Fin cfg0.N) (p : Fin 512) : iblk m c 9 t (ix2 (0 : Fin 1) p) = (args m c).ga p := by
  refine Eq.trans ?_ (congrFun (V_main_arg5 m c) (ix2 (0 : Fin 1) p))
  blk_ext [iblk, idx t]

/-- The second half's gain. -/
theorem blk10 (t : Fin cfg0.N) (p : Fin 512) : iblk m c 10 t (ix2 (0 : Fin 1) p) = (args m c).gc p := by
  refine Eq.trans ?_ (congrFun (V_main_arg6 m c) (ix2 (0 : Fin 1) p))
  blk_ext [iblk, idx t]

/-- The block of the first half, normed. -/
theorem blk11 (t : Fin cfg0.N) (r : Fin 512) (k : Fin 512) : iblk m c 11 t (ix2 r k) = (args m c).ya (row t r) k := by
  rw [← V55_apply]; blk_ext [iblk, idx t, row]

/-- The block of the second half, normed. -/
theorem blk12 (t : Fin cfg0.N) (r : Fin 512) (k : Fin 512) : iblk m c 12 t (ix2 r k) = (args m c).yc (row t r) k := by
  rw [← V56_apply]; blk_ext [iblk, idx t, row]

end Cert.Kernel4Ideal.Body

end
-- ==== Proof.Mix.Point.lean ====
/- What the body computes at one grid point: the gradients at the layer norm's, the attention's and the convolution's output on
   the point's rows, and the point's shares of the projection's gradient and of the gains' and biases'. -/
module

public import proofs.«01_k».proof.Proof.Gen.Kernel4Ideal.Skeleton
public import proofs.«01_k».proof.Proof.Mix.Blocks
public import Idealize.ShloMosaic.Lib.Pipeline.ReadBack

@[expose] public section

set_option maxRecDepth 16384

noncomputable section

namespace Cert.Kernel4Ideal.Body

open Idealize.ShloMosaic Idealize.ShloMosaic.TcCoe Cert.Kernel4Ideal Cert.Kernel4Ideal.Gen Cert.Mix

variable (m : (ℓ : Loc nD τ sig) → Buf (Elt Ideal) ℓ) (c : Dev nD) (t : Fin cfg0.N)

/-! ## The layer norm -/

/-- The gradient at the layer norm's output. -/
abbrev ctV : FVec Ideal S512x1024 .f32 := k0_pay6 (iblk m c 0 t) (iblk m c 1 t)

/-- The reciprocal deviation of the layer norm's rows. -/
abbrev rV : FVec Ideal S512x1 .f32 := k0_pay8 (iblk m c 2 t)

/-- The normalised rows. -/
abbrev xhV : FVec Ideal S512x1024 .f32 := k0_pay9 (iblk m c 2 t)

/-- The gradient at the layer norm's input. -/
abbrev dpV : FVec Ideal S512x1024 .f32 := k0_pay13 (ctV m c t) (rV m c t) (xhV m c t) (iblk m c 3 t)

/-- The same in the format of the products. -/
abbrev dqV : FVec Ideal S512x1024 .bf16 := k0_pay15 (ctV m c t) (rV m c t) (xhV m c t) (iblk m c 3 t)

/-- The gradient at the projection's input. -/
abbrev dyV : FVec Ideal S512x1024 .f32 := k0_pay16 (ctV m c t) (rV m c t) (xhV m c t) (iblk m c 3 t) (iblk m c 4 t)

/-- The gradient at the layer norm's output, at an entry. -/
theorem ct_apply (r : Fin 512) (k : Fin 1024) : ctV m c t (ix2 r k) = (args m c).ct (row t r) k := by
  pointwise [k0_pay6]
  simp only [blk0, blk1]
  rfl

/-- The rows less their means. -/
theorem cen_apply (r : Fin 512) (k : Fin 1024) :
    k0_pay7 (iblk m c 2 t) (ix2 r k) = cen 0x44800000#32 ((args m c).pre (row t r)) k := by
  pointwise [k0_pay7]
  simp only [blk2]
  rfl

/-- The reciprocal deviations. -/
theorem r_apply (r : Fin 512) :
    rV m c t (ix2 r (0 : Fin 1)) = rs 0x44800000#32 (cen 0x44800000#32 ((args m c).pre (row t r))) := by
  pointwise [k0_pay8]
  simp only [cen_apply]
  rfl

/-- The normalised rows, at an entry. -/
theorem xh_apply (r : Fin 512) (k : Fin 1024) : xhV m c t (ix2 r k) = xh 0x44800000#32 ((args m c).pre (row t r)) k := by
  pointwise [k0_pay9]
  simp only [cen_apply, r_apply]
  rfl

/-- The gradient at the layer norm's input, at an entry. -/
theorem dp_apply (r : Fin 512) (k : Fin 1024) : dpV m c t (ix2 r k) = (args m c).dpre (row t r) k := by
  pointwise [k0_pay13]
  simp only [ct_apply, r_apply, xh_apply, blk3]
  rfl

/-- The same in the format of the products. -/
theorem dq_apply (r : Fin 512) (k : Fin 1024) : dqV m c t (ix2 r k) = (args m c).dpre (row t r) k := by
  pointwise [k0_pay15]
  exact dp_apply m c t r k

/-- The gradient at the projection's input, at an entry. -/
theorem dy_apply (r : Fin 512) (p : Fin 1024) : dyV m c t (ix2 r p) = (args m c).dy (row t r) p := by
  pointwise [k0_pay16]
  simp only [dq_apply, blk4]
  rfl

/-! ## The attention branch -/

/-- The gradient at the attention's output. -/
abbrev doV : FVec Ideal S512x512 .f32 :=
  k0_pay25 (k0_pay20 (iblk m c 5 t)) (k0_pay21 (iblk m c 5 t)) (k0_pay24 (dyV m c t) (iblk m c 9 t))

/-- The reciprocal root mean squares. -/
theorem ra_apply (r : Fin 512) :
    k0_pay20 (iblk m c 5 t) (ix2 r (0 : Fin 1)) = rs 0x44000000#32 ((args m c).o (row t r)) := by
  pointwise [k0_pay20]
  simp only [blk5]
  rfl

/-- The normed rows. -/
theorem na_apply (r p : Fin 512) : k0_pay21 (iblk m c 5 t) (ix2 r p) = rn 0x44000000#32 ((args m c).o (row t r)) p := by
  pointwise [k0_pay21]
  simp only [blk5, ra_apply]
  rfl

/-- The left half of the gradient at the projection's input. -/
theorem lo_apply (r p : Fin 512) : k0_pay22 (dyV m c t) (ix2 r p) = (args m c).dy (row t r) (lo p) := by
  pointwise [k0_pay22]
  exact dy_apply m c t r (lo p)

/-- The right half. -/
theorem hi_apply (r p : Fin 512) : k0_pay34 (dyV m c t) (ix2 r p) = (args m c).dy (row t r) (hi p) := by
  pointwise [k0_pay34]
  exact dy_apply m c t r (hi p)

/-- The gradient at the normed rows. -/
theorem da_apply (r p : Fin 512) :
    k0_pay24 (dyV m c t) (iblk m c 9 t) (ix2 r p) = (args m c).dy (row t r) (lo p) * (args m c).ga p := by
  pointwise [k0_pay24]
  simp only [lo_apply, blk9]

/-- The gradient at the attention's output, at an entry. -/
theorem do_apply (r p : Fin 512) : doV m c t (ix2 r p) = (args m c).dO (row t r) p := by
  pointwise [k0_pay25]
  simp only [ra_apply, na_apply, da_apply]
  rfl

/-! ## The convolution branch -/

/-- The gate's input. -/
abbrev zV : FVec Ideal S512x512 .f32 := k0_pay29 (iblk m c 6 t) (iblk m c 7 t) (iblk m c 8 t)

/-- The gate. -/
abbrev lgV : FVec Ideal S512x512 .f32 := k0_pay30 (iblk m c 6 t) (iblk m c 7 t) (iblk m c 8 t)

/-- The gradient at the gate's input. -/
abbrev dzV : FVec Ideal S512x512 .f32 := k0_pay36 (dyV m c t) (zV m c t) (lgV m c t) (iblk m c 10 t)

/-- The gradient at the convolution's output. -/
abbrev dcV : FVec Ideal S512x512 .f32 := k0_pay3 (k0_pay27 (iblk m c 6 t)) (k0_pay28 (iblk m c 6 t)) (dzV m c t) (iblk m c 7 t)

/-- The rows less their means. -/
theorem cenc_apply (r p : Fin 512) : k0_pay26 (iblk m c 6 t) (ix2 r p) = cen 0x44000000#32 ((args m c).c1 (row t r)) p := by
  pointwise [k0_pay26]
  simp only [blk6]
  rfl

/-- The reciprocal deviations. -/
theorem rc_apply (r : Fin 512) :
    k0_pay27 (iblk m c 6 t) (ix2 r (0 : Fin 1)) = rs 0x44000000#32 (cen 0x44000000#32 ((args m c).c1 (row t r))) := by
  pointwise [k0_pay27]
  simp only [cenc_apply]
  rfl

/-- The normalised rows. -/
theorem xc_apply (r p : Fin 512) : k0_pay28 (iblk m c 6 t) (ix2 r p) = xh 0x44000000#32 ((args m c).c1 (row t r)) p := by
  pointwise [k0_pay28]
  simp only [cenc_apply, rc_apply]
  rfl

/-- The gate's input, at an entry. -/
theorem z_apply (r p : Fin 512) : zV m c t (ix2 r p) = (args m c).z (row t r) p := by
  pointwise [k0_pay29]
  simp only [xc_apply, blk7, blk8]
  rfl

/-- The gate, at an entry. -/
theorem lg_apply (r p : Fin 512) : lgV m c t (ix2 r p) = Spec.logis ((args m c).z (row t r) p) := by
  pointwise [k0_pay30]
  simp only [z_apply]
  rfl

/-- The gated rows. -/
theorem s_apply (r p : Fin 512) : k0_pay31 (zV m c t) (lgV m c t) (ix2 r p) = (args m c).s (row t r) p := by
  pointwise [k0_pay31]
  simp only [z_apply, lg_apply]
  rfl

/-- Their reciprocal root mean squares. -/
theorem rsc_apply (r : Fin 512) :
    k0_pay32 (zV m c t) (lgV m c t) (ix2 r (0 : Fin 1)) = rs 0x44000000#32 ((args m c).s (row t r)) := by
  pointwise [k0_pay32]
  simp only [s_apply]
  rfl

/-- The normed gated rows. -/
theorem ns_apply (r p : Fin 512) :
    k0_pay33 (zV m c t) (lgV m c t) (ix2 r p) = rn 0x44000000#32 ((args m c).s (row t r)) p := by
  pointwise [k0_pay33]
  simp only [s_apply, rsc_apply]
  rfl

/-- The gradient at the gate's input, at an entry. -/
theorem dz_apply (r p : Fin 512) : dzV m c t (ix2 r p) = (args m c).dz (row t r) p := by
  pointwise [k0_pay36]
  simp only [hi_apply, blk10, ns_apply, rsc_apply, z_apply, lg_apply]
  rfl

/-- The gradient at the convolution's output, at an entry. -/
theorem dc_apply (r p : Fin 512) : dcV m c t (ix2 r p) = (args m c).dc1 (row t r) p := by
  pointwise [k0_pay3]
  simp only [dz_apply, blk7, rc_apply, xc_apply]
  rfl

/-! ## The point's share of the projection's gradient -/

/-- What the point adds at an entry. -/
def termW (t : Fin cfg0.N) (j : Fin 1024 × Fin 1024) : EReal :=
  ∑ r : Fin 512, (args m c).y (row t r) j.1 * (args m c).dpre (row t r) j.2

/-- The store into the attention branch's rows. -/
theorem storeA (X : Vec Ideal S512x1024 .f32) (p : Fin 512) (k : Fin 1024) :
    k0_pay18 (dqV m c t) (k0_pay17 X) (iblk m c 11 t) (ix2 p k)
      = (show EReal from X (ix2 p k)) + termW m c t (lo p, k) := by
  pointwise [k0_pay18, k0_pay17]
  refine congrArg (fun s : EReal => (show EReal from X (ix2 p k)) + s) (Finset.sum_congr rfl fun n _ => ?_)
  simp only [dq_apply, blk11, Args.y, side_lo]

/-- The store into the convolution branch's rows. -/
theorem storeC (X : Vec Ideal S512x1024 .f32) (p : Fin 512) (k : Fin 1024) :
    k0_pay19 (dqV m c t) X (iblk m c 12 t) (ix2 p k)
      = (show EReal from X (ix2 p k)) + termW m c t (hi p, k) := by
  pointwise [k0_pay19]
  refine congrArg (fun s : EReal => (show EReal from X (ix2 p k)) + s) (Finset.sum_congr rfl fun n _ => ?_)
  simp only [dq_apply, blk12, Args.y, side_hi]

/-! ## The point's share of the gradients of the gains and biases -/

/-- What the point adds at an entry. -/
def termG (t : Fin cfg0.N) (j : Fin 8 × Fin 1024) : EReal := ∑ r : Fin 512, (args m c).g (row t r) j.1.val j.2

/-- What a row adds to the two branches' gains. -/
theorem g_three (A : Args) (n : Fin 8192) (p : Fin 1024) :
    A.g n 3 p = side (fun p => A.dy n (lo p) * rn 0x44000000#32 (A.o n) p)
      (fun p => A.dy n (hi p) * rn 0x44000000#32 (A.s n) p) p := rfl

/-- What a row adds to the gate's gain and bias. -/
theorem g_four (A : Args) (n : Fin 8192) (p : Fin 1024) :
    A.g n 4 p = side (fun p => A.dz n p * xh 0x44000000#32 (A.c1 n) p) (A.dz n) p := rfl

/-- The store into the row of the layer norm's gain. -/
theorem store0 (X : Vec Ideal S1x1024 .f32) (p : Fin 1024) :
    k0_pay10 (iblk m c 0 t) (iblk m c 1 t) (iblk m c 2 t) X (ix2 (0 : Fin 1) p)
      = (show EReal from X (ix2 (0 : Fin 1) p)) + termG m c t (0, p) := by
  pointwise [k0_pay10]
  refine congrArg (fun s : EReal => (show EReal from X (ix2 (0 : Fin 1) p)) + s) (Finset.sum_congr rfl fun n _ => ?_)
  exact congrArg₂ (· * ·) (ct_apply m c t n p) (xh_apply m c t n p)

/-- The store into the row of the layer norm's bias. -/
theorem store1 (X : Vec Ideal S1x1024 .f32) (p : Fin 1024) :
    k0_pay12 (ctV m c t) (k0_pay11 X) (ix2 (0 : Fin 1) p)
      = (show EReal from X (ix2 (0 : Fin 1) p)) + termG m c t (1, p) := by
  pointwise [k0_pay12, k0_pay11]
  refine congrArg (fun s : EReal => (show EReal from X (ix2 (0 : Fin 1) p)) + s) (Finset.sum_congr rfl fun n _ => ?_)
  rw [ct_apply]
  rfl

/-- The store into the row of the projection's bias. -/
theorem store2 (X : Vec Ideal S1x1024 .f32) (p : Fin 1024) :
    k0_pay14 (ctV m c t) (rV m c t) (xhV m c t) (iblk m c 3 t) X (ix2 (0 : Fin 1) p)
      = (show EReal from X (ix2 (0 : Fin 1) p)) + termG m c t (2, p) := by
  pointwise [k0_pay14]
  refine congrArg (fun s : EReal => (show EReal from X (ix2 (0 : Fin 1) p)) + s) (Finset.sum_congr rfl fun n _ => ?_)
  exact dp_apply m c t n p

/-- The store into the half row of the attention branch's gain. -/
theorem store3a (X : Vec Ideal S1x512 .f32) (p : Fin 512) :
    k0_pay23 (dyV m c t) (iblk m c 5 t) X (ix2 (0 : Fin 1) p)
      = (show EReal from X (ix2 (0 : Fin 1) p)) + termG m c t (3, lo p) := by
  pointwise [k0_pay23]
  refine congrArg (fun s : EReal => (show EReal from X (ix2 (0 : Fin 1) p)) + s) (Finset.sum_congr rfl fun n _ => ?_)
  rw [lo_apply, na_apply]
  exact ((g_three _ _ (lo p)).trans (side_lo _ _ p)).symm

/-- The store into the half row of the convolution branch's gain. -/
theorem store3b (X : Vec Ideal S1x512 .f32) (p : Fin 512) :
    k0_pay35 (dyV m c t) (zV m c t) (lgV m c t) X (ix2 (0 : Fin 1) p)
      = (show EReal from X (ix2 (0 : Fin 1) p)) + termG m c t (3, hi p) := by
  pointwise [k0_pay35]
  refine congrArg (fun s : EReal => (show EReal from X (ix2 (0 : Fin 1) p)) + s) (Finset.sum_congr rfl fun n _ => ?_)
  rw [hi_apply, ns_apply]
  exact ((g_three _ _ (hi p)).trans (side_hi _ _ p)).symm

/-- The store into the half row of the gate's gain. -/
theorem store4a (X : Vec Ideal S1x512 .f32) (p : Fin 512) :
    k0_pay1 (k0_pay37 X) (k0_pay38 (dyV m c t) (k0_pay28 (iblk m c 6 t)) (zV m c t) (lgV m c t) (iblk m c 10 t)) (ix2 (0 : Fin 1) p)
      = (show EReal from X (ix2 (0 : Fin 1) p)) + termG m c t (4, lo p) := by
  pointwise [k0_pay1, k0_pay37, k0_pay38]
  refine congrArg (fun s : EReal => (show EReal from X (ix2 (0 : Fin 1) p)) + s) (Finset.sum_congr rfl fun n _ => ?_)
  refine (congrArg₂ (· * ·) (dz_apply m c t n p) (xc_apply m c t n p)).trans ?_
  exact ((g_four _ _ (lo p)).trans (side_lo _ _ p)).symm

/-- The store into the half row of the gate's bias. -/
theorem store4b (X : Vec Ideal S1x512 .f32) (p : Fin 512) :
    k0_pay2 (dzV m c t) X (ix2 (0 : Fin 1) p)
      = (show EReal from X (ix2 (0 : Fin 1) p)) + termG m c t (4, hi p) := by
  pointwise [k0_pay2]
  refine congrArg (fun s : EReal => (show EReal from X (ix2 (0 : Fin 1) p)) + s) (Finset.sum_congr rfl fun n _ => ?_)
  refine (dz_apply m c t n p).trans ?_
  exact ((g_four _ _ (hi p)).trans (side_hi _ _ p)).symm

end Cert.Kernel4Ideal.Body

end
-- ==== Proof.Mix.Outs.lean ====
/- What the five output buffers hold at a grid point: the three gradients on the point's rows, and the projection's gradient and
   the gains' and biases' as sums over the row blocks taken so far. -/
module

public import proofs.«01_k».proof.Proof.Mix.Frame
public import proofs.«01_k».proof.Proof.Mix.Point
public import Idealize.ShloMosaic.Lib.WritesUnit

@[expose] public section

set_option maxRecDepth 16384

noncomputable section

namespace Cert.Kernel4Ideal.Body

open Idealize.ShloMosaic Idealize.ShloMosaic.TcCoe Cert.Kernel4Ideal Cert.Kernel4Ideal.Gen Cert.Mix

variable (m : (ℓ : Loc nD τ sig) → Buf (Elt Ideal) ℓ) (c : Dev nD) (t : Fin cfg0.N)

/-! ## The three gradients written at every point -/

set_option maxHeartbeats 2000000 in
/-- The first output's buffer holds the layer norm's gradient. -/
theorem outs13 : (outsAt m c t.val t.isLt).1 = dpV m c t := by
  by_cases h : t.val = 0
  · rw [outsAt_A m c t h]
    dsimp only [outsA, outA13]
    frame_open
    simp (disch := decide) only [↓ View.readCov_fill]
    frame_out
  · rw [outsAt_B m c t h]
    dsimp only [outsB, outB13]
    frame_open
    simp (disch := decide) only [↓ View.readCov_fill]
    frame_out

set_option maxHeartbeats 2000000 in
/-- The second output's buffer holds the attention's gradient. -/
theorem outs14 : (outsAt m c t.val t.isLt).2.1 = doV m c t := by
  by_cases h : t.val = 0
  · rw [outsAt_A m c t h]
    dsimp only [outsA, outA14]
    frame_open
    simp (disch := decide) only [↓ View.readCov_fill]
    frame_out
  · rw [outsAt_B m c t h]
    dsimp only [outsB, outB14]
    frame_open
    simp (disch := decide) only [↓ View.readCov_fill]
    frame_out

set_option maxHeartbeats 2000000 in
/-- The third output's buffer holds the convolution's gradient. -/
theorem outs15 : (outsAt m c t.val t.isLt).2.2.1 = dcV m c t := by
  by_cases h : t.val = 0
  · rw [outsAt_A m c t h]
    dsimp only [outsA, outA15]
    frame_open
    simp (disch := decide) only [↓ View.readCov_fill]
    frame_out
  · rw [outsAt_B m c t h]
    dsimp only [outsB, outB15]
    frame_open
    simp (disch := decide) only [↓ View.readCov_fill]
    frame_out

/-! ## The projection's gradient: two stores of whole rows -/

section Rows

variable {κ : Kind} {sp : Space} (v : View sig κ sp S1024x1024 .f32) (f : v.ty.Contents (Elt Ideal))
  (L : List (View.Piece (Elt Ideal) S1024x1024 .f32)) (X : Vec Ideal S1024x1024 .f32)

/-- The two stores of a point, newest first, where the buffer held `X`. -/
abbrev rowStores : List (View.Piece (Elt Ideal) S1024x1024 .f32) :=
  ⟨Rect.unit (s := S1024x1024) ![512, 0] S512x1024.size inb_S1024x1024_S512x1024_512_0,
      k0_pay19 (dqV m c t)
        (View.ld X (Rect.unit (s := S1024x1024) ![512, 0] S512x1024.size inb_S1024x1024_S512x1024_512_0)) (iblk m c 12 t)⟩
    :: ⟨Rect.unit (s := S1024x1024) ![0, 0] S512x1024.size inb_S1024x1024_S512x1024_0_0,
      k0_pay18 (dqV m c t)
        (k0_pay17 (View.ld X (Rect.unit (s := S1024x1024) ![0, 0] S512x1024.size inb_S1024x1024_S512x1024_0_0)))
        (iblk m c 11 t)⟩ :: L

/-- Rows loaded from offset `o` are the rows from there on. -/
theorem ld_rows {n : ℕ} (o : ℕ) (inb) (r : Fin n) (k : Fin 1024) (h : o + r.val < 1024) :
    View.ld X (Rect.unit (s := S1024x1024) ![o, 0] (⟨2, ![n, 1024]⟩ : Shape).size inb) (ix2 r k) = X (ix2 ⟨o + r.val, h⟩ k) := by
  refine congrArg X ?_
  funext a; apply Fin.ext; fin_cases a
  · show o + 1 * r.val = o + r.val; omega
  · show 0 + 1 * k.val = k.val; omega

/-- After the two stores the buffer holds `X` and the point's share. -/
theorem rowStores_add (j : Fin 1024 × Fin 1024) :
    v.read (Elt Ideal) (v.writes (Elt Ideal) f (rowStores m c t L X)) (ix2 j.1 j.2)
      = (show EReal from X (ix2 j.1 j.2)) + termW m c t j := by
  obtain ⟨j, k⟩ := j
  have hit : ∀ (o n : ℕ) (inb) (w : Vec Ideal ⟨2, ![n, 1024]⟩ .f32) (L' : List (View.Piece (Elt Ideal) S1024x1024 .f32))
      (r : Fin n) (hr : j.val = o + r.val) (hw : w (ix2 r k) = (show EReal from X (ix2 j k)) + termW m c t (j, k)),
      v.read (Elt Ideal) (v.writes (Elt Ideal) f
        (⟨Rect.unit (s := S1024x1024) ![o, 0] (⟨2, ![n, 1024]⟩ : Shape).size inb, w⟩ :: L')) (ix2 j k)
        = (show EReal from X (ix2 j k)) + termW m c t (j, k) := fun o n inb w L' r hr hw =>
    (View.read_writes_cons_rows_of_mem v f inb w L' (ix2 j k) (ix2 r k) (o := o) rfl hr rfl).trans hw
  have miss : ∀ (o n : ℕ) (hj : j.val < o) (inb) (w : Vec Ideal ⟨2, ![n, 1024]⟩ .f32)
      (L' : List (View.Piece (Elt Ideal) S1024x1024 .f32)),
      v.read (Elt Ideal) (v.writes (Elt Ideal) f
        (⟨Rect.unit (s := S1024x1024) ![o, 0] (⟨2, ![n, 1024]⟩ : Shape).size inb, w⟩ :: L')) (ix2 j k)
        = v.read (Elt Ideal) (v.writes (Elt Ideal) f L') (ix2 j k) := fun o n hj inb w L' =>
    View.read_writes_cons_rows_of_not_mem v f inb w L' (ix2 j k) (o := o) (W := n) rfl rfl (Or.inl hj)
  have at_ : ∀ (o n : ℕ) (inb) (r : Fin n) (hr : j.val = o + r.val) (i : Fin 1024) (hi : j.val = i.val),
      (show EReal from View.ld X (Rect.unit (s := S1024x1024) ![o, 0] (⟨2, ![n, 1024]⟩ : Shape).size inb) (ix2 r k))
        + termW m c t (i, k) = (show EReal from X (ix2 j k)) + termW m c t (j, k) := fun o n inb r hr i hi => by
    obtain rfl : j = i := Fin.ext hi
    exact congrArg (fun s : EReal => s + termW m c t (j, k)) ((ld_rows X o inb r k (hr ▸ j.isLt)).trans
      (congrArg (fun i => X (ix2 i k)) (Fin.ext hr.symm)))
  rcases lt_or_ge j.val 512 with h512 | h512
  · refine (miss 512 512 h512 _ _ _).trans ?_
    refine hit 0 512 _ _ _ ⟨j.val, h512⟩ (by simp) ((storeA m c t _ _ k).trans (at_ 0 512 _ _ (by simp) _ ?_))
    rfl
  · refine hit 512 512 _ _ _ ⟨j.val - 512, by omega⟩ (by simp only; omega)
      ((storeC m c t _ _ k).trans (at_ 512 512 _ _ (by simp only; omega) _ ?_))
    show j.val = 512 + (j.val - 512)
    omega

end Rows

set_option maxHeartbeats 2000000 in
/-- At the first point the projection's gradient starts from zero. -/
theorem outs16_A (h : t.val = 0) (j : Fin 1024 × Fin 1024) :
    (outsAt m c t.val t.isLt).2.2.2.1 (ix2 j.1 j.2) = (0 : EReal) + termW m c t j := by
  rw [outsAt_A m c t h]
  dsimp only [outsA, outA16]
  frame_open
  simp (disch := decide) only [↓ View.readCov_skip, ↓ View.readCov_cons_toLoadRect, ↓ View.readCov_fill]
  frame_out
  rw [← View.read_writes_junk_apply_eq_canon VO16]
  refine (rowStores_add m c t _ _ _ _ j).trans ?_
  pointwise [k0_pay4]

set_option maxHeartbeats 2000000 in
/-- At a later point it goes on from what the point before left. -/
theorem outs16_B (h : ¬t.val = 0) (j : Fin 1024 × Fin 1024) :
    (outsAt m c t.val t.isLt).2.2.2.1 (ix2 j.1 j.2)
      = (show EReal from (outsAt m c (t.val - 1) (prev_lt t)).2.2.2.1 (ix2 j.1 j.2)) + termW m c t j := by
  rw [outsAt_B m c t h]
  dsimp only [outsB, outB16]
  frame_open
  simp (disch := decide) only [↓ View.readCov_skip, ↓ View.readCov_cons_toLoadRect, ↓ View.readCov_fill]
  frame_out
  exact rowStores_add m c t _ _ [] _ j

/-! ## The gradients of the gains and biases: stores into the first five rows -/

section Cols

variable {κ : Kind} {sp : Space} (v : View sig κ sp S8x1024 .f32) (f : v.ty.Contents (Elt Ideal))
  (L : List (View.Piece (Elt Ideal) S8x1024 .f32)) (X : Vec Ideal S8x1024 .f32)

/-- The seven stores of a point, newest first, where the buffer held `X`. -/
abbrev colStores : List (View.Piece (Elt Ideal) S8x1024 .f32) :=
  ⟨Rect.unit (s := S8x1024) ![4, 512] S1x512.size inb_S8x1024_S1x512_4_512,
      k0_pay2 (dzV m c t) (View.ld X (Rect.unit (s := S8x1024) ![4, 512] S1x512.size inb_S8x1024_S1x512_4_512))⟩
    :: ⟨Rect.unit (s := S8x1024) ![4, 0] S1x512.size inb_S8x1024_S1x512_4_0,
      k0_pay1 (k0_pay37 (View.ld X (Rect.unit (s := S8x1024) ![4, 0] S1x512.size inb_S8x1024_S1x512_4_0)))
        (k0_pay38 (dyV m c t) (k0_pay28 (iblk m c 6 t)) (zV m c t) (lgV m c t) (iblk m c 10 t))⟩
    :: ⟨Rect.unit (s := S8x1024) ![3, 512] S1x512.size inb_S8x1024_S1x512_3_512,
      k0_pay35 (dyV m c t) (zV m c t) (lgV m c t) (View.ld X (Rect.unit (s := S8x1024) ![3, 512] S1x512.size inb_S8x1024_S1x512_3_512))⟩
    :: ⟨Rect.unit (s := S8x1024) ![3, 0] S1x512.size inb_S8x1024_S1x512_3_0,
      k0_pay23 (dyV m c t) (iblk m c 5 t) (View.ld X (Rect.unit (s := S8x1024) ![3, 0] S1x512.size inb_S8x1024_S1x512_3_0))⟩
    :: ⟨Rect.unit (s := S8x1024) ![2, 0] S1x1024.size inb_S8x1024_S1x1024_2_0,
      k0_pay14 (ctV m c t) (rV m c t) (xhV m c t) (iblk m c 3 t)
        (View.ld X (Rect.unit (s := S8x1024) ![2, 0] S1x1024.size inb_S8x1024_S1x1024_2_0))⟩
    :: ⟨Rect.unit (s := S8x1024) ![1, 0] S1x1024.size inb_S8x1024_S1x1024_1_0,
      k0_pay12 (ctV m c t) (k0_pay11 (View.ld X (Rect.unit (s := S8x1024) ![1, 0] S1x1024.size inb_S8x1024_S1x1024_1_0)))⟩
    :: ⟨Rect.unit (s := S8x1024) ![0, 0] S1x1024.size inb_S8x1024_S1x1024_0_0,
      k0_pay10 (iblk m c 0 t) (iblk m c 1 t) (iblk m c 2 t)
        (View.ld X (Rect.unit (s := S8x1024) ![0, 0] S1x1024.size inb_S8x1024_S1x1024_0_0))⟩ :: L

/-- Columns loaded from row `ρ` at offset `o` are the columns from there on. -/
theorem ld_cols {n : ℕ} (ρ o : ℕ) (inb) (p : Fin n) (hρ : ρ < 8) (h : o + p.val < 1024) :
    View.ld X (Rect.unit (s := S8x1024) ![ρ, o] (⟨2, ![1, n]⟩ : Shape).size inb) (ix2 (0 : Fin 1) p)
      = X (ix2 ⟨ρ, hρ⟩ ⟨o + p.val, h⟩) := by
  refine congrArg X ?_
  funext a; apply Fin.ext; fin_cases a
  · rfl
  · show o + 1 * p.val = o + p.val; omega

set_option maxHeartbeats 2000000 in
/-- If the buffer held `X`, it holds `X` and the point's share after the seven stores. -/
theorem colStores_add (hL : ∀ y, v.read (Elt Ideal) (v.writes (Elt Ideal) f L) y = X y) (j : Fin 8 × Fin 1024) :
    v.read (Elt Ideal) (v.writes (Elt Ideal) f (colStores m c t L X)) (ix2 j.1 j.2)
      = (show EReal from X (ix2 j.1 j.2)) + termG m c t j := by
  obtain ⟨j, p⟩ := j
  have off : ∀ (ρ o n : ℕ) (hj : j.val < ρ ∨ ρ + 1 ≤ j.val) (inb) (w : Vec Ideal ⟨2, ![1, n]⟩ .f32)
      (L' : List (View.Piece (Elt Ideal) S8x1024 .f32)),
      v.read (Elt Ideal) (v.writes (Elt Ideal) f
        (⟨Rect.unit (s := S8x1024) ![ρ, o] (⟨2, ![1, n]⟩ : Shape).size inb, w⟩ :: L')) (ix2 j p)
        = v.read (Elt Ideal) (v.writes (Elt Ideal) f L') (ix2 j p) := fun ρ o n hj inb w L' =>
    View.read_writes_cons_unit_of_not_mem _ _ _ _ _ _ rfl 0 hj
  have left : ∀ (ρ o n : ℕ) (hp : p.val < o) (inb) (w : Vec Ideal ⟨2, ![1, n]⟩ .f32)
      (L' : List (View.Piece (Elt Ideal) S8x1024 .f32)),
      v.read (Elt Ideal) (v.writes (Elt Ideal) f
        (⟨Rect.unit (s := S8x1024) ![ρ, o] (⟨2, ![1, n]⟩ : Shape).size inb, w⟩ :: L')) (ix2 j p)
        = v.read (Elt Ideal) (v.writes (Elt Ideal) f L') (ix2 j p) := fun ρ o n hp inb w L' =>
    View.read_writes_cons_unit_of_not_mem _ _ _ _ _ _ rfl 1 (Or.inl hp)
  have hit : ∀ (ρ o n : ℕ) (h0 : j.val = ρ) (inb) (w : Vec Ideal ⟨2, ![1, n]⟩ .f32)
      (L' : List (View.Piece (Elt Ideal) S8x1024 .f32)) (q : Fin n) (hq : p.val = o + q.val),
      v.read (Elt Ideal) (v.writes (Elt Ideal) f
        (⟨Rect.unit (s := S8x1024) ![ρ, o] (⟨2, ![1, n]⟩ : Shape).size inb, w⟩ :: L')) (ix2 j p)
        = w (ix2 (0 : Fin 1) q) := fun ρ o n h0 inb w L' q hq => by
    refine View.read_writes_cons_unit_of_mem _ _ inb w L' _ (ix2 (0 : Fin 1) q) rfl fun a => ?_
    fin_cases a
    · exact h0
    · exact hq
  have at_ : ∀ (ρ o n : ℕ) (h0 : j.val = ρ) (inb) (q : Fin n) (hq : p.val = o + q.val) (a : Fin 8) (ha : j.val = a.val)
      (i : Fin 1024) (hi : p.val = i.val),
      (show EReal from View.ld X (Rect.unit (s := S8x1024) ![ρ, o] (⟨2, ![1, n]⟩ : Shape).size inb) (ix2 (0 : Fin 1) q))
        + termG m c t (a, i) = (show EReal from X (ix2 j p)) + termG m c t (j, p) := fun ρ o n h0 inb q hq a ha i hi => by
    obtain rfl : p = i := Fin.ext hi
    obtain rfl : j = a := Fin.ext ha
    subst h0
    exact congrArg (fun s : EReal => s + termG m c t (j, p)) ((ld_cols X j.val o inb q j.isLt (hq ▸ p.isLt)).trans
      (congrArg (fun i => X (ix2 j i)) (Fin.ext hq.symm)))
  have two : ∀ (ρ : ℕ) (h0 : j.val = ρ) (a : Fin 8) (ha : j.val = a.val) (inb1) (inb2) (w1 w2 : Vec Ideal ⟨2, ![1, 512]⟩ .f32 → Vec Ideal ⟨2, ![1, 512]⟩ .f32)
      (L' : List (View.Piece (Elt Ideal) S8x1024 .f32))
      (e1 : ∀ (Y : Vec Ideal ⟨2, ![1, 512]⟩ .f32) q, w1 Y (ix2 (0 : Fin 1) q) = (show EReal from Y (ix2 (0 : Fin 1) q)) + termG m c t (a, hi q))
      (e2 : ∀ (Y : Vec Ideal ⟨2, ![1, 512]⟩ .f32) q, w2 Y (ix2 (0 : Fin 1) q) = (show EReal from Y (ix2 (0 : Fin 1) q)) + termG m c t (a, lo q)),
      v.read (Elt Ideal) (v.writes (Elt Ideal) f
        (⟨Rect.unit (s := S8x1024) ![ρ, 512] (⟨2, ![1, 512]⟩ : Shape).size inb1,
            w1 (View.ld X (Rect.unit (s := S8x1024) ![ρ, 512] (⟨2, ![1, 512]⟩ : Shape).size inb1))⟩
          :: ⟨Rect.unit (s := S8x1024) ![ρ, 0] (⟨2, ![1, 512]⟩ : Shape).size inb2,
            w2 (View.ld X (Rect.unit (s := S8x1024) ![ρ, 0] (⟨2, ![1, 512]⟩ : Shape).size inb2))⟩ :: L')) (ix2 j p)
        = (show EReal from X (ix2 j p)) + termG m c t (j, p) := fun ρ h0 a ha inb1 inb2 w1 w2 L' e1 e2 => by
    rcases lt_or_ge p.val 512 with h512 | h512
    · refine (left ρ 512 512 h512 _ _ _).trans ((hit ρ 0 512 h0 _ _ _ ⟨p.val, h512⟩ (by simp)).trans
        ((e2 _ _).trans (at_ ρ 0 512 h0 _ _ (by simp) a ha _ ?_)))
      rfl
    · refine (hit ρ 512 512 h0 _ _ _ ⟨p.val - 512, by omega⟩ (by simp only; omega)).trans
        ((e1 _ _).trans (at_ ρ 512 512 h0 _ _ (by simp only; omega) a ha _ ?_))
      show p.val = 512 + (p.val - 512)
      omega
  by_cases h4 : j.val = 4
  · exact two 4 h4 4 h4 _ _ (fun Y => k0_pay2 (dzV m c t) Y) (fun Y => k0_pay1 (k0_pay37 Y)
      (k0_pay38 (dyV m c t) (k0_pay28 (iblk m c 6 t)) (zV m c t) (lgV m c t) (iblk m c 10 t))) _
      (store4b m c t) (store4a m c t)
  refine (off 4 512 512 (by omega) _ _ _).trans ((off 4 0 512 (by omega) _ _ _).trans ?_)
  by_cases h3 : j.val = 3
  · exact two 3 h3 3 h3 _ _ (fun Y => k0_pay35 (dyV m c t) (zV m c t) (lgV m c t) Y)
      (fun Y => k0_pay23 (dyV m c t) (iblk m c 5 t) Y) _ (store3b m c t) (store3a m c t)
  refine (off 3 512 512 (by omega) _ _ _).trans ((off 3 0 512 (by omega) _ _ _).trans ?_)
  by_cases h2 : j.val = 2
  · exact (hit 2 0 1024 h2 _ _ _ p (by simp)).trans ((store2 m c t _ _).trans (at_ 2 0 1024 h2 _ _ (by simp) 2 h2 _ rfl))
  refine (off 2 0 1024 (by omega) _ _ _).trans ?_
  by_cases h1 : j.val = 1
  · exact (hit 1 0 1024 h1 _ _ _ p (by simp)).trans ((store1 m c t _ _).trans (at_ 1 0 1024 h1 _ _ (by simp) 1 h1 _ rfl))
  refine (off 1 0 1024 (by omega) _ _ _).trans ?_
  by_cases h0 : j.val = 0
  · exact (hit 0 0 1024 h0 _ _ _ p (by simp)).trans ((store0 m c t _ _).trans (at_ 0 0 1024 h0 _ _ (by simp) 0 h0 _ rfl))
  refine (off 0 0 1024 (by omega) _ _ _).trans ?_
  have e : termG m c t (j, p) = 0 := Finset.sum_eq_zero fun r _ => by
    show (args m c).g (row t r) j.val p = 0
    unfold Args.g
    rw [if_neg h0, if_neg h1, if_neg h2, if_neg h3, if_neg h4]
  rw [e, add_zero]
  exact hL _

end Cols

set_option maxHeartbeats 2000000 in
/-- At the first point the gradients of the gains and biases start from zero. -/
theorem outs17_A (h : t.val = 0) (j : Fin 8 × Fin 1024) :
    (outsAt m c t.val t.isLt).2.2.2.2 (ix2 j.1 j.2) = (0 : EReal) + termG m c t j := by
  rw [outsAt_A m c t h]
  dsimp only [outsA, outA17]
  frame_open
  simp (disch := decide) only [↓ View.readCov_skip, ↓ View.readCov_cons_toLoadRect, ↓ View.readCov_fill]
  frame_out
  rw [← View.read_writes_junk_apply_eq_canon VO17]
  refine (colStores_add m c t _ _ _ _ (fun y => ?_) j).trans ?_
  · rw [View.read_writes_junk_apply_eq_canon, View.canon_cons_unit_lit _ _ _ (by decide)]
  pointwise [k0_pay5]

set_option maxHeartbeats 2000000 in
/-- At a later point they go on from what the point before left. -/
theorem outs17_B (h : ¬t.val = 0) (j : Fin 8 × Fin 1024) :
    (outsAt m c t.val t.isLt).2.2.2.2 (ix2 j.1 j.2)
      = (show EReal from (outsAt m c (t.val - 1) (prev_lt t)).2.2.2.2 (ix2 j.1 j.2)) + termG m c t j := by
  rw [outsAt_B m c t h]
  dsimp only [outsB, outB17]
  frame_open
  simp (disch := decide) only [↓ View.readCov_skip, ↓ View.readCov_cons_toLoadRect, ↓ View.readCov_fill]
  frame_out
  exact colStores_add m c t _ _ [] _ (fun y => congrFun ((hs17 t).read_unread _) y) j

end Cert.Kernel4Ideal.Body

end
-- ==== Proof.Mix.Final.lean ====
/- The five output arrays of the gradient of the mixer's output stage after the run: the two accumulators are sums over all
   rows, and each array is the corresponding array of Spec.lean. -/
module

public import proofs.«01_k».proof.Proof.Mix.Outs

@[expose] public section

set_option maxRecDepth 16384

noncomputable section

namespace Cert.Kernel4Ideal.Body

open Idealize.ShloMosaic Idealize.ShloMosaic.TcCoe Idealize.SL.Sem Cert.Kernel4Ideal Cert.Kernel4Ideal.Gen Cert.Mix

/-! ## The run, at any float values -/

section Run

variable {F : FTy → Type} [FloatOps F] (m : (ℓ : Loc nD τ sig) → Buf (Elt F) ℓ) (ρ : Dev nD → PrngReg)

/-- The whole run: the arguments stay, the outputs hold the blocks written back, and the semaphores are zero again. -/
theorem run_all : θ_run defs (onTc (τ := τ) (main (F := F))) ⟨m, fun _ => 0, ρ⟩ (fun r =>
    (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11))
    ∧ Pipeline.FramePost cfgs (dats m) 0 (V m) r ∧ r.2.sem = fun _ => 0) :=
  θ_run_and (frame_of m ρ (dats m) (A_eq m) ((θ_run defs _ _).mono (fun _ h => h.1) (run_main m ρ))) (run_main m ρ)

/-- Of which the frame: the arguments stay, and the semaphores are zero again. -/
theorem run_frame : θ_run defs (onTc (τ := τ) (main (F := F))) ⟨m, fun _ => 0, ρ⟩ (fun r =>
    (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11))
    ∧ r.2.sem = fun _ => 0) :=
  (θ_run defs _ _).mono (fun _ h => ⟨h.1, h.2.2⟩) (run_all m ρ)

end Run

variable (m : (ℓ : Loc nD τ sig) → Buf (Elt Ideal) ℓ) (c : Dev nD)

/-! ## Sums over the row blocks -/

/-- A value that starts from zero at the first point and adds, row block by row block, the sum of `G` over the block's rows
is, at the last point, the sum over all rows. -/
theorem run_sum {ι : Type} (f : (n : ℕ) → n < cfg0.N → ι → EReal) (G : Fin 8192 → ι → EReal)
    (hA : ∀ t : Fin cfg0.N, t.val = 0 → ∀ j, f t.val t.isLt j = 0 + ∑ r, G (row t r) j)
    (hB : ∀ t : Fin cfg0.N, ¬t.val = 0 → ∀ j, f t.val t.isLt j = f (t.val - 1) (prev_lt t) j + ∑ r, G (row t r) j)
    (t : Fin cfg0.N) (ht : t.val % 16 = 15) (j : ι) : f t.val t.isLt j = ∑ n, G n j := by
  rw [Pipeline.eq_sum_fin_of_reset_step_apply_of_flush f 16 (fun _ => 0) (fun t j => ∑ r, G (row t r) j)
    (fun t h => hA t (by have := lt_16 t; omega)) (fun t h => hB t (by omega)) t ht j, zero_add]
  refine Fin.sum_mul_add_congr fun s k hl => ?_
  refine congrArg (fun n => G n j) (Fin.ext ?_)
  show (16 * (t.val / 16) + s.val) * 512 + k.val = s.val * 512 + k.val
  have := lt_16 t
  omega

/-- The projection's gradient at the last point. -/
theorem last16 (t : Fin cfg0.N) (ht : t.val % 16 = 15) (j : Fin 1024 × Fin 1024) :
    (outsAt m c t.val t.isLt).2.2.2.1 (ix2 j.1 j.2) = (args m c).dW j.1 j.2 :=
  run_sum (fun n h j => (outsAt m c n h).2.2.2.1 (ix2 j.1 j.2)) (fun n j => (args m c).y n j.1 * (args m c).dpre n j.2)
    (fun t => outs16_A m c t) (fun t => outs16_B m c t) t ht j

/-- The gradients of the gains and biases at the last point. -/
theorem last17 (t : Fin cfg0.N) (ht : t.val % 16 = 15) (j : Fin 8 × Fin 1024) :
    (outsAt m c t.val t.isLt).2.2.2.2 (ix2 j.1 j.2) = (args m c).dG j.1.val j.2 :=
  run_sum (fun n h j => (outsAt m c n h).2.2.2.2 (ix2 j.1 j.2)) (fun n j => (args m c).g n j.1.val j.2)
    (fun t => outs17_A m c t) (fun t => outs17_B m c t) t ht j

/-! ## The arrays -/

/-- The gradient at the layer norm's input. -/
theorem arr13 : (dats m 0 c).arrAt 13 cfg0.N = fun i : S8192x1024.Idx => (args m c).dpre (i 0) (i 1) :=
  (dats m 0 c).arrAt_eq_of_covers 13 _ (by decide +kernel) fun t hf y => by
    blk_simp
    rw [after_13, outs13]
    refine (congrArg _ (by funext a; fin_cases a <;> rfl : y = ix2 (y 0) (y 1))).trans ((dp_apply m c t (y 0) (y 1)).trans ?_)
    refine congrArg₂ (args m c).dpre (Fin.ext ?_) (Fin.ext ?_) <;> blk_simp [idx t, row]

/-- The gradient at the attention's output. -/
theorem arr14 : (dats m 0 c).arrAt 14 cfg0.N = fun i : S8192x512.Idx => (args m c).dO (i 0) (i 1) :=
  (dats m 0 c).arrAt_eq_of_covers 14 _ (by decide +kernel) fun t hf y => by
    blk_simp
    rw [after_14, outs14]
    refine (congrArg _ (by funext a; fin_cases a <;> rfl : y = ix2 (y 0) (y 1))).trans ((do_apply m c t (y 0) (y 1)).trans ?_)
    refine congrArg₂ (args m c).dO (Fin.ext ?_) (Fin.ext ?_) <;> blk_simp [idx t, row]

/-- The gradient at the convolution's output. -/
theorem arr15 : (dats m 0 c).arrAt 15 cfg0.N = fun i : S8192x512.Idx => (args m c).dc1 (i 0) (i 1) :=
  (dats m 0 c).arrAt_eq_of_covers 15 _ (by decide +kernel) fun t hf y => by
    blk_simp
    rw [after_15, outs15]
    refine (congrArg _ (by funext a; fin_cases a <;> rfl : y = ix2 (y 0) (y 1))).trans ((dc_apply m c t (y 0) (y 1)).trans ?_)
    refine congrArg₂ (args m c).dc1 (Fin.ext ?_) (Fin.ext ?_) <;> blk_simp [idx t, row]

/-- The projection's gradient. -/
theorem arr16 : (dats m 0 c).arrAt 16 cfg0.N = fun i : S1024x1024.Idx => (args m c).dW (i 0) (i 1) :=
  (dats m 0 c).arrAt_eq_of_covers 16 _ (by decide +kernel) fun t hf y => by
    have ht := (flush0_16 t).mp hf
    blk_simp
    rw [after_16]
    refine (congrArg _ (by funext a; fin_cases a <;> rfl : y = ix2 (y 0) (y 1))).trans ((last16 m c t ht (y 0, y 1)).trans ?_)
    refine congrArg₂ (args m c).dW (Fin.ext ?_) (Fin.ext ?_) <;> blk_simp [idx t]

/-- The gradients of the gains and biases. -/
theorem arr17 : (dats m 0 c).arrAt 17 cfg0.N = fun i : S8x1024.Idx => (args m c).dG (i 0).val (i 1) :=
  (dats m 0 c).arrAt_eq_of_covers 17 _ (by decide +kernel) fun t hf y => by
    have ht := (flush0_17 t).mp hf
    blk_simp
    rw [after_17]
    refine (congrArg _ (by funext a; fin_cases a <;> rfl : y = ix2 (y 0) (y 1))).trans ((last17 m c t ht (y 0, y 1)).trans ?_)
    refine congrArg₂ (fun r p => (args m c).dG r p) ?_ (Fin.ext ?_) <;> blk_simp [idx t]

end Cert.Kernel4Ideal.Body

end
-- ==== Proof.Mix.Same.lean ====
/- The fourth kernel's frames: it and its ideal program are the same text, so one run serves both. -/
module

public import proofs.«01_k».proof.Defs
public import proofs.«01_k».proof.Proof.Gen.Kernel4
public import proofs.«01_k».proof.Proof.Gen.Kernel4Ideal
public import proofs.«01_k».proof.Proof.Mix.Final
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

instance : Cert.Kernel4.Facts := Cert.Kernel4.Gen.facts
instance : Cert.Kernel4Ideal.Facts := Cert.Kernel4Ideal.Gen.facts

/-- The fourth kernel terminates, leaves its arguments as they were and its semaphores at zero, over the reals. -/
theorem frame_kernel4Ideal : Cert.quiescent_Kernel4Ideal := fun m ρ _ =>
  Cert.Kernel4Ideal.Body.run_frame (F := Ideal) m ρ

set_option maxHeartbeats 8000000 in
/-- The fourth kernel and its ideal program have the same body. -/
theorem body_same4 : Cert.Kernel4.defs₀ (F := Bits) = Cert.Kernel4Ideal.defs₀ (F := Bits) := by
  unfold Cert.Kernel4.defs₀ Cert.Kernel4Ideal.defs₀
  refine congrArg Defs.onTc (funext fun l => funext fun x => ?_)
  obtain ⟨_ | n, h⟩ := l
  · dsimp only
    rfl
  · exact absurd h (by omega)

set_option maxHeartbeats 8000000 in
/-- They have the same pipeline. -/
theorem defs_same4 : Cert.Kernel4.defs (F := Bits) = Cert.Kernel4Ideal.defs (F := Bits) :=
  congrArg (Pipeline.defs Cert.Kernel4Ideal.pcfgs) body_same4

set_option maxHeartbeats 8000000 in
/-- And the same host code. -/
theorem main_same4 : Cert.Kernel4.main (F := Bits) = Cert.Kernel4Ideal.main (F := Bits) := rfl

set_option maxHeartbeats 8000000 in
/-- So the fourth kernel ends as its ideal program does, in the machine's arithmetic too. -/
theorem frame_kernel4 : Cert.quiescent_Kernel4 := fun m ρ _ => by
  rw [defs_same4, main_same4]
  exact Cert.Kernel4Ideal.Body.run_frame (F := Bits) m ρ

end Cert.Proof

end
-- ==== Proof.Mix.Real.lean ====
/- The two normalisations and their gradients on real rows: the gradient as the chain rule leaves it, step by step, is the
   closed form of Spec.lean. -/
module

public import proofs.«01_k».proof.Proof.Mix.Spec
public import Idealize.ShloMosaic.Lib.IdealHost

@[expose] public section

noncomputable section

namespace Cert.Mix

open Idealize.ShloMosaic Cert.Spec

/-! ## Constants -/

/-- The word of 512. -/
theorem ofBits_512 : Ideal.ofBits .f32 0x44000000#32 = (((512 : ℕ) : ℝ) : EReal) := by
  simp [Ideal.ofBits, Ideal.ieee, -EReal.coe_mul]; norm_num

/-- The word of 1024. -/
theorem ofBits_1024 : Ideal.ofBits .f32 0x44800000#32 = (((1024 : ℕ) : ℝ) : EReal) := by
  simp [Ideal.ofBits, Ideal.ieee, -EReal.coe_mul]; norm_num

/-- The word of two. -/
theorem ofBits_2 : Ideal.ofBits .f32 0x40000000#32 = ((2 : ℝ) : EReal) := by
  simp [Ideal.ofBits, Ideal.ieee, -EReal.coe_mul]; norm_num

/-- The word of minus a half. -/
theorem ofBits_neg_half : Ideal.ofBits .f32 0xBF000000#32 = ((-(1 / 2) : ℝ) : EReal) := by
  simp [Ideal.ofBits, Ideal.ieee, -EReal.coe_mul, -EReal.coe_neg]; norm_num

/-- The small number under the root is a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- The residual's factor is real. -/
theorem alpha_real : IsReal alpha := by
  refine ⟨_, by simp [alpha, Ideal.ofBits, Ideal.ieee, -EReal.coe_mul]; rfl⟩

/-! ## Sums and rows of reals -/

/-- A sum of reals. -/
theorem coe_sum {N : ℕ} (f : Fin N → ℝ) : ∑ i, ((f i : ℝ) : EReal) = ((∑ i, f i : ℝ) : EReal) := by
  classical
  induction (Finset.univ : Finset (Fin N)) using Finset.induction_on with
  | empty => simp
  | insert a s ha ih => rw [Finset.sum_insert ha, Finset.sum_insert ha, ih, EReal.coe_add]

/-- A row of reals, as reals. -/
theorem row_real {N : ℕ} {f : Fin N → EReal} (h : ∀ i, IsReal (f i)) : ∃ g : Fin N → ℝ, f = fun i => (g i : EReal) := by
  choose g hg using h
  exact ⟨g, funext hg⟩

/-- A difference of two reals is real. -/
theorem sub_real {a b : EReal} (ha : IsReal a) (hb : IsReal b) : IsReal (a - b) := by
  obtain ⟨r, rfl⟩ := ha
  obtain ⟨s, rfl⟩ := hb
  exact ⟨r - s, (EReal.coe_sub r s).symm⟩

section Row

variable {N : ℕ} {w : BitVec 32} (hw : Ideal.ofBits .f32 w = ((N : ℝ) : EReal)) (hN : (N : ℝ) ≠ 0)
include hw hN

/-- The mean of a real row. -/
theorem mean_coe (f : Fin N → ℝ) : mean w (fun i => ((f i : ℝ) : EReal)) = (((∑ i, f i) / N : ℝ) : EReal) := by
  unfold mean
  rw [hw, Ideal.div_coe hN, coe_sum, ← EReal.coe_mul, mul_one_div]

/-- A real row's centred row. -/
theorem cen_coe (f : Fin N → ℝ) :
    cen w (fun i => ((f i : ℝ) : EReal)) = fun i => ((f i - (∑ i, f i) / N : ℝ) : EReal) := by
  funext i
  unfold cen
  rw [mean_coe hw hN, EReal.coe_sub]

/-- The number under the root, and its reciprocal root. -/
theorem rs_coe (f : Fin N → ℝ) : ∃ v : ℝ, 0 < v
    ∧ mean w (fun i => ((f i : ℝ) : EReal) * ((f i : ℝ) : EReal)) + Ideal.ofBits .f32 0x3727C5AC#32 = (v : EReal)
    ∧ rs w (fun i => ((f i : ℝ) : EReal)) = (((√v)⁻¹ : ℝ) : EReal) := by
  obtain ⟨e, he, h⟩ := ofBits_eps
  have hv : 0 < (∑ i, f i * f i) / N + e :=
    add_pos_of_nonneg_of_pos (div_nonneg (Finset.sum_nonneg fun i _ => mul_self_nonneg _) N.cast_nonneg) he
  have e1 : mean w (fun i => ((f i : ℝ) : EReal) * ((f i : ℝ) : EReal)) + Ideal.ofBits .f32 0x3727C5AC#32
      = (((∑ i, f i * f i) / N + e : ℝ) : EReal) := by
    rw [h, EReal.coe_add, ← mean_coe hw hN]
    simp only [EReal.coe_mul]
  refine ⟨_, hv, e1, ?_⟩
  unfold rs
  rw [e1, Ideal.rsqrt_coe, if_neg (not_lt.mpr hv.le), if_neg hv.ne']

/-- The gradient through the root mean square, as the chain rule leaves it. -/
theorem rms_chain (f d : Fin N → EReal) (hf : ∀ i, IsReal (f i)) (hd : ∀ i, IsReal (d i)) (i : Fin N) :
    d i * rs w f
        + Ideal.div ((∑ j, f j * d j) * (Ideal.ofBits .f32 0xBF000000#32 * Ideal.div (rs w f)
            (mean w (fun i => f i * f i) + Ideal.ofBits .f32 0x3727C5AC#32))) (Ideal.ofBits .f32 w)
          * (Ideal.ofBits .f32 0x40000000#32 * f i)
      = rmsBwd w f d i := by
  obtain ⟨f, rfl⟩ := row_real hf
  obtain ⟨d, rfl⟩ := row_real hd
  obtain ⟨v, hv, e1, e2⟩ := rs_coe hw hN f
  have hs : √v ≠ 0 := (Real.sqrt_pos.mpr hv).ne'
  have hvs : v = √v * √v := (Real.mul_self_sqrt hv.le).symm
  simp only [rmsBwd, rn, e1, e2]
  rw [hw, Ideal.div_coe hN, Ideal.div_coe hv.ne', ofBits_2, ofBits_neg_half]
  simp only [← EReal.coe_mul]
  rw [mean_coe hw hN, coe_sum]
  simp only [← EReal.coe_mul, ← EReal.coe_add, ← EReal.coe_sub]
  refine congrArg _ ?_
  have e3 : ∑ j, d j * (f j * (√v)⁻¹) = (∑ j, f j * d j) * (√v)⁻¹ := by
    rw [Finset.sum_mul]
    exact Finset.sum_congr rfl fun j _ => by ring
  rw [e3]
  generalize ∑ j, f j * d j = D
  generalize √v = s at *
  subst hvs
  field_simp
  ring

/-- The gradient through mean and standard deviation, as the chain rule leaves it. -/
theorem ln_chain (f d : Fin N → EReal) (hf : ∀ i, IsReal (f i)) (hd : ∀ i, IsReal (d i)) (i : Fin N)
    (a b : Fin N → EReal) (ha : ∀ i, a i = d i * rs w (cen w f))
    (hb : ∀ i, b i = Ideal.div ((∑ j, cen w f j * d j) * (Ideal.ofBits .f32 0xBF000000#32 * Ideal.div (rs w (cen w f))
            (mean w (fun i => cen w f i * cen w f i) + Ideal.ofBits .f32 0x3727C5AC#32))) (Ideal.ofBits .f32 w)
          * (Ideal.ofBits .f32 0x40000000#32 * cen w f i)) :
    a i + b i + Ideal.div ((∑ j, -a j) + ∑ j, -b j) (Ideal.ofBits .f32 w) = lnBwd w f d i := by
  obtain ⟨f, rfl⟩ := row_real hf
  obtain ⟨d, rfl⟩ := row_real hd
  obtain rfl := funext ha
  obtain rfl := funext hb
  obtain ⟨x, hx, hz⟩ : ∃ x : Fin N → ℝ, cen w (fun i => ((f i : ℝ) : EReal)) = (fun i => ((x i : ℝ) : EReal)) ∧ ∑ i, x i = 0 := by
    refine ⟨_, cen_coe hw hN f, ?_⟩
    rw [Finset.sum_sub_distrib, Finset.sum_const, Finset.card_univ, Fintype.card_fin, nsmul_eq_mul, mul_div_cancel₀ _ hN, sub_self]
  obtain ⟨v, hv, e1, e2⟩ := rs_coe hw hN x
  have hs : √v ≠ 0 := (Real.sqrt_pos.mpr hv).ne'
  have hvs : v = √v * √v := (Real.mul_self_sqrt hv.le).symm
  simp only [lnBwd, xh, rn, hx, e1, e2]
  rw [hw, Ideal.div_coe hN, Ideal.div_coe hv.ne', ofBits_2, ofBits_neg_half]
  simp only [← EReal.coe_mul]
  rw [mean_coe hw hN, mean_coe hw hN]
  simp only [coe_sum, ← EReal.coe_mul, ← EReal.coe_neg]
  rw [Ideal.div_coe hN]
  simp only [← EReal.coe_mul, ← EReal.coe_add, ← EReal.coe_sub]
  refine congrArg _ ?_
  have e3 : ∑ j, d j * (x j * (√v)⁻¹) = (∑ j, x j * d j) * (√v)⁻¹ := by
    rw [Finset.sum_mul]
    exact Finset.sum_congr rfl fun j _ => by ring
  rw [e3]
  simp only [Finset.sum_neg_distrib, ← Finset.sum_mul, ← Finset.mul_sum, hz]
  generalize ∑ j, x j * d j = D
  generalize ∑ j, d j = E
  generalize √v = s at *
  subst hvs
  field_simp
  ring

/-- The reciprocal root mean square of a real row is real. -/
theorem rs_real {f : Fin N → EReal} (hf : ∀ i, IsReal (f i)) : IsReal (rs w f) := by
  obtain ⟨f, rfl⟩ := row_real hf
  obtain ⟨v, -, -, e⟩ := rs_coe hw hN f
  exact ⟨_, e⟩

/-- The mean of a real row is real. -/
theorem mean_real {f : Fin N → EReal} (hf : ∀ i, IsReal (f i)) : IsReal (mean w f) := by
  obtain ⟨f, rfl⟩ := row_real hf
  exact ⟨_, mean_coe hw hN f⟩

/-- A real row divided by its root mean square is real. -/
theorem rn_real {f : Fin N → EReal} (hf : ∀ i, IsReal (f i)) (i : Fin N) : IsReal (rn w f i) :=
  (hf i).mul (rs_real hw hN hf)

/-- A real row less its mean is real. -/
theorem cen_real {f : Fin N → EReal} (hf : ∀ i, IsReal (f i)) (i : Fin N) : IsReal (cen w f i) :=
  sub_real (hf i) (mean_real hw hN hf)

/-- A normalised real row is real. -/
theorem xh_real {f : Fin N → EReal} (hf : ∀ i, IsReal (f i)) (i : Fin N) : IsReal (xh w f i) :=
  rn_real hw hN (cen_real hw hN hf) i

/-- The gradient through the root mean square is real. -/
theorem rmsBwd_real {f d : Fin N → EReal} (hf : ∀ i, IsReal (f i)) (hd : ∀ i, IsReal (d i)) (i : Fin N) :
    IsReal (rmsBwd w f d i) :=
  (rs_real hw hN hf).mul (sub_real (hd i) ((rn_real hw hN hf i).mul
    (mean_real hw hN fun j => (hd j).mul (rn_real hw hN hf j))))

/-- The gradient through mean and standard deviation is real. -/
theorem lnBwd_real {f d : Fin N → EReal} (hf : ∀ i, IsReal (f i)) (hd : ∀ i, IsReal (d i)) (i : Fin N) :
    IsReal (lnBwd w f d i) :=
  (rs_real hw hN (cen_real hw hN hf)).mul (sub_real (sub_real (hd i) (mean_real hw hN hd)) ((xh_real hw hN hf i).mul
    (mean_real hw hN fun j => (hd j).mul (xh_real hw hN hf j))))

end Row

/-- The gradient through the gate, as the chain rule leaves it. -/
theorem gate_chain {d z : EReal} (hd : IsReal d) (hz : IsReal z) :
    d * logis z + z * d * (logis z * (1 - logis z)) = d * (logis z * (1 + z * (1 - logis z))) := by
  obtain ⟨s, hs⟩ := hz.logis
  obtain ⟨z, rfl⟩ := hz
  obtain ⟨d, rfl⟩ := hd
  rw [hs, ← EReal.coe_one]
  norm_cast
  ring

/-! ## The arrays, on real arguments -/

/-- 512 is not zero. -/
theorem ne_512 : ((512 : ℕ) : ℝ) ≠ 0 := by norm_num

/-- 1024 is not zero. -/
theorem ne_1024 : ((1024 : ℕ) : ℝ) ≠ 0 := by norm_num

/-- Every argument is a real number. -/
structure Args.Real (A : Args) : Prop where
  x : ∀ n k, IsReal (A.x n k)
  o : ∀ n p, IsReal (A.o n p)
  c1 : ∀ n p, IsReal (A.c1 n p)
  w : ∀ p k, IsReal (A.w p k)
  b : ∀ k, IsReal (A.b k)
  ga : ∀ p, IsReal (A.ga p)
  gc : ∀ p, IsReal (A.gc p)
  lg : ∀ p, IsReal (A.lg p)
  lb : ∀ p, IsReal (A.lb p)
  g1 : ∀ k, IsReal (A.g1 k)
  dp : ∀ n k, IsReal (A.dp n k)
  dx : ∀ n k, IsReal (A.dx n k)

namespace Args

variable {A : Args}

/-- The attention branch is real. -/
theorem Real.ya (h : A.Real) (n : Fin 8192) (p : Fin 512) : IsReal (A.ya n p) :=
  (rn_real ofBits_512 ne_512 (h.o n) p).mul (h.ga p)

/-- The gate's input is real. -/
theorem Real.z (h : A.Real) (n : Fin 8192) (p : Fin 512) : IsReal (A.z n p) :=
  ((xh_real ofBits_512 ne_512 (h.c1 n) p).mul (h.lg p)).add (h.lb p)

/-- The gated convolution is real. -/
theorem Real.s (h : A.Real) (n : Fin 8192) (p : Fin 512) : IsReal (A.s n p) := (h.z n p).mul (h.z n p).logis

/-- The convolution branch is real. -/
theorem Real.yc (h : A.Real) (n : Fin 8192) (p : Fin 512) : IsReal (A.yc n p) :=
  (rn_real ofBits_512 ne_512 (h.s n) p).mul (h.gc p)

/-- The projection's input is real. -/
theorem Real.y (h : A.Real) (n : Fin 8192) (p : Fin 1024) : IsReal (A.y n p) := by
  unfold Args.y side
  split
  · exact h.ya _ _
  · exact h.yc _ _

/-- The layer norm's input is real. -/
theorem Real.pre (h : A.Real) (n : Fin 8192) (k : Fin 1024) : IsReal (A.pre n k) :=
  (alpha_real.mul (h.x n k)).add ((IsReal.sum fun p => (h.y n p).mul (h.w p k)).add (h.b k))

/-- The gradient at the layer norm's output is real. -/
theorem Real.ct (h : A.Real) (n : Fin 8192) (k : Fin 1024) : IsReal (A.ct n k) := (alpha_real.mul (h.dp n k)).add (h.dx n k)

/-- The gradient at the layer norm's input is real. -/
theorem Real.dpre (h : A.Real) (n : Fin 8192) (k : Fin 1024) : IsReal (A.dpre n k) :=
  lnBwd_real ofBits_1024 ne_1024 (h.pre n) (fun k => (h.ct n k).mul (h.g1 k)) k

/-- The gradient at the projection's input is real. -/
theorem Real.dy (h : A.Real) (n : Fin 8192) (p : Fin 1024) : IsReal (A.dy n p) :=
  IsReal.sum fun k => (h.dpre n k).mul (h.w p k)

/-- The gradient at the gated convolution is real. -/
theorem Real.ds (h : A.Real) (n : Fin 8192) (p : Fin 512) : IsReal (A.ds n p) :=
  rmsBwd_real ofBits_512 ne_512 (h.s n) (fun p => (h.dy n (hi p)).mul (h.gc p)) p

/-- The gradient at the gate's input is real. -/
theorem Real.dz (h : A.Real) (n : Fin 8192) (p : Fin 512) : IsReal (A.dz n p) := by
  have hl := (h.z n p).logis
  have h1 : IsReal 1 := ⟨1, rfl⟩
  exact (h.ds n p).mul (hl.mul (h1.add ((h.z n p).mul (sub_real h1 hl))))

end Args

end Cert.Mix

end
-- ==== Proof.Mix.Ref.lean ====
/- The fourth reference, read at an index: each of its arrays is the corresponding array of Spec.lean. -/
module

public import proofs.«01_k».proof.Proof.Gen.Reference4Ideal.Read
public import proofs.«01_k».proof.Proof.Mix.Real
public import Idealize.ShloMosaic.Lib.Pointwise
public import Idealize.ShloMosaic.Lib.Pipeline.ValueKit

@[expose] public section

set_option maxRecDepth 16384

noncomputable section

namespace Cert.Reference4Ideal.Body

open Idealize.ShloMosaic Idealize.ShloMosaic.TcCoe Cert.Reference4Ideal Cert.Reference4Ideal.Read Cert.Mix

variable (x0 : (⟨S8192x1024, .f32⟩ : BufTy).Contents (Elt Ideal)) (x1 x2 : (⟨S8192x512, .f32⟩ : BufTy).Contents (Elt Ideal))
  (x3 : (⟨S1024x1024, .f32⟩ : BufTy).Contents (Elt Ideal)) (x4 : (⟨S1x1024, .f32⟩ : BufTy).Contents (Elt Ideal))
  (x5 x6 x7 x8 : (⟨S1x512, .f32⟩ : BufTy).Contents (Elt Ideal)) (x9 : (⟨S1x1024, .f32⟩ : BufTy).Contents (Elt Ideal))
  (x10 x11 : (⟨S8192x1024, .f32⟩ : BufTy).Contents (Elt Ideal))

/-- The arguments' entries. -/
def args : Args where
  x n k := x0 (ix2 n k)
  o n p := x1 (ix2 n p)
  c1 n p := x2 (ix2 n p)
  w p k := x3 (ix2 p k)
  b k := x4 (ix2 (0 : Fin 1) k)
  ga p := x5 (ix2 (0 : Fin 1) p)
  gc p := x6 (ix2 (0 : Fin 1) p)
  lg p := x7 (ix2 (0 : Fin 1) p)
  lb p := x8 (ix2 (0 : Fin 1) p)
  g1 k := x9 (ix2 (0 : Fin 1) k)
  dp n k := x10 (ix2 n k)
  dx n k := x11 (ix2 n k)

/-- What a row adds to the two branches' gains. -/
theorem g_three (A : Args) (n : Fin 8192) (p : Fin 1024) :
    A.g n 3 p = side (fun p => A.dy n (lo p) * rn 0x44000000#32 (A.o n) p)
      (fun p => A.dy n (hi p) * rn 0x44000000#32 (A.s n) p) p := rfl

/-- What a row adds to the gate's gain and bias. -/
theorem g_four (A : Args) (n : Fin 8192) (p : Fin 1024) :
    A.g n 4 p = side (fun p => A.dz n p * xh 0x44000000#32 (A.c1 n) p) (A.dz n) p := rfl

/-- The reciprocal root mean squares of the attention's rows. -/
theorem v12_eq (n : Fin 8192) (i : Fin 1) :
    val_main_v12 (F := Ideal) x1 (ix2 n i)
      = rs 0x44000000#32 ((args x0 x1 x2 x3 x4 x5 x6 x7 x8 x9 x10 x11).o n) := by
  pointwise [val_main_v12, val_main_v11, val_main_v10, val_main_cst_4, val_main_v9, val_main_v7, val_main_v6,
    val_main_cst_2, val_main_v3, val_main_v8, val_main_cst_3]
  rfl

/-- The attention's normed rows. -/
theorem v17_eq (n : Fin 8192) (p : Fin 512) :
    val_main_v17 (F := Ideal) x1 (ix2 n p)
      = rn 0x44000000#32 ((args x0 x1 x2 x3 x4 x5 x6 x7 x8 x9 x10 x11).o n) p := by
  pointwise [val_main_v17, val_main_v16]
  simp only [Finset.univ_unique, Finset.sum_singleton, v12_eq x0 x1 x2 x3 x4 x5 x6 x7 x8 x9 x10 x11]
  rfl

/-- The attention branch. -/
theorem v19_eq (n : Fin 8192) (p : Fin 512) :
    val_main_v19 (F := Ideal) x1 x5 (ix2 n p)
      = (args x0 x1 x2 x3 x4 x5 x6 x7 x8 x9 x10 x11).ya n p := by
  pointwise [val_main_v19, val_main_v18]
  simp only [Finset.univ_unique, Finset.sum_singleton, v17_eq x0 x1 x2 x3 x4 x5 x6 x7 x8 x9 x10 x11]
  rfl

/-- The reciprocal root's derivative at the attention's rows. -/
theorem v15_eq (n : Fin 8192) (i : Fin 1) :
    val_main_v15 (F := Ideal) x1 (ix2 n i)
      = Ideal.ofBits .f32 0xBF000000#32 * Ideal.div (rs 0x44000000#32 ((args x0 x1 x2 x3 x4 x5 x6 x7 x8 x9 x10 x11).o n))
        (mean 0x44000000#32 (fun j => (args x0 x1 x2 x3 x4 x5 x6 x7 x8 x9 x10 x11).o n j * (args x0 x1 x2 x3 x4 x5 x6 x7 x8 x9 x10 x11).o n j) + Ideal.ofBits .f32 0x3727C5AC#32) := by
  pointwise [val_main_v15, val_main_v13, val_main_v11, val_main_v10, val_main_cst_4, val_main_v9, val_main_v7, val_main_v6,
    val_main_cst_2, val_main_v3, val_main_v8, val_main_cst_3, val_main_v14, val_main_cst_5]
  simp only [Finset.univ_unique, Finset.sum_singleton, v12_eq x0 x1 x2 x3 x4 x5 x6 x7 x8 x9 x10 x11]
  rfl

/-- The square's derivative at the attention's rows. -/
theorem v5_eq (n : Fin 8192) (p : Fin 512) :
    val_main_v5 (F := Ideal) x1 (ix2 n p)
      = Ideal.ofBits .f32 0x40000000#32 * (args x0 x1 x2 x3 x4 x5 x6 x7 x8 x9 x10 x11).o n p := by
  pointwise [val_main_v5, val_main_v4, val_main_cst_1]
  rfl

/-- The means of the convolution's rows. -/
theorem v23_eq (n : Fin 8192) (i : Fin 1) :
    val_main_v23 (F := Ideal) x2 (ix2 n i)
      = mean 0x44000000#32 ((args x0 x1 x2 x3 x4 x5 x6 x7 x8 x9 x10 x11).c1 n) := by
  pointwise [val_main_v23, val_main_v21, val_main_v20, val_main_cst_6, val_main_v22, val_main_cst_7]
  rfl

/-- The convolution's centred rows. -/
theorem v25_eq (n : Fin 8192) (p : Fin 512) :
    val_main_v25 (F := Ideal) x2 (ix2 n p)
      = cen 0x44000000#32 ((args x0 x1 x2 x3 x4 x5 x6 x7 x8 x9 x10 x11).c1 n) p := by
  pointwise [val_main_v25, val_main_v24]
  simp only [Finset.univ_unique, Finset.sum_singleton, v23_eq x0 x1 x2 x3 x4 x5 x6 x7 x8 x9 x10 x11]
  rfl

/-- The same, from the second copy of the means. -/
theorem v34_eq (n : Fin 8192) (p : Fin 512) :
    val_main_v34 (F := Ideal) x2 (ix2 n p)
      = cen 0x44000000#32 ((args x0 x1 x2 x3 x4 x5 x6 x7 x8 x9 x10 x11).c1 n) p := by
  pointwise [val_main_v34, val_main_v33]
  simp only [Finset.univ_unique, Finset.sum_singleton, v23_eq x0 x1 x2 x3 x4 x5 x6 x7 x8 x9 x10 x11]
  rfl

/-- Their reciprocal deviations. -/
theorem v37_eq (n : Fin 8192) (i : Fin 1) :
    val_main_v37 (F := Ideal) x2 (ix2 n i)
      = rs 0x44000000#32 (cen 0x44000000#32 ((args x0 x1 x2 x3 x4 x5 x6 x7 x8 x9 x10 x11).c1 n)) := by
  pointwise [val_main_v37, val_main_v36, val_main_v32, val_main_v30, val_main_v29, val_main_cst_9, val_main_v26,
    val_main_v31, val_main_cst_10, val_main_v35, val_main_cst_11]
  simp only [Finset.univ_unique, Finset.sum_singleton, v25_eq x0 x1 x2 x3 x4 x5 x6 x7 x8 x9 x10 x11]
  rfl

/-- The reciprocal root's derivative there. -/
theorem v40_eq (n : Fin 8192) (i : Fin 1) :
    val_main_v40 (F := Ideal) x2 (ix2 n i)
      = Ideal.ofBits .f32 0xBF000000#32 * Ideal.div (rs 0x44000000#32 (cen 0x44000000#32 ((args x0 x1 x2 x3 x4 x5 x6 x7 x8 x9 x10 x11).c1 n)))
        (mean 0x44000000#32 (fun j => cen 0x44000000#32 ((args x0 x1 x2 x3 x4 x5 x6 x7 x8 x9 x10 x11).c1 n) j * cen 0x44000000#32 ((args x0 x1 x2 x3 x4 x5 x6 x7 x8 x9 x10 x11).c1 n) j) + Ideal.ofBits .f32 0x3727C5AC#32) := by
  pointwise [val_main_v40, val_main_v38, val_main_v36, val_main_v32, val_main_v30, val_main_v29, val_main_cst_9,
    val_main_v26, val_main_v31, val_main_cst_10, val_main_v35, val_main_cst_11, val_main_v39, val_main_cst_12]
  simp only [Finset.univ_unique, Finset.sum_singleton, v25_eq x0 x1 x2 x3 x4 x5 x6 x7 x8 x9 x10 x11,
    v37_eq x0 x1 x2 x3 x4 x5 x6 x7 x8 x9 x10 x11]
  rfl

/-- The square's derivative there. -/
theorem v28_eq (n : Fin 8192) (p : Fin 512) :
    val_main_v28 (F := Ideal) x2 (ix2 n p)
      = Ideal.ofBits .f32 0x40000000#32 * cen 0x44000000#32 ((args x0 x1 x2 x3 x4 x5 x6 x7 x8 x9 x10 x11).c1 n) p := by
  pointwise [val_main_v28, val_main_v27, val_main_cst_8]
  simp only [Finset.univ_unique, Finset.sum_singleton, v25_eq x0 x1 x2 x3 x4 x5 x6 x7 x8 x9 x10 x11]

/-- The convolution's normalised rows. -/
theorem v42_eq (n : Fin 8192) (p : Fin 512) :
    val_main_v42 (F := Ideal) x2 (ix2 n p)
      = xh 0x44000000#32 ((args x0 x1 x2 x3 x4 x5 x6 x7 x8 x9 x10 x11).c1 n) p := by
  pointwise [val_main_v42, val_main_v41]
  simp only [Finset.univ_unique, Finset.sum_singleton, v34_eq x0 x1 x2 x3 x4 x5 x6 x7 x8 x9 x10 x11,
    v37_eq x0 x1 x2 x3 x4 x5 x6 x7 x8 x9 x10 x11]
  rfl

/-- The gate's input. -/
theorem v46_eq (n : Fin 8192) (p : Fin 512) :
    val_main_v46 (F := Ideal) x2 x7 x8 (ix2 n p)
      = (args x0 x1 x2 x3 x4 x5 x6 x7 x8 x9 x10 x11).z n p := by
  pointwise [val_main_v46, val_main_v44, val_main_v43, val_main_v45]
  simp only [Finset.univ_unique, Finset.sum_singleton, v42_eq x0 x1 x2 x3 x4 x5 x6 x7 x8 x9 x10 x11]
  rfl

/-- The gate. -/
theorem v47_2_eq (n : Fin 8192) (p : Fin 512) :
    val_main_v47_2 (F := Ideal) x2 x7 x8 (ix2 n p)
      = Spec.logis ((args x0 x1 x2 x3 x4 x5 x6 x7 x8 x9 x10 x11).z n p) := by
  pointwise [val_main_v47_2, val_main_call0_v3, val_main_call0_v1, val_main_call0_v0, val_main_call0_v2, val_main_call0_cst,
    val_main_call0_v4, val_main_call0_cst_0]
  simp only [Finset.univ_unique, Finset.sum_singleton, v46_eq x0 x1 x2 x3 x4 x5 x6 x7 x8 x9 x10 x11]
  exact (Spec.logis_neg _).symm

/-- The gate's derivative. -/
theorem v47_1_eq (n : Fin 8192) (p : Fin 512) :
    val_main_v47_1 (F := Ideal) x2 x7 x8 (ix2 n p)
      = Spec.logis ((args x0 x1 x2 x3 x4 x5 x6 x7 x8 x9 x10 x11).z n p) * (1 - Spec.logis ((args x0 x1 x2 x3 x4 x5 x6 x7 x8 x9 x10 x11).z n p)) := by
  pointwise [val_main_v47_1, val_main_call0_v7, val_main_call0_v6, val_main_call0_cst_1]
  simp only [Finset.univ_unique, Finset.sum_singleton, v47_2_eq x0 x1 x2 x3 x4 x5 x6 x7 x8 x9 x10 x11]

/-- The gated convolution. -/
theorem v47_0_eq (n : Fin 8192) (p : Fin 512) :
    val_main_v47_0 (F := Ideal) x2 x7 x8 (ix2 n p)
      = (args x0 x1 x2 x3 x4 x5 x6 x7 x8 x9 x10 x11).s n p := by
  pointwise [val_main_v47_0]
  simp only [Finset.univ_unique, Finset.sum_singleton, v46_eq x0 x1 x2 x3 x4 x5 x6 x7 x8 x9 x10 x11,
    v47_2_eq x0 x1 x2 x3 x4 x5 x6 x7 x8 x9 x10 x11]
  rfl

/-- The reciprocal root mean squares of the gated rows. -/
theorem v57_eq (n : Fin 8192) (i : Fin 1) :
    val_main_v57 (F := Ideal) x2 x7 x8 (ix2 n i)
      = rs 0x44000000#32 ((args x0 x1 x2 x3 x4 x5 x6 x7 x8 x9 x10 x11).s n) := by
  pointwise [val_main_v57, val_main_v56, val_main_v54, val_main_v52, val_main_v51, val_main_cst_14, val_main_v48,
    val_main_v53, val_main_cst_15, val_main_v55, val_main_cst_16]
  simp only [Finset.univ_unique, Finset.sum_singleton, v47_0_eq x0 x1 x2 x3 x4 x5 x6 x7 x8 x9 x10 x11]
  rfl

/-- The reciprocal root's derivative there. -/
theorem v60_eq (n : Fin 8192) (i : Fin 1) :
    val_main_v60 (F := Ideal) x2 x7 x8 (ix2 n i)
      = Ideal.ofBits .f32 0xBF000000#32 * Ideal.div (rs 0x44000000#32 ((args x0 x1 x2 x3 x4 x5 x6 x7 x8 x9 x10 x11).s n))
        (mean 0x44000000#32 (fun j => (args x0 x1 x2 x3 x4 x5 x6 x7 x8 x9 x10 x11).s n j * (args x0 x1 x2 x3 x4 x5 x6 x7 x8 x9 x10 x11).s n j) + Ideal.ofBits .f32 0x3727C5AC#32) := by
  pointwise [val_main_v60, val_main_v58, val_main_v56, val_main_v54, val_main_v52, val_main_v51, val_main_cst_14,
    val_main_v48, val_main_v53, val_main_cst_15, val_main_v55, val_main_cst_16, val_main_v59, val_main_cst_17]
  simp only [Finset.univ_unique, Finset.sum_singleton, v47_0_eq x0 x1 x2 x3 x4 x5 x6 x7 x8 x9 x10 x11,
    v57_eq x0 x1 x2 x3 x4 x5 x6 x7 x8 x9 x10 x11]
  rfl

/-- The square's derivative there. -/
theorem v50_eq (n : Fin 8192) (p : Fin 512) :
    val_main_v50 (F := Ideal) x2 x7 x8 (ix2 n p)
      = Ideal.ofBits .f32 0x40000000#32 * (args x0 x1 x2 x3 x4 x5 x6 x7 x8 x9 x10 x11).s n p := by
  pointwise [val_main_v50, val_main_v49, val_main_cst_13]
  simp only [Finset.univ_unique, Finset.sum_singleton, v47_0_eq x0 x1 x2 x3 x4 x5 x6 x7 x8 x9 x10 x11]

/-- The gated rows, normed. -/
theorem v62_eq (n : Fin 8192) (p : Fin 512) :
    val_main_v62 (F := Ideal) x2 x7 x8 (ix2 n p)
      = rn 0x44000000#32 ((args x0 x1 x2 x3 x4 x5 x6 x7 x8 x9 x10 x11).s n) p := by
  pointwise [val_main_v62, val_main_v61]
  simp only [Finset.univ_unique, Finset.sum_singleton, v47_0_eq x0 x1 x2 x3 x4 x5 x6 x7 x8 x9 x10 x11,
    v57_eq x0 x1 x2 x3 x4 x5 x6 x7 x8 x9 x10 x11]
  rfl

/-- The convolution branch. -/
theorem v64_eq (n : Fin 8192) (p : Fin 512) :
    val_main_v64 (F := Ideal) x2 x6 x7 x8 (ix2 n p)
      = (args x0 x1 x2 x3 x4 x5 x6 x7 x8 x9 x10 x11).yc n p := by
  pointwise [val_main_v64, val_main_v63]
  simp only [Finset.univ_unique, Finset.sum_singleton, v62_eq x0 x1 x2 x3 x4 x5 x6 x7 x8 x9 x10 x11]
  rfl

/-- The projection's input. -/
theorem v65_eq (n : Fin 8192) (k : Fin 1024) :
    val_main_v65 (F := Ideal) x1 x2 x5 x6 x7 x8 (ix2 n k)
      = (args x0 x1 x2 x3 x4 x5 x6 x7 x8 x9 x10 x11).y n k := by
  pointwise [val_main_v65]
  simp only [Finset.univ_unique, Finset.sum_singleton, v19_eq x0 x1 x2 x3 x4 x5 x6 x7 x8 x9 x10 x11,
    v64_eq x0 x1 x2 x3 x4 x5 x6 x7 x8 x9 x10 x11]
  rfl

/-- The layer norm's input. -/
theorem v69_eq (n : Fin 8192) (k : Fin 1024) :
    val_main_v69 (F := Ideal) x0 x1 x2 x3 x4 x5 x6 x7 x8 (ix2 n k)
      = (args x0 x1 x2 x3 x4 x5 x6 x7 x8 x9 x10 x11).pre n k := by
  pointwise [val_main_v69, val_main_v1, val_main_v0, val_main_cst, val_main_v68, val_main_v66, val_main_v67]
  simp only [Finset.univ_unique, Finset.sum_singleton, v65_eq x0 x1 x2 x3 x4 x5 x6 x7 x8 x9 x10 x11]
  rfl

/-- The means of its rows. -/
theorem v73_eq (n : Fin 8192) (i : Fin 1) :
    val_main_v73 (F := Ideal) x0 x1 x2 x3 x4 x5 x6 x7 x8 (ix2 n i)
      = mean 0x44800000#32 ((args x0 x1 x2 x3 x4 x5 x6 x7 x8 x9 x10 x11).pre n) := by
  pointwise [val_main_v73, val_main_v71, val_main_v70, val_main_cst_18, val_main_v72, val_main_cst_19]
  simp only [Finset.univ_unique, Finset.sum_singleton, v69_eq x0 x1 x2 x3 x4 x5 x6 x7 x8 x9 x10 x11]
  rfl

/-- Its centred rows. -/
theorem v75_eq (n : Fin 8192) (k : Fin 1024) :
    val_main_v75 (F := Ideal) x0 x1 x2 x3 x4 x5 x6 x7 x8 (ix2 n k)
      = cen 0x44800000#32 ((args x0 x1 x2 x3 x4 x5 x6 x7 x8 x9 x10 x11).pre n) k := by
  pointwise [val_main_v75, val_main_v74]
  simp only [Finset.univ_unique, Finset.sum_singleton, v69_eq x0 x1 x2 x3 x4 x5 x6 x7 x8 x9 x10 x11,
    v73_eq x0 x1 x2 x3 x4 x5 x6 x7 x8 x9 x10 x11]
  rfl

/-- The same, from the second copy of the means. -/
theorem v84_eq (n : Fin 8192) (k : Fin 1024) :
    val_main_v84 (F := Ideal) x0 x1 x2 x3 x4 x5 x6 x7 x8 (ix2 n k)
      = cen 0x44800000#32 ((args x0 x1 x2 x3 x4 x5 x6 x7 x8 x9 x10 x11).pre n) k := by
  pointwise [val_main_v84, val_main_v83]
  simp only [Finset.univ_unique, Finset.sum_singleton, v69_eq x0 x1 x2 x3 x4 x5 x6 x7 x8 x9 x10 x11,
    v73_eq x0 x1 x2 x3 x4 x5 x6 x7 x8 x9 x10 x11]
  rfl

/-- Their reciprocal deviations. -/
theorem v87_eq (n : Fin 8192) (i : Fin 1) :
    val_main_v87 (F := Ideal) x0 x1 x2 x3 x4 x5 x6 x7 x8 (ix2 n i)
      = rs 0x44800000#32 (cen 0x44800000#32 ((args x0 x1 x2 x3 x4 x5 x6 x7 x8 x9 x10 x11).pre n)) := by
  pointwise [val_main_v87, val_main_v86, val_main_v82, val_main_v80, val_main_v79, val_main_cst_21, val_main_v76,
    val_main_v81, val_main_cst_22, val_main_v85, val_main_cst_23]
  simp only [Finset.univ_unique, Finset.sum_singleton, v75_eq x0 x1 x2 x3 x4 x5 x6 x7 x8 x9 x10 x11]
  rfl

/-- The reciprocal root's derivative there. -/
theorem v90_eq (n : Fin 8192) (i : Fin 1) :
    val_main_v90 (F := Ideal) x0 x1 x2 x3 x4 x5 x6 x7 x8 (ix2 n i)
      = Ideal.ofBits .f32 0xBF000000#32 * Ideal.div (rs 0x44800000#32 (cen 0x44800000#32 ((args x0 x1 x2 x3 x4 x5 x6 x7 x8 x9 x10 x11).pre n)))
        (mean 0x44800000#32 (fun j => cen 0x44800000#32 ((args x0 x1 x2 x3 x4 x5 x6 x7 x8 x9 x10 x11).pre n) j * cen 0x44800000#32 ((args x0 x1 x2 x3 x4 x5 x6 x7 x8 x9 x10 x11).pre n) j) + Ideal.ofBits .f32 0x3727C5AC#32) := by
  pointwise [val_main_v90, val_main_v88, val_main_v86, val_main_v82, val_main_v80, val_main_v79, val_main_cst_21,
    val_main_v76, val_main_v81, val_main_cst_22, val_main_v85, val_main_cst_23, val_main_v89, val_main_cst_24]
  simp only [Finset.univ_unique, Finset.sum_singleton, v75_eq x0 x1 x2 x3 x4 x5 x6 x7 x8 x9 x10 x11,
    v87_eq x0 x1 x2 x3 x4 x5 x6 x7 x8 x9 x10 x11]
  rfl

/-- The square's derivative there. -/
theorem v78_eq (n : Fin 8192) (k : Fin 1024) :
    val_main_v78 (F := Ideal) x0 x1 x2 x3 x4 x5 x6 x7 x8 (ix2 n k)
      = Ideal.ofBits .f32 0x40000000#32 * cen 0x44800000#32 ((args x0 x1 x2 x3 x4 x5 x6 x7 x8 x9 x10 x11).pre n) k := by
  pointwise [val_main_v78, val_main_v77, val_main_cst_20]
  simp only [Finset.univ_unique, Finset.sum_singleton, v75_eq x0 x1 x2 x3 x4 x5 x6 x7 x8 x9 x10 x11]

/-- The normalised rows. -/
theorem v92_eq (n : Fin 8192) (k : Fin 1024) :
    val_main_v92 (F := Ideal) x0 x1 x2 x3 x4 x5 x6 x7 x8 (ix2 n k)
      = xh 0x44800000#32 ((args x0 x1 x2 x3 x4 x5 x6 x7 x8 x9 x10 x11).pre n) k := by
  pointwise [val_main_v92, val_main_v91]
  simp only [Finset.univ_unique, Finset.sum_singleton, v84_eq x0 x1 x2 x3 x4 x5 x6 x7 x8 x9 x10 x11,
    v87_eq x0 x1 x2 x3 x4 x5 x6 x7 x8 x9 x10 x11]
  rfl

/-- The gradient at the layer norm's output. -/
theorem v99_eq (n : Fin 8192) (k : Fin 1024) :
    val_main_v99 (F := Ideal) x10 x11 (ix2 n k)
      = (args x0 x1 x2 x3 x4 x5 x6 x7 x8 x9 x10 x11).ct n k := by
  pointwise [val_main_v99, val_main_v98, val_main_v97, val_main_cst_25]
  rfl

/-- The gradient at the normalised rows. -/
theorem v106_eq (n : Fin 8192) (k : Fin 1024) :
    val_main_v106 (F := Ideal) x9 x10 x11 (ix2 n k)
      = (args x0 x1 x2 x3 x4 x5 x6 x7 x8 x9 x10 x11).ct n k * (args x0 x1 x2 x3 x4 x5 x6 x7 x8 x9 x10 x11).g1 k := by
  pointwise [val_main_v106, val_main_v105]
  simp only [Finset.univ_unique, Finset.sum_singleton, v99_eq x0 x1 x2 x3 x4 x5 x6 x7 x8 x9 x10 x11]
  rfl

/-- The gradient through the division. -/
theorem v111_eq (n : Fin 8192) (k : Fin 1024) :
    val_main_v111 (F := Ideal) x0 x1 x2 x3 x4 x5 x6 x7 x8 x9 x10 x11 (ix2 n k)
      = (args x0 x1 x2 x3 x4 x5 x6 x7 x8 x9 x10 x11).ct n k * (args x0 x1 x2 x3 x4 x5 x6 x7 x8 x9 x10 x11).g1 k * rs 0x44800000#32 (cen 0x44800000#32 ((args x0 x1 x2 x3 x4 x5 x6 x7 x8 x9 x10 x11).pre n)) := by
  pointwise [val_main_v111, val_main_v110]
  simp only [Finset.univ_unique, Finset.sum_singleton, v106_eq x0 x1 x2 x3 x4 x5 x6 x7 x8 x9 x10 x11,
    v87_eq x0 x1 x2 x3 x4 x5 x6 x7 x8 x9 x10 x11]

/-- The gradient through the deviation. -/
theorem v120_eq (n : Fin 8192) (k : Fin 1024) :
    val_main_v120 (F := Ideal) x0 x1 x2 x3 x4 x5 x6 x7 x8 x9 x10 x11 (ix2 n k)
      = Ideal.div ((∑ j, cen 0x44800000#32 ((args x0 x1 x2 x3 x4 x5 x6 x7 x8 x9 x10 x11).pre n) j * ((args x0 x1 x2 x3 x4 x5 x6 x7 x8 x9 x10 x11).ct n j * (args x0 x1 x2 x3 x4 x5 x6 x7 x8 x9 x10 x11).g1 j))
        * (Ideal.ofBits .f32 0xBF000000#32 * Ideal.div (rs 0x44800000#32 (cen 0x44800000#32 ((args x0 x1 x2 x3 x4 x5 x6 x7 x8 x9 x10 x11).pre n)))
        (mean 0x44800000#32 (fun j => cen 0x44800000#32 ((args x0 x1 x2 x3 x4 x5 x6 x7 x8 x9 x10 x11).pre n) j * cen 0x44800000#32 ((args x0 x1 x2 x3 x4 x5 x6 x7 x8 x9 x10 x11).pre n) j) + Ideal.ofBits .f32 0x3727C5AC#32)))
        (Ideal.ofBits .f32 0x44800000#32) * (Ideal.ofBits .f32 0x40000000#32 * cen 0x44800000#32 ((args x0 x1 x2 x3 x4 x5 x6 x7 x8 x9 x10 x11).pre n) k) := by
  pointwise [val_main_v120, val_main_v119, val_main_v118, val_main_cst_31, val_main_v117, val_main_v112, val_main_v109,
    val_main_v108, val_main_cst_28, val_main_v107, val_main_v116, val_main_cst_30]
  simp only [Finset.univ_unique, Finset.sum_singleton, v106_eq x0 x1 x2 x3 x4 x5 x6 x7 x8 x9 x10 x11,
    v84_eq x0 x1 x2 x3 x4 x5 x6 x7 x8 x9 x10 x11, v90_eq x0 x1 x2 x3 x4 x5 x6 x7 x8 x9 x10 x11,
    v78_eq x0 x1 x2 x3 x4 x5 x6 x7 x8 x9 x10 x11]

/-- The first result: the gradient at the layer norm's input. -/
theorem v130_eq (h : (args x0 x1 x2 x3 x4 x5 x6 x7 x8 x9 x10 x11).Real) (n : Fin 8192) (k : Fin 1024) :
    val_main_v130 (F := Ideal) x0 x1 x2 x3 x4 x5 x6 x7 x8 x9 x10 x11 (ix2 n k)
      = (args x0 x1 x2 x3 x4 x5 x6 x7 x8 x9 x10 x11).dpre n k := by
  pointwise [val_main_v130, val_main_v124, val_main_v129, val_main_v128, val_main_cst_34, val_main_v127, val_main_v125,
    val_main_v115, val_main_v114, val_main_cst_29, val_main_v113, val_main_v123, val_main_v122, val_main_cst_32,
    val_main_v121, val_main_v126, val_main_cst_33]
  simp only [Finset.univ_unique, Finset.sum_singleton]
  exact ln_chain ofBits_1024 ne_1024 ((args x0 x1 x2 x3 x4 x5 x6 x7 x8 x9 x10 x11).pre n) (fun k => (args x0 x1 x2 x3 x4 x5 x6 x7 x8 x9 x10 x11).ct n k * (args x0 x1 x2 x3 x4 x5 x6 x7 x8 x9 x10 x11).g1 k) (h.pre n)
    (fun k => (h.ct n k).mul (h.g1 k)) k (fun k => val_main_v111 (F := Ideal) x0 x1 x2 x3 x4 x5 x6 x7 x8 x9 x10 x11 (ix2 n k))
    (fun k => val_main_v120 (F := Ideal) x0 x1 x2 x3 x4 x5 x6 x7 x8 x9 x10 x11 (ix2 n k))
    (v111_eq x0 x1 x2 x3 x4 x5 x6 x7 x8 x9 x10 x11 n) (v120_eq x0 x1 x2 x3 x4 x5 x6 x7 x8 x9 x10 x11 n)

/-- The fourth result: the projection's gradient. -/
theorem v134_eq (h : (args x0 x1 x2 x3 x4 x5 x6 x7 x8 x9 x10 x11).Real) (p k : Fin 1024) :
    val_main_v134 (F := Ideal) x0 x1 x2 x3 x4 x5 x6 x7 x8 x9 x10 x11 (ix2 p k)
      = (args x0 x1 x2 x3 x4 x5 x6 x7 x8 x9 x10 x11).dW p k := by
  pointwise [val_main_v134, val_main_v133]
  simp only [Finset.univ_unique, Finset.sum_singleton, v130_eq x0 x1 x2 x3 x4 x5 x6 x7 x8 x9 x10 x11 h,
    v65_eq x0 x1 x2 x3 x4 x5 x6 x7 x8 x9 x10 x11]
  exact Finset.sum_congr rfl fun n _ => mul_comm _ _

/-- The gradient at the projection's input. -/
theorem v135_eq (h : (args x0 x1 x2 x3 x4 x5 x6 x7 x8 x9 x10 x11).Real) (n : Fin 8192) (p : Fin 1024) :
    val_main_v135 (F := Ideal) x0 x1 x2 x3 x4 x5 x6 x7 x8 x9 x10 x11 (ix2 n p)
      = (args x0 x1 x2 x3 x4 x5 x6 x7 x8 x9 x10 x11).dy n p := by
  pointwise [val_main_v135]
  simp only [Finset.univ_unique, Finset.sum_singleton, v130_eq x0 x1 x2 x3 x4 x5 x6 x7 x8 x9 x10 x11 h]
  rfl

/-- Its left half. -/
theorem v136_eq (h : (args x0 x1 x2 x3 x4 x5 x6 x7 x8 x9 x10 x11).Real) (n : Fin 8192) (p : Fin 512) :
    val_main_v136 (F := Ideal) x0 x1 x2 x3 x4 x5 x6 x7 x8 x9 x10 x11 (ix2 n p)
      = (args x0 x1 x2 x3 x4 x5 x6 x7 x8 x9 x10 x11).dy n (lo p) := by
  pointwise [val_main_v136]
  exact v135_eq x0 x1 x2 x3 x4 x5 x6 x7 x8 x9 x10 x11 h n (lo p)

/-- Its right half. -/
theorem v137_eq (h : (args x0 x1 x2 x3 x4 x5 x6 x7 x8 x9 x10 x11).Real) (n : Fin 8192) (p : Fin 512) :
    val_main_v137 (F := Ideal) x0 x1 x2 x3 x4 x5 x6 x7 x8 x9 x10 x11 (ix2 n p)
      = (args x0 x1 x2 x3 x4 x5 x6 x7 x8 x9 x10 x11).dy n (hi p) := by
  pointwise [val_main_v137]
  exact v135_eq x0 x1 x2 x3 x4 x5 x6 x7 x8 x9 x10 x11 h n (hi p)

/-- The gradient at the normed gated rows. -/
theorem v142_eq (h : (args x0 x1 x2 x3 x4 x5 x6 x7 x8 x9 x10 x11).Real) (n : Fin 8192) (p : Fin 512) :
    val_main_v142 (F := Ideal) x0 x1 x2 x3 x4 x5 x6 x7 x8 x9 x10 x11 (ix2 n p)
      = (args x0 x1 x2 x3 x4 x5 x6 x7 x8 x9 x10 x11).dy n (hi p) * (args x0 x1 x2 x3 x4 x5 x6 x7 x8 x9 x10 x11).gc p := by
  pointwise [val_main_v142, val_main_v141]
  simp only [Finset.univ_unique, Finset.sum_singleton, v137_eq x0 x1 x2 x3 x4 x5 x6 x7 x8 x9 x10 x11 h]
  rfl

/-- The gradient at the gated rows. -/
theorem v154_eq (h : (args x0 x1 x2 x3 x4 x5 x6 x7 x8 x9 x10 x11).Real) (n : Fin 8192) (p : Fin 512) :
    val_main_v154 (F := Ideal) x0 x1 x2 x3 x4 x5 x6 x7 x8 x9 x10 x11 (ix2 n p)
      = (args x0 x1 x2 x3 x4 x5 x6 x7 x8 x9 x10 x11).ds n p := by
  pointwise [val_main_v154, val_main_v147, val_main_v146, val_main_v153, val_main_v152, val_main_v151, val_main_cst_39,
    val_main_v150, val_main_v148, val_main_v145, val_main_v144, val_main_cst_37, val_main_v143, val_main_v149,
    val_main_cst_38]
  simp only [Finset.univ_unique, Finset.sum_singleton, v142_eq x0 x1 x2 x3 x4 x5 x6 x7 x8 x9 x10 x11 h,
    v57_eq x0 x1 x2 x3 x4 x5 x6 x7 x8 x9 x10 x11, v47_0_eq x0 x1 x2 x3 x4 x5 x6 x7 x8 x9 x10 x11,
    v60_eq x0 x1 x2 x3 x4 x5 x6 x7 x8 x9 x10 x11, v50_eq x0 x1 x2 x3 x4 x5 x6 x7 x8 x9 x10 x11]
  exact rms_chain ofBits_512 ne_512 ((args x0 x1 x2 x3 x4 x5 x6 x7 x8 x9 x10 x11).s n) (fun p => (args x0 x1 x2 x3 x4 x5 x6 x7 x8 x9 x10 x11).dy n (hi p) * (args x0 x1 x2 x3 x4 x5 x6 x7 x8 x9 x10 x11).gc p) (h.s n)
    (fun p => (h.dy n (hi p)).mul (h.gc p)) p

/-- The gradient at the gate's input. -/
theorem v155_eq (h : (args x0 x1 x2 x3 x4 x5 x6 x7 x8 x9 x10 x11).Real) (n : Fin 8192) (p : Fin 512) :
    val_main_v155 (F := Ideal) x0 x1 x2 x3 x4 x5 x6 x7 x8 x9 x10 x11 (ix2 n p)
      = (args x0 x1 x2 x3 x4 x5 x6 x7 x8 x9 x10 x11).dz n p := by
  pointwise [val_main_v155, val_main_call1_v1, val_main_call1_v2, val_main_call1_v0]
  simp only [Finset.univ_unique, Finset.sum_singleton, v154_eq x0 x1 x2 x3 x4 x5 x6 x7 x8 x9 x10 x11 h,
    v47_2_eq x0 x1 x2 x3 x4 x5 x6 x7 x8 x9 x10 x11, v46_eq x0 x1 x2 x3 x4 x5 x6 x7 x8 x9 x10 x11,
    v47_1_eq x0 x1 x2 x3 x4 x5 x6 x7 x8 x9 x10 x11]
  exact gate_chain (h.ds n p) (h.z n p)

/-- The gradient at the convolution's normalised rows. -/
theorem v162_eq (h : (args x0 x1 x2 x3 x4 x5 x6 x7 x8 x9 x10 x11).Real) (n : Fin 8192) (p : Fin 512) :
    val_main_v162 (F := Ideal) x0 x1 x2 x3 x4 x5 x6 x7 x8 x9 x10 x11 (ix2 n p)
      = (args x0 x1 x2 x3 x4 x5 x6 x7 x8 x9 x10 x11).dz n p * (args x0 x1 x2 x3 x4 x5 x6 x7 x8 x9 x10 x11).lg p := by
  pointwise [val_main_v162, val_main_v161]
  simp only [Finset.univ_unique, Finset.sum_singleton, v155_eq x0 x1 x2 x3 x4 x5 x6 x7 x8 x9 x10 x11 h]
  rfl

/-- The gradient through the division. -/
theorem v167_eq (h : (args x0 x1 x2 x3 x4 x5 x6 x7 x8 x9 x10 x11).Real) (n : Fin 8192) (p : Fin 512) :
    val_main_v167 (F := Ideal) x0 x1 x2 x3 x4 x5 x6 x7 x8 x9 x10 x11 (ix2 n p)
      = (args x0 x1 x2 x3 x4 x5 x6 x7 x8 x9 x10 x11).dz n p * (args x0 x1 x2 x3 x4 x5 x6 x7 x8 x9 x10 x11).lg p * rs 0x44000000#32 (cen 0x44000000#32 ((args x0 x1 x2 x3 x4 x5 x6 x7 x8 x9 x10 x11).c1 n)) := by
  pointwise [val_main_v167, val_main_v166]
  simp only [Finset.univ_unique, Finset.sum_singleton, v162_eq x0 x1 x2 x3 x4 x5 x6 x7 x8 x9 x10 x11 h,
    v37_eq x0 x1 x2 x3 x4 x5 x6 x7 x8 x9 x10 x11]

/-- The gradient through the deviation. -/
theorem v176_eq (h : (args x0 x1 x2 x3 x4 x5 x6 x7 x8 x9 x10 x11).Real) (n : Fin 8192) (p : Fin 512) :
    val_main_v176 (F := Ideal) x0 x1 x2 x3 x4 x5 x6 x7 x8 x9 x10 x11 (ix2 n p)
      = Ideal.div ((∑ j, cen 0x44000000#32 ((args x0 x1 x2 x3 x4 x5 x6 x7 x8 x9 x10 x11).c1 n) j * ((args x0 x1 x2 x3 x4 x5 x6 x7 x8 x9 x10 x11).dz n j * (args x0 x1 x2 x3 x4 x5 x6 x7 x8 x9 x10 x11).lg j))
        * (Ideal.ofBits .f32 0xBF000000#32 * Ideal.div (rs 0x44000000#32 (cen 0x44000000#32 ((args x0 x1 x2 x3 x4 x5 x6 x7 x8 x9 x10 x11).c1 n)))
        (mean 0x44000000#32 (fun j => cen 0x44000000#32 ((args x0 x1 x2 x3 x4 x5 x6 x7 x8 x9 x10 x11).c1 n) j * cen 0x44000000#32 ((args x0 x1 x2 x3 x4 x5 x6 x7 x8 x9 x10 x11).c1 n) j) + Ideal.ofBits .f32 0x3727C5AC#32)))
        (Ideal.ofBits .f32 0x44000000#32) * (Ideal.ofBits .f32 0x40000000#32 * cen 0x44000000#32 ((args x0 x1 x2 x3 x4 x5 x6 x7 x8 x9 x10 x11).c1 n) p) := by
  pointwise [val_main_v176, val_main_v175, val_main_v174, val_main_cst_45, val_main_v173, val_main_v168, val_main_v165,
    val_main_v164, val_main_cst_42, val_main_v163, val_main_v172, val_main_cst_44]
  simp only [Finset.univ_unique, Finset.sum_singleton, v162_eq x0 x1 x2 x3 x4 x5 x6 x7 x8 x9 x10 x11 h,
    v34_eq x0 x1 x2 x3 x4 x5 x6 x7 x8 x9 x10 x11, v40_eq x0 x1 x2 x3 x4 x5 x6 x7 x8 x9 x10 x11,
    v28_eq x0 x1 x2 x3 x4 x5 x6 x7 x8 x9 x10 x11]

/-- The third result: the gradient at the convolution's output. -/
theorem v186_eq (h : (args x0 x1 x2 x3 x4 x5 x6 x7 x8 x9 x10 x11).Real) (n : Fin 8192) (p : Fin 512) :
    val_main_v186 (F := Ideal) x0 x1 x2 x3 x4 x5 x6 x7 x8 x9 x10 x11 (ix2 n p)
      = (args x0 x1 x2 x3 x4 x5 x6 x7 x8 x9 x10 x11).dc1 n p := by
  pointwise [val_main_v186, val_main_v180, val_main_v185, val_main_v184, val_main_cst_48, val_main_v183, val_main_v181,
    val_main_v171, val_main_v170, val_main_cst_43, val_main_v169, val_main_v179, val_main_v178, val_main_cst_46,
    val_main_v177, val_main_v182, val_main_cst_47]
  simp only [Finset.univ_unique, Finset.sum_singleton]
  exact ln_chain ofBits_512 ne_512 ((args x0 x1 x2 x3 x4 x5 x6 x7 x8 x9 x10 x11).c1 n) (fun p => (args x0 x1 x2 x3 x4 x5 x6 x7 x8 x9 x10 x11).dz n p * (args x0 x1 x2 x3 x4 x5 x6 x7 x8 x9 x10 x11).lg p) (h.c1 n)
    (fun p => (h.dz n p).mul (h.lg p)) p (fun p => val_main_v167 (F := Ideal) x0 x1 x2 x3 x4 x5 x6 x7 x8 x9 x10 x11 (ix2 n p))
    (fun p => val_main_v176 (F := Ideal) x0 x1 x2 x3 x4 x5 x6 x7 x8 x9 x10 x11 (ix2 n p))
    (v167_eq x0 x1 x2 x3 x4 x5 x6 x7 x8 x9 x10 x11 h n) (v176_eq x0 x1 x2 x3 x4 x5 x6 x7 x8 x9 x10 x11 h n)

/-- The gradient at the attention's normed rows. -/
theorem v191_eq (h : (args x0 x1 x2 x3 x4 x5 x6 x7 x8 x9 x10 x11).Real) (n : Fin 8192) (p : Fin 512) :
    val_main_v191 (F := Ideal) x0 x1 x2 x3 x4 x5 x6 x7 x8 x9 x10 x11 (ix2 n p)
      = (args x0 x1 x2 x3 x4 x5 x6 x7 x8 x9 x10 x11).dy n (lo p) * (args x0 x1 x2 x3 x4 x5 x6 x7 x8 x9 x10 x11).ga p := by
  pointwise [val_main_v191, val_main_v190]
  simp only [Finset.univ_unique, Finset.sum_singleton, v136_eq x0 x1 x2 x3 x4 x5 x6 x7 x8 x9 x10 x11 h]
  rfl

/-- The second result: the gradient at the attention's output. -/
theorem v203_eq (h : (args x0 x1 x2 x3 x4 x5 x6 x7 x8 x9 x10 x11).Real) (n : Fin 8192) (p : Fin 512) :
    val_main_v203 (F := Ideal) x0 x1 x2 x3 x4 x5 x6 x7 x8 x9 x10 x11 (ix2 n p)
      = (args x0 x1 x2 x3 x4 x5 x6 x7 x8 x9 x10 x11).dO n p := by
  pointwise [val_main_v203, val_main_v196, val_main_v195, val_main_v202, val_main_v201, val_main_v200, val_main_cst_52,
    val_main_v199, val_main_v197, val_main_v194, val_main_v193, val_main_cst_50, val_main_v192, val_main_v198,
    val_main_cst_51]
  simp only [Finset.univ_unique, Finset.sum_singleton, v191_eq x0 x1 x2 x3 x4 x5 x6 x7 x8 x9 x10 x11 h,
    v12_eq x0 x1 x2 x3 x4 x5 x6 x7 x8 x9 x10 x11, v15_eq x0 x1 x2 x3 x4 x5 x6 x7 x8 x9 x10 x11,
    v5_eq x0 x1 x2 x3 x4 x5 x6 x7 x8 x9 x10 x11]
  exact rms_chain ofBits_512 ne_512 ((args x0 x1 x2 x3 x4 x5 x6 x7 x8 x9 x10 x11).o n) (fun p => (args x0 x1 x2 x3 x4 x5 x6 x7 x8 x9 x10 x11).dy n (lo p) * (args x0 x1 x2 x3 x4 x5 x6 x7 x8 x9 x10 x11).ga p) (h.o n)
    (fun p => (h.dy n (lo p)).mul (h.ga p)) p

/-- The gradient of the layer norm's gain. -/
theorem v104_eq (i : Fin 1) (p : Fin 1024) :
    val_main_v104 (F := Ideal) x0 x1 x2 x3 x4 x5 x6 x7 x8 x10 x11 (ix2 i p)
      = (args x0 x1 x2 x3 x4 x5 x6 x7 x8 x9 x10 x11).dG 0 p := by
  pointwise [val_main_v104, val_main_v103, val_main_cst_27, val_main_v102]
  simp only [Finset.univ_unique, Finset.sum_singleton, v92_eq x0 x1 x2 x3 x4 x5 x6 x7 x8 x9 x10 x11,
    v99_eq x0 x1 x2 x3 x4 x5 x6 x7 x8 x9 x10 x11]
  exact Finset.sum_congr rfl fun n _ => mul_comm _ _

/-- The gradient of the layer norm's bias. -/
theorem v101_eq (i : Fin 1) (p : Fin 1024) :
    val_main_v101 (F := Ideal) x10 x11 (ix2 i p)
      = (args x0 x1 x2 x3 x4 x5 x6 x7 x8 x9 x10 x11).dG 1 p := by
  pointwise [val_main_v101, val_main_v100, val_main_cst_26]
  simp only [Finset.univ_unique, Finset.sum_singleton, v99_eq x0 x1 x2 x3 x4 x5 x6 x7 x8 x9 x10 x11]
  rfl

/-- The gradient of the projection's bias. -/
theorem v132_eq (h : (args x0 x1 x2 x3 x4 x5 x6 x7 x8 x9 x10 x11).Real) (i : Fin 1) (p : Fin 1024) :
    val_main_v132 (F := Ideal) x0 x1 x2 x3 x4 x5 x6 x7 x8 x9 x10 x11 (ix2 i p)
      = (args x0 x1 x2 x3 x4 x5 x6 x7 x8 x9 x10 x11).dG 2 p := by
  pointwise [val_main_v132, val_main_v131, val_main_cst_35]
  simp only [Finset.univ_unique, Finset.sum_singleton, v130_eq x0 x1 x2 x3 x4 x5 x6 x7 x8 x9 x10 x11 h]
  rfl

/-- The gradient of the attention branch's gain. -/
theorem v189_eq (h : (args x0 x1 x2 x3 x4 x5 x6 x7 x8 x9 x10 x11).Real) (i : Fin 1) (p : Fin 512) :
    val_main_v189 (F := Ideal) x0 x1 x2 x3 x4 x5 x6 x7 x8 x9 x10 x11 (ix2 i p)
      = ∑ n, (args x0 x1 x2 x3 x4 x5 x6 x7 x8 x9 x10 x11).dy n (lo p) * rn 0x44000000#32 ((args x0 x1 x2 x3 x4 x5 x6 x7 x8 x9 x10 x11).o n) p := by
  pointwise [val_main_v189, val_main_v188, val_main_cst_49, val_main_v187]
  simp only [Finset.univ_unique, Finset.sum_singleton, v136_eq x0 x1 x2 x3 x4 x5 x6 x7 x8 x9 x10 x11 h,
    v17_eq x0 x1 x2 x3 x4 x5 x6 x7 x8 x9 x10 x11]
  exact Finset.sum_congr rfl fun n _ => mul_comm _ _

/-- The gradient of the convolution branch's gain. -/
theorem v140_eq (h : (args x0 x1 x2 x3 x4 x5 x6 x7 x8 x9 x10 x11).Real) (i : Fin 1) (p : Fin 512) :
    val_main_v140 (F := Ideal) x0 x1 x2 x3 x4 x5 x6 x7 x8 x9 x10 x11 (ix2 i p)
      = ∑ n, (args x0 x1 x2 x3 x4 x5 x6 x7 x8 x9 x10 x11).dy n (hi p) * rn 0x44000000#32 ((args x0 x1 x2 x3 x4 x5 x6 x7 x8 x9 x10 x11).s n) p := by
  pointwise [val_main_v140, val_main_v139, val_main_cst_36, val_main_v138]
  simp only [Finset.univ_unique, Finset.sum_singleton, v137_eq x0 x1 x2 x3 x4 x5 x6 x7 x8 x9 x10 x11 h,
    v62_eq x0 x1 x2 x3 x4 x5 x6 x7 x8 x9 x10 x11]
  exact Finset.sum_congr rfl fun n _ => mul_comm _ _

/-- The gradient of the gate's gain. -/
theorem v160_eq (h : (args x0 x1 x2 x3 x4 x5 x6 x7 x8 x9 x10 x11).Real) (i : Fin 1) (p : Fin 512) :
    val_main_v160 (F := Ideal) x0 x1 x2 x3 x4 x5 x6 x7 x8 x9 x10 x11 (ix2 i p)
      = ∑ n, (args x0 x1 x2 x3 x4 x5 x6 x7 x8 x9 x10 x11).dz n p * xh 0x44000000#32 ((args x0 x1 x2 x3 x4 x5 x6 x7 x8 x9 x10 x11).c1 n) p := by
  pointwise [val_main_v160, val_main_v159, val_main_cst_41, val_main_v158]
  simp only [Finset.univ_unique, Finset.sum_singleton, v155_eq x0 x1 x2 x3 x4 x5 x6 x7 x8 x9 x10 x11 h,
    v42_eq x0 x1 x2 x3 x4 x5 x6 x7 x8 x9 x10 x11]
  exact Finset.sum_congr rfl fun n _ => mul_comm _ _

/-- The gradient of the gate's bias. -/
theorem v157_eq (h : (args x0 x1 x2 x3 x4 x5 x6 x7 x8 x9 x10 x11).Real) (i : Fin 1) (p : Fin 512) :
    val_main_v157 (F := Ideal) x0 x1 x2 x3 x4 x5 x6 x7 x8 x9 x10 x11 (ix2 i p)
      = ∑ n, (args x0 x1 x2 x3 x4 x5 x6 x7 x8 x9 x10 x11).dz n p := by
  pointwise [val_main_v157, val_main_v156, val_main_cst_40]
  simp only [Finset.univ_unique, Finset.sum_singleton, v155_eq x0 x1 x2 x3 x4 x5 x6 x7 x8 x9 x10 x11 h]

/-- The two branches' gains side by side. -/
theorem v204_eq (h : (args x0 x1 x2 x3 x4 x5 x6 x7 x8 x9 x10 x11).Real) (i : Fin 1) (p : Fin 1024) :
    val_main_v204 (F := Ideal) x0 x1 x2 x3 x4 x5 x6 x7 x8 x9 x10 x11 (ix2 i p)
      = (args x0 x1 x2 x3 x4 x5 x6 x7 x8 x9 x10 x11).dG 3 p := by
  pointwise [val_main_v204]
  simp only [Finset.univ_unique, Finset.sum_singleton, v140_eq x0 x1 x2 x3 x4 x5 x6 x7 x8 x9 x10 x11 h,
    v189_eq x0 x1 x2 x3 x4 x5 x6 x7 x8 x9 x10 x11 h]
  unfold Args.dG
  simp only [g_three, side]
  by_cases h' : p.val < 512
  · simp only [dif_pos h']
  · simp only [dif_neg h']

/-- The gate's gain and bias side by side. -/
theorem v205_eq (h : (args x0 x1 x2 x3 x4 x5 x6 x7 x8 x9 x10 x11).Real) (i : Fin 1) (p : Fin 1024) :
    val_main_v205 (F := Ideal) x0 x1 x2 x3 x4 x5 x6 x7 x8 x9 x10 x11 (ix2 i p)
      = (args x0 x1 x2 x3 x4 x5 x6 x7 x8 x9 x10 x11).dG 4 p := by
  pointwise [val_main_v205]
  simp only [Finset.univ_unique, Finset.sum_singleton, v157_eq x0 x1 x2 x3 x4 x5 x6 x7 x8 x9 x10 x11 h,
    v160_eq x0 x1 x2 x3 x4 x5 x6 x7 x8 x9 x10 x11 h]
  unfold Args.dG
  simp only [g_four, side]
  by_cases h' : p.val < 512
  · simp only [dif_pos h']
  · simp only [dif_neg h']

/-- The fifth result: the gradients of the gains and biases, and rows of zeros. -/
theorem v207_eq (h : (args x0 x1 x2 x3 x4 x5 x6 x7 x8 x9 x10 x11).Real) (r : Fin 8) (p : Fin 1024) :
    val_main_v207 (F := Ideal) x0 x1 x2 x3 x4 x5 x6 x7 x8 x9 x10 x11 (ix2 r p)
      = (args x0 x1 x2 x3 x4 x5 x6 x7 x8 x9 x10 x11).dG r.val p := by
  pointwise [val_main_v207, val_main_v206, val_main_cst_53]
  simp only [Finset.univ_unique, Finset.sum_singleton, v101_eq x0 x1 x2 x3 x4 x5 x6 x7 x8 x9 x10 x11,
    v104_eq x0 x1 x2 x3 x4 x5 x6 x7 x8 x9 x10 x11, v132_eq x0 x1 x2 x3 x4 x5 x6 x7 x8 x9 x10 x11 h,
    v204_eq x0 x1 x2 x3 x4 x5 x6 x7 x8 x9 x10 x11 h, v205_eq x0 x1 x2 x3 x4 x5 x6 x7 x8 x9 x10 x11 h]
  obtain ⟨r, hr⟩ := r
  interval_cases r
  · rfl
  · rfl
  · rfl
  · rfl
  · rfl
  · exact Finset.sum_const_zero.symm
  · exact Finset.sum_const_zero.symm
  · exact Finset.sum_const_zero.symm

end Cert.Reference4Ideal.Body

end
-- ==== Proof.Mix.Finite.lean ====
/- The fourth claim's precondition: every entry of the arguments is below infinity in absolute value, so every entry is
   real. -/
module

public import proofs.«01_k».proof.Defs
public import proofs.«01_k».proof.Proof.Mix.Operands
public import proofs.«01_k».proof.Proof.Mix.Real
public import proofs.«01_k».proof.Proof.Finite
public import proofs.«01_k».proof.Proof.Gen.Pre_finite4

@[expose] public section

noncomputable section

namespace Cert.Kernel4Ideal.Body

open Idealize.ShloMosaic Idealize.ShloMosaic.TcCoe Cert.Kernel4Ideal Cert.Mix
open Cert.KernelIdeal.Body (real_of_lt)

/-- Under the precondition every argument is real. -/
theorem args_real (m : (ℓ : Loc nD τ sig) → Buf (Elt Ideal) ℓ) (c : Dev nD)
    (h : Pre_Kernel4Ideal_finite4 (hPre_finite4 := Cert.Pre_finite4.Gen.facts) m) : (args m c).Real := by
  obtain ⟨h0, h1, h2, h3, h4, h5, h6, h7, h8, h9, h10, h11⟩ := h c
  exact ⟨fun n k => real_of_lt _ _ h0 (ix2 n k), fun n k => real_of_lt _ _ h1 (ix2 n k),
    fun n k => real_of_lt _ _ h2 (ix2 n k), fun n k => real_of_lt _ _ h3 (ix2 n k),
    fun p => real_of_lt _ _ h4 (ix2 (0 : Fin 1) p), fun p => real_of_lt _ _ h5 (ix2 (0 : Fin 1) p),
    fun p => real_of_lt _ _ h6 (ix2 (0 : Fin 1) p), fun p => real_of_lt _ _ h7 (ix2 (0 : Fin 1) p),
    fun p => real_of_lt _ _ h8 (ix2 (0 : Fin 1) p), fun p => real_of_lt _ _ h9 (ix2 (0 : Fin 1) p),
    fun n k => real_of_lt _ _ h10 (ix2 n k), fun n k => real_of_lt _ _ h11 (ix2 n k)⟩

end Cert.Kernel4Ideal.Body

end
-- ==== Proof.Mix.Equal.lean ====
/- The fourth reference's frame, and the fourth equation: kernel and reference end with the same five arrays. -/
module

public import proofs.«01_k».proof.Defs
public import proofs.«01_k».proof.Proof.Gen.Kernel4Ideal
public import proofs.«01_k».proof.Proof.Gen.Reference4Ideal
public import proofs.«01_k».proof.Proof.Gen.Pre_finite4
public import proofs.«01_k».proof.Proof.Mix.Final
public import proofs.«01_k».proof.Proof.Mix.Ref
public import proofs.«01_k».proof.Proof.Mix.Finite
public import Idealize.ShloMosaic.Lib.Quiescent
public import Idealize.ShloMosaic.Adequacy
public import Idealize.ShloMosaic.Init

@[expose] public section

noncomputable section

namespace Cert.Proof.Mix

open Idealize.ShloMosaic Idealize.ShloMosaic.TcCoe Idealize.SL.Sem

instance : Cert.Kernel4Ideal.Facts := Cert.Kernel4Ideal.Gen.facts
instance : Cert.Reference4Ideal.Facts := Cert.Reference4Ideal.Gen.facts
instance : Cert.Pre_finite4.Facts := Cert.Pre_finite4.Gen.facts

/-- The fourth reference terminates, leaves its arguments as they were and has no semaphore. -/
theorem frame_reference4 : Cert.quiescent_Reference4Ideal := fun m ρ _ =>
  (θ_run _ _ _).mono (fun r h => ⟨fun c => (h c).2.2.2.2.2, sem_eq_zero_of_no_sems rfl r.2⟩)
    (Cert.Reference4Ideal.Value.run m ρ)

/-- The fourth reference's arguments on device `c`, as functions of coordinates. -/
def refArgs4 (m : (ℓ : Loc Cert.Reference4Ideal.nD Cert.Reference4Ideal.τ Cert.Reference4Ideal.sig) → Buf (Elt Ideal) ℓ)
    (c : Dev Cert.Reference4Ideal.nD) : Cert.Mix.Args :=
  Cert.Reference4Ideal.Body.args
    (m ((c.tc : Thread _ _).loc Cert.Reference4Ideal.main_arg0)) (m ((c.tc : Thread _ _).loc Cert.Reference4Ideal.main_arg1))
    (m ((c.tc : Thread _ _).loc Cert.Reference4Ideal.main_arg2)) (m ((c.tc : Thread _ _).loc Cert.Reference4Ideal.main_arg3))
    (m ((c.tc : Thread _ _).loc Cert.Reference4Ideal.main_arg4)) (m ((c.tc : Thread _ _).loc Cert.Reference4Ideal.main_arg5))
    (m ((c.tc : Thread _ _).loc Cert.Reference4Ideal.main_arg6)) (m ((c.tc : Thread _ _).loc Cert.Reference4Ideal.main_arg7))
    (m ((c.tc : Thread _ _).loc Cert.Reference4Ideal.main_arg8)) (m ((c.tc : Thread _ _).loc Cert.Reference4Ideal.main_arg9))
    (m ((c.tc : Thread _ _).loc Cert.Reference4Ideal.main_arg10)) (m ((c.tc : Thread _ _).loc Cert.Reference4Ideal.main_arg11))

section Reference4

variable (m : (ℓ : Loc Cert.Reference4Ideal.nD Cert.Reference4Ideal.τ Cert.Reference4Ideal.sig) → Buf (Elt Ideal) ℓ)
  (c : Dev Cert.Reference4Ideal.nD) (h : (refArgs4 m c).Real)

include h

/-- The fourth reference's first result. -/
theorem res4_130 : Cert.Reference4Ideal.Read.val_main_v130 (F := Ideal)
      (m ((c.tc : Thread _ _).loc Cert.Reference4Ideal.main_arg0)) (m ((c.tc : Thread _ _).loc Cert.Reference4Ideal.main_arg1))
      (m ((c.tc : Thread _ _).loc Cert.Reference4Ideal.main_arg2)) (m ((c.tc : Thread _ _).loc Cert.Reference4Ideal.main_arg3))
      (m ((c.tc : Thread _ _).loc Cert.Reference4Ideal.main_arg4)) (m ((c.tc : Thread _ _).loc Cert.Reference4Ideal.main_arg5))
      (m ((c.tc : Thread _ _).loc Cert.Reference4Ideal.main_arg6)) (m ((c.tc : Thread _ _).loc Cert.Reference4Ideal.main_arg7))
      (m ((c.tc : Thread _ _).loc Cert.Reference4Ideal.main_arg8)) (m ((c.tc : Thread _ _).loc Cert.Reference4Ideal.main_arg9))
      (m ((c.tc : Thread _ _).loc Cert.Reference4Ideal.main_arg10)) (m ((c.tc : Thread _ _).loc Cert.Reference4Ideal.main_arg11))
    = fun i : Cert.Reference4Ideal.S8192x1024.Idx => (refArgs4 m c).dpre (i 0) (i 1) := by
  funext i
  exact (congrArg _ (ix2_eta i).symm).trans (Cert.Reference4Ideal.Body.v130_eq _ _ _ _ _ _ _ _ _ _ _ _ h (i 0) (i 1))

/-- The fourth reference's second result. -/
theorem res4_203 : Cert.Reference4Ideal.Read.val_main_v203 (F := Ideal)
      (m ((c.tc : Thread _ _).loc Cert.Reference4Ideal.main_arg0)) (m ((c.tc : Thread _ _).loc Cert.Reference4Ideal.main_arg1))
      (m ((c.tc : Thread _ _).loc Cert.Reference4Ideal.main_arg2)) (m ((c.tc : Thread _ _).loc Cert.Reference4Ideal.main_arg3))
      (m ((c.tc : Thread _ _).loc Cert.Reference4Ideal.main_arg4)) (m ((c.tc : Thread _ _).loc Cert.Reference4Ideal.main_arg5))
      (m ((c.tc : Thread _ _).loc Cert.Reference4Ideal.main_arg6)) (m ((c.tc : Thread _ _).loc Cert.Reference4Ideal.main_arg7))
      (m ((c.tc : Thread _ _).loc Cert.Reference4Ideal.main_arg8)) (m ((c.tc : Thread _ _).loc Cert.Reference4Ideal.main_arg9))
      (m ((c.tc : Thread _ _).loc Cert.Reference4Ideal.main_arg10)) (m ((c.tc : Thread _ _).loc Cert.Reference4Ideal.main_arg11))
    = fun i : Cert.Reference4Ideal.S8192x512.Idx => (refArgs4 m c).dO (i 0) (i 1) := by
  funext i
  exact (congrArg _ (ix2_eta i).symm).trans (Cert.Reference4Ideal.Body.v203_eq _ _ _ _ _ _ _ _ _ _ _ _ h (i 0) (i 1))

/-- The fourth reference's third result. -/
theorem res4_186 : Cert.Reference4Ideal.Read.val_main_v186 (F := Ideal)
      (m ((c.tc : Thread _ _).loc Cert.Reference4Ideal.main_arg0)) (m ((c.tc : Thread _ _).loc Cert.Reference4Ideal.main_arg1))
      (m ((c.tc : Thread _ _).loc Cert.Reference4Ideal.main_arg2)) (m ((c.tc : Thread _ _).loc Cert.Reference4Ideal.main_arg3))
      (m ((c.tc : Thread _ _).loc Cert.Reference4Ideal.main_arg4)) (m ((c.tc : Thread _ _).loc Cert.Reference4Ideal.main_arg5))
      (m ((c.tc : Thread _ _).loc Cert.Reference4Ideal.main_arg6)) (m ((c.tc : Thread _ _).loc Cert.Reference4Ideal.main_arg7))
      (m ((c.tc : Thread _ _).loc Cert.Reference4Ideal.main_arg8)) (m ((c.tc : Thread _ _).loc Cert.Reference4Ideal.main_arg9))
      (m ((c.tc : Thread _ _).loc Cert.Reference4Ideal.main_arg10)) (m ((c.tc : Thread _ _).loc Cert.Reference4Ideal.main_arg11))
    = fun i : Cert.Reference4Ideal.S8192x512.Idx => (refArgs4 m c).dc1 (i 0) (i 1) := by
  funext i
  exact (congrArg _ (ix2_eta i).symm).trans (Cert.Reference4Ideal.Body.v186_eq _ _ _ _ _ _ _ _ _ _ _ _ h (i 0) (i 1))

/-- The fourth reference's fourth result. -/
theorem res4_134 : Cert.Reference4Ideal.Read.val_main_v134 (F := Ideal)
      (m ((c.tc : Thread _ _).loc Cert.Reference4Ideal.main_arg0)) (m ((c.tc : Thread _ _).loc Cert.Reference4Ideal.main_arg1))
      (m ((c.tc : Thread _ _).loc Cert.Reference4Ideal.main_arg2)) (m ((c.tc : Thread _ _).loc Cert.Reference4Ideal.main_arg3))
      (m ((c.tc : Thread _ _).loc Cert.Reference4Ideal.main_arg4)) (m ((c.tc : Thread _ _).loc Cert.Reference4Ideal.main_arg5))
      (m ((c.tc : Thread _ _).loc Cert.Reference4Ideal.main_arg6)) (m ((c.tc : Thread _ _).loc Cert.Reference4Ideal.main_arg7))
      (m ((c.tc : Thread _ _).loc Cert.Reference4Ideal.main_arg8)) (m ((c.tc : Thread _ _).loc Cert.Reference4Ideal.main_arg9))
      (m ((c.tc : Thread _ _).loc Cert.Reference4Ideal.main_arg10)) (m ((c.tc : Thread _ _).loc Cert.Reference4Ideal.main_arg11))
    = fun i : Cert.Reference4Ideal.S1024x1024.Idx => (refArgs4 m c).dW (i 0) (i 1) := by
  funext i
  exact (congrArg _ (ix2_eta i).symm).trans (Cert.Reference4Ideal.Body.v134_eq _ _ _ _ _ _ _ _ _ _ _ _ h (i 0) (i 1))

/-- The fourth reference's fifth result. -/
theorem res4_207 : Cert.Reference4Ideal.Read.val_main_v207 (F := Ideal)
      (m ((c.tc : Thread _ _).loc Cert.Reference4Ideal.main_arg0)) (m ((c.tc : Thread _ _).loc Cert.Reference4Ideal.main_arg1))
      (m ((c.tc : Thread _ _).loc Cert.Reference4Ideal.main_arg2)) (m ((c.tc : Thread _ _).loc Cert.Reference4Ideal.main_arg3))
      (m ((c.tc : Thread _ _).loc Cert.Reference4Ideal.main_arg4)) (m ((c.tc : Thread _ _).loc Cert.Reference4Ideal.main_arg5))
      (m ((c.tc : Thread _ _).loc Cert.Reference4Ideal.main_arg6)) (m ((c.tc : Thread _ _).loc Cert.Reference4Ideal.main_arg7))
      (m ((c.tc : Thread _ _).loc Cert.Reference4Ideal.main_arg8)) (m ((c.tc : Thread _ _).loc Cert.Reference4Ideal.main_arg9))
      (m ((c.tc : Thread _ _).loc Cert.Reference4Ideal.main_arg10)) (m ((c.tc : Thread _ _).loc Cert.Reference4Ideal.main_arg11))
    = fun i : Cert.Reference4Ideal.S8x1024.Idx => (refArgs4 m c).dG (i 0).val (i 1) := by
  funext i
  exact (congrArg _ (ix2_eta i).symm).trans (Cert.Reference4Ideal.Body.v207_eq _ _ _ _ _ _ _ _ _ _ _ _ h (i 0) (i 1))

end Reference4

set_option maxHeartbeats 8000000 in
/-- On real arguments the fourth kernel and its reference end with the same five arrays. -/
theorem algebraic4 : Cert.algebraic_Kernel4Ideal_Reference4Ideal_pre_finite4 := by
  intro m g m' g' hpre hargs
  have hA : ∀ c, refArgs4 m' c = Cert.Kernel4Ideal.Body.args m c := fun c => by
    obtain ⟨h0, h1, h2, h3, h4, h5, h6, h7, h8, h9, h10, h11⟩ := hargs c
    unfold refArgs4
    rw [h0, h1, h2, h3, h4, h5, h6, h7, h8, h9, h10, h11]
    rfl
  have hR : ∀ c, (refArgs4 m' c).Real := fun c => by
    rw [hA]
    exact Cert.Kernel4Ideal.Body.args_real m c hpre
  refine ⟨_, _, _, _, _, (θ_run _ _ _).mono (fun r h c => ⟨(h.2.1 c).1 13, (h.2.1 c).1 14, (h.2.1 c).1 15, (h.2.1 c).1 16,
    (h.2.1 c).1 17, h.1 c⟩) (Cert.Kernel4Ideal.Body.run_all (F := Ideal) m g), ?_⟩
  refine (θ_run _ _ _).mono (fun r h c => ?_) (Cert.Reference4Ideal.Value.run m' g')
  obtain ⟨e0, e1, e2, e3, e4, k⟩ := h c
  refine ⟨e0.trans ((Cert.Reference4Ideal.Read.val_main_v130_eq _).trans ((res4_130 m' c (hR c)).trans ?_)),
    e1.trans ((Cert.Reference4Ideal.Read.val_main_v203_eq _).trans ((res4_203 m' c (hR c)).trans ?_)),
    e2.trans ((Cert.Reference4Ideal.Read.val_main_v186_eq _).trans ((res4_186 m' c (hR c)).trans ?_)),
    e3.trans ((Cert.Reference4Ideal.Read.val_main_v134_eq _).trans ((res4_134 m' c (hR c)).trans ?_)),
    e4.trans ((Cert.Reference4Ideal.Read.val_main_v207_eq _).trans ((res4_207 m' c (hR c)).trans ?_)), k⟩
  · rw [hA]
    exact (Cert.Kernel4Ideal.Body.arr13 m c).symm
  · rw [hA]
    exact (Cert.Kernel4Ideal.Body.arr14 m c).symm
  · rw [hA]
    exact (Cert.Kernel4Ideal.Body.arr15 m c).symm
  · rw [hA]
    exact (Cert.Kernel4Ideal.Body.arr16 m c).symm
  · rw [hA]
    exact (Cert.Kernel4Ideal.Body.arr17 m c).symm

end Cert.Proof.Mix

end
-- ==== Proof.Pr.Spec.lean ====
/- The combined input projection, on the extended reals. -/
module

public import proofs.«01_k».proof.Proof.In.Spec

@[expose] public section

noncomputable section

namespace Cert.Pr

open Idealize.ShloMosaic Cert.In

/-- The projection: the input times the weight, and the bias. -/
def proj (x : Fin 8192 → Fin 1024 → EReal) (w : Fin 1024 → Fin 1792 → EReal) (b : Fin 1792 → EReal) (n : Fin 8192)
    (j : Fin 1792) : EReal :=
  ∑ k : Fin 1024, x n k * w k j + b j

/-- A query's column of the projection. -/
def qcol (p : Fin 512) : Fin 1792 := ⟨p.val, by omega⟩

/-- A key's column, each key-value head repeated for the two halves of its group. -/
def kcol (p : Fin 256) : Fin 1792 := ⟨512 + (kv p).val, by omega⟩

/-- A value's column, likewise. -/
def vcol (p : Fin 256) : Fin 1792 := ⟨640 + (kv p).val, by omega⟩

/-- A column of the gated half. -/
def gcol (p : Fin 1024) : Fin 1792 := ⟨768 + p.val, by omega⟩

/-- The column of the projection that a column of the extended projection repeats. -/
def src (p : Fin 2048) : Fin 1792 :=
  if h : p.val < 512 then ⟨p.val, by omega⟩
  else if h : p.val < 768 then ⟨512 + (kv ⟨p.val - 512, by omega⟩).val, by omega⟩
  else if h : p.val < 1024 then ⟨640 + (kv ⟨p.val - 768, by omega⟩).val, by omega⟩
  else ⟨p.val - 256, by omega⟩

/-- The queries' columns come first. -/
theorem src_q (p : Fin 512) (h : p.val < 2048) : src ⟨p.val, h⟩ = qcol p := dif_pos p.isLt

/-- Then the keys', -/
theorem src_k (p : Fin 256) (h : 512 + p.val < 2048) : src ⟨512 + p.val, h⟩ = kcol p := by
  simp only [src, kcol, kv]
  rw [dif_neg (by omega), dif_pos (by omega)]
  exact Fin.ext (by simp only [Nat.add_sub_cancel_left])

/-- the values', -/
theorem src_v (p : Fin 256) (h : 768 + p.val < 2048) : src ⟨768 + p.val, h⟩ = vcol p := by
  simp only [src, vcol, kv]
  rw [dif_neg (by omega), dif_neg (by omega), dif_pos (by omega)]
  exact Fin.ext (by simp only [Nat.add_sub_cancel_left])

/-- and the gated half's. -/
theorem src_g (p : Fin 1024) (h : 1024 + p.val < 2048) : src ⟨1024 + p.val, h⟩ = gcol p := by
  simp only [src, gcol]
  rw [dif_neg (by omega), dif_neg (by omega), dif_neg (by omega)]
  exact Fin.ext (by show 1024 + p.val - 256 = 768 + p.val; omega)

end Cert.Pr

end
-- ==== Proof.Pr.Array.lean ====
/- The four output arrays of the input projection after the run: each point takes a block of rows. -/
module

public import proofs.«01_k».proof.Proof.Gen.Kernel5Ideal.Value
public import proofs.«01_k».proof.Proof.Gen.Kernel5Ideal.Skeleton
public import proofs.«01_k».proof.Proof.Pr.Spec
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel5Ideal.Body

open Idealize.ShloMosaic Idealize.ShloMosaic.TcCoe Cert.Kernel5Ideal Cert.Kernel5Ideal.Gen Cert.Pr Cert.In

variable (m : (ℓ : Loc nD τ sig) → Buf (Elt Ideal) ℓ) (c : Dev nD)

/-- The layer's input on device `c`. -/
def x (n : Fin 8192) (k : Fin 1024) : EReal := m ((c : Thread nD τ).loc main_arg0) (ix2 n k)

/-- The projection's weight. -/
def w (k : Fin 1024) (j : Fin 1792) : EReal := m ((c : Thread nD τ).loc main_arg1) (ix2 k j)

/-- The projection's bias. -/
def b (j : Fin 1792) : EReal := m ((c : Thread nD τ).loc main_arg2) (ix2 (0 : Fin 1) j)

/-! ## The operands the host lines compute -/

set_option maxHeartbeats 4000000 in
/-- The extended weight. -/
theorem V12_apply (p : Fin 2048) (k : Fin 1024) : V m c main_v12 (ix2 p k) = w m c k (src p) := by
  unfold V; after_reads_at
  repeat' with_reducible refine dite_eq_of (fun h => ?_) (fun h => ?_)
  all_goals after_reads_at
  all_goals refine congrArg (m ((c : Thread nD τ).loc main_arg1)) (congrArg (ix2 k) (Fin.ext ?_))
  all_goals simp only [src]
  all_goals split_ifs <;> simp only [kv] <;> omega

set_option maxHeartbeats 4000000 in
/-- The extended bias. -/
theorem V23_apply (p : Fin 2048) : V m c main_v23 (ix2 (0 : Fin 1) p) = b m c (src p) := by
  unfold V; after_reads_at
  repeat' with_reducible refine dite_eq_of (fun h => ?_) (fun h => ?_)
  all_goals after_reads_at
  all_goals refine congrArg (m ((c : Thread nD τ).loc main_arg2)) (congrArg (ix2 (0 : Fin 1)) (Fin.ext ?_))
  all_goals simp only [src]
  all_goals split_ifs <;> simp only [kv] <;> omega

/-! ## The blocks at a grid point -/

/-- Every window's block index at point `t`. -/
theorem idx : ∀ t : Fin cfg0.N,
    win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The number of grid points. -/
theorem lt_16 (t : Fin cfg0.N) : t.val < 16 := lt_of_lt_of_eq t.isLt N_0

/-- Row `r` of the row block of point `t`, counted in the arrays. -/
def row (t : Fin cfg0.N) (r : Fin 512) : Fin 8192 := ⟨t.val * 512 + r.val, by have := lt_16 t; omega⟩

/-- The input's rows. -/
theorem blk0 (t : Fin cfg0.N) (r : Fin 512) (k : Fin 1024) : iblk m c 0 t (ix2 r k) = x m c (row t r) k := by
  refine Eq.trans (b := V m c main_arg0 (ix2 (row t r) k)) ?_ (by unfold V; after_reads_at; rfl)
  blk_ext [iblk, idx t, row]

/-- The extended weight. -/
theorem blk1 (t : Fin cfg0.N) (p : Fin 2048) (k : Fin 1024) : iblk m c 1 t (ix2 p k) = w m c k (src p) := by
  rw [← V12_apply]; blk_ext [iblk, idx t]

/-- The extended bias. -/
theorem blk2 (t : Fin cfg0.N) (i : Fin 1) (p : Fin 2048) : iblk m c 2 t (ix2 i p) = b m c (src p) := by
  obtain rfl := Fin.fin_one_eq_zero i
  rw [← V23_apply]; blk_ext [iblk, idx t]

/-! ## The arrays -/

/-- The product with the extended weight and the extended bias. -/
theorem p_apply (t : Fin cfg0.N) (r : Fin 512) (p : Fin 2048) :
    k0_pay1 (iblk m c 0 t) (iblk m c 1 t) (iblk m c 2 t) (ix2 r p) = proj (x m c) (w m c) (b m c) (row t r) (src p) := by
  pointwise [k0_pay1]
  simp only [blk0 m c, blk1 m c, blk2 m c]
  rfl

/-- What point `t` leaves in the queries' buffer. -/
theorem out3_apply (t : Fin cfg0.N) (r : Fin 512) (p : Fin 512) :
    out0_3 (iblk m c 0 t) (iblk m c 1 t) (iblk m c 2 t) (ix2 r p)
      = proj (x m c) (w m c) (b m c) (row t r) (qcol p) := by
  unfold out0_3
  frame_out
  refine Eq.trans ?_ ((p_apply m c t r ⟨p.val, by omega⟩).trans (congrArg _ (src_q p (by omega))))
  pointwise [k0_pay2]

/-- The queries' array after the run. -/
theorem arr3 : (dats m 0 c).arrAt 3 cfg0.N
    = fun i : S8192x512.Idx => proj (x m c) (w m c) (b m c) (i 0) (qcol (i 1)) :=
  (dats m 0 c).arrAt_eq_of_covers 3 _ (by decide +kernel) fun t hf y => by
    blk_simp
    rw [after0_3]
    refine (congrArg _ (by funext a; fin_cases a <;> rfl : y = ix2 (y 0) (y 1))).trans ((out3_apply m c t (y 0) (y 1)).trans ?_)
    refine congrArg₂ (fun n p => proj (x m c) (w m c) (b m c) n (qcol p)) (Fin.ext ?_) (Fin.ext ?_) <;> blk_simp [idx t, row]

/-- What point `t` leaves in the keys' buffer. -/
theorem out4_apply (t : Fin cfg0.N) (r : Fin 512) (p : Fin 256) :
    out0_4 (iblk m c 0 t) (iblk m c 1 t) (iblk m c 2 t) (ix2 r p)
      = proj (x m c) (w m c) (b m c) (row t r) (kcol p) := by
  unfold out0_4
  frame_out
  refine Eq.trans ?_ ((p_apply m c t r ⟨512 + p.val, by omega⟩).trans (congrArg _ (src_k p (by omega))))
  pointwise [k0_pay3]

/-- The keys' array after the run. -/
theorem arr4 : (dats m 0 c).arrAt 4 cfg0.N
    = fun i : S8192x256.Idx => proj (x m c) (w m c) (b m c) (i 0) (kcol (i 1)) :=
  (dats m 0 c).arrAt_eq_of_covers 4 _ (by decide +kernel) fun t hf y => by
    blk_simp
    rw [after0_4]
    refine (congrArg _ (by funext a; fin_cases a <;> rfl : y = ix2 (y 0) (y 1))).trans ((out4_apply m c t (y 0) (y 1)).trans ?_)
    refine congrArg₂ (fun n p => proj (x m c) (w m c) (b m c) n (kcol p)) (Fin.ext ?_) (Fin.ext ?_) <;> blk_simp [idx t, row]

/-- What point `t` leaves in the values' buffer. -/
theorem out5_apply (t : Fin cfg0.N) (r : Fin 512) (p : Fin 256) :
    out0_5 (iblk m c 0 t) (iblk m c 1 t) (iblk m c 2 t) (ix2 r p)
      = proj (x m c) (w m c) (b m c) (row t r) (vcol p) := by
  unfold out0_5
  frame_out
  refine Eq.trans ?_ ((p_apply m c t r ⟨768 + p.val, by omega⟩).trans (congrArg _ (src_v p (by omega))))
  pointwise [k0_pay4]

/-- The values' array after the run. -/
theorem arr5 : (dats m 0 c).arrAt 5 cfg0.N
    = fun i : S8192x256.Idx => proj (x m c) (w m c) (b m c) (i 0) (vcol (i 1)) :=
  (dats m 0 c).arrAt_eq_of_covers 5 _ (by decide +kernel) fun t hf y => by
    blk_simp
    rw [after0_5]
    refine (congrArg _ (by funext a; fin_cases a <;> rfl : y = ix2 (y 0) (y 1))).trans ((out5_apply m c t (y 0) (y 1)).trans ?_)
    refine congrArg₂ (fun n p => proj (x m c) (w m c) (b m c) n (vcol p)) (Fin.ext ?_) (Fin.ext ?_) <;> blk_simp [idx t, row]

/-- What point `t` leaves in the gated half's buffer. -/
theorem out6_apply (t : Fin cfg0.N) (r : Fin 512) (p : Fin 1024) :
    out0_6 (iblk m c 0 t) (iblk m c 1 t) (iblk m c 2 t) (ix2 r p)
      = proj (x m c) (w m c) (b m c) (row t r) (gcol p) := by
  unfold out0_6
  frame_out
  refine Eq.trans ?_ ((p_apply m c t r ⟨1024 + p.val, by omega⟩).trans (congrArg _ (src_g p (by omega))))
  pointwise [k0_pay5]

/-- The gated half's array after the run. -/
theorem arr6 : (dats m 0 c).arrAt 6 cfg0.N
    = fun i : S8192x1024.Idx => proj (x m c) (w m c) (b m c) (i 0) (gcol (i 1)) :=
  (dats m 0 c).arrAt_eq_of_covers 6 _ (by decide +kernel) fun t hf y => by
    blk_simp
    rw [after0_6]
    refine (congrArg _ (by funext a; fin_cases a <;> rfl : y = ix2 (y 0) (y 1))).trans ((out6_apply m c t (y 0) (y 1)).trans ?_)
    refine congrArg₂ (fun n p => proj (x m c) (w m c) (b m c) n (gcol p)) (Fin.ext ?_) (Fin.ext ?_) <;> blk_simp [idx t, row]

end Cert.Kernel5Ideal.Body

end
-- ==== Proof.Pr.Ref.lean ====
/- The fifth reference, read at an index. -/
module

public import proofs.«01_k».proof.Proof.Gen.Reference5Ideal.Read
public import proofs.«01_k».proof.Proof.Pr.Spec
public import Idealize.ShloMosaic.Lib.Pointwise
public import Idealize.ShloMosaic.Lib.Pipeline.ValueKit

@[expose] public section

set_option maxRecDepth 16384

noncomputable section

namespace Cert.Reference5Ideal.Body

open Idealize.ShloMosaic Idealize.ShloMosaic.TcCoe Cert.Reference5Ideal Cert.Reference5Ideal.Read Cert.Pr Cert.In

variable (x0 : (⟨S8192x1024, .f32⟩ : BufTy).Contents (Elt Ideal)) (x1 : (⟨S1024x1792, .f32⟩ : BufTy).Contents (Elt Ideal))
  (x2 : (⟨S1x1792, .f32⟩ : BufTy).Contents (Elt Ideal))

/-- The projection. -/
theorem r2 (n : Fin 8192) (j : Fin 1792) : val_main_v2 (F := Ideal) x0 x1 x2 (ix2 n j)
    = proj (fun n k => x0 (ix2 n k)) (fun k j => x1 (ix2 k j)) (fun j => x2 (ix2 (0 : Fin 1) j)) n j := by
  pointwise [val_main_v2, val_main_v1, val_main_v0]
  rfl

/-- The queries. -/
theorem r7 (n : Fin 8192) (p : Fin 512) : val_main_v7 (F := Ideal) x0 x1 x2 (ix2 n p)
    = proj (fun n k => x0 (ix2 n k)) (fun k j => x1 (ix2 k j)) (fun j => x2 (ix2 (0 : Fin 1) j)) n (qcol p) := by
  rw [← r2]
  pointwise [val_main_v7, val_main_v3]
  rfl

/-- The keys. -/
theorem r11 (n : Fin 8192) (p : Fin 256) : val_main_v11 (F := Ideal) x0 x1 x2 (ix2 n p)
    = proj (fun n k => x0 (ix2 n k)) (fun k j => x1 (ix2 k j)) (fun j => x2 (ix2 (0 : Fin 1) j)) n (kcol p) := by
  rw [← r2]
  pointwise [val_main_v11, val_main_v10, val_main_v9, val_main_v8, val_main_v4]
  rfl

/-- The values. -/
theorem r15 (n : Fin 8192) (p : Fin 256) : val_main_v15 (F := Ideal) x0 x1 x2 (ix2 n p)
    = proj (fun n k => x0 (ix2 n k)) (fun k j => x1 (ix2 k j)) (fun j => x2 (ix2 (0 : Fin 1) j)) n (vcol p) := by
  rw [← r2]
  pointwise [val_main_v15, val_main_v14, val_main_v13, val_main_v12, val_main_v5]
  rfl

/-- The gated half. -/
theorem r6 (n : Fin 8192) (p : Fin 1024) : val_main_v6 (F := Ideal) x0 x1 x2 (ix2 n p)
    = proj (fun n k => x0 (ix2 n k)) (fun k j => x1 (ix2 k j)) (fun j => x2 (ix2 (0 : Fin 1) j)) n (gcol p) := by
  rw [← r2]
  pointwise [val_main_v6]
  rfl

end Cert.Reference5Ideal.Body

end
-- ==== Proof.Pr.Equal.lean ====
/- The fifth reference's frame, and the fifth equation: kernel and reference end with the same four arrays. -/
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.Pr.Array
public import proofs.«01_k».proof.Proof.Pr.Ref
public import Idealize.ShloMosaic.Lib.Quiescent
public import Idealize.ShloMosaic.Adequacy
public import Idealize.ShloMosaic.Init

@[expose] public section

noncomputable section

namespace Cert.Proof.Pr

open Idealize.ShloMosaic Idealize.ShloMosaic.TcCoe Idealize.SL.Sem

instance : Cert.Kernel5Ideal.Facts := Cert.Kernel5Ideal.Gen.facts
instance : Cert.Reference5Ideal.Facts := Cert.Reference5Ideal.Gen.facts

/-- The fifth reference terminates, leaves its arguments as they were and has no semaphore. -/
theorem frame_reference5 : Cert.quiescent_Reference5Ideal := fun m ρ _ =>
  (θ_run _ _ _).mono (fun r h => ⟨fun c => (h c).2.2.2.2, sem_eq_zero_of_no_sems rfl r.2⟩)
    (Cert.Reference5Ideal.Value.run m ρ)

set_option maxHeartbeats 4000000 in
/-- The fifth kernel and its reference end with the same four arrays, whatever their arguments. -/
theorem algebraic5 : Cert.algebraic_Kernel5Ideal_Reference5Ideal := by
  intro m g m' g' _ hargs
  refine ⟨_, _, _, _, Cert.Kernel5Ideal.Value.run_blocks m g, ?_⟩
  refine (θ_run _ _ _).mono (fun r h c => ?_) (Cert.Reference5Ideal.Value.run m' g')
  obtain ⟨e0, e1, e2, e3, k⟩ := h c
  obtain ⟨h0, h1, h2⟩ := hargs c
  refine ⟨e0.trans ((Cert.Reference5Ideal.Read.val_main_v7_eq _ _ _).trans ?_),
    e1.trans ((Cert.Reference5Ideal.Read.val_main_v11_eq _ _ _).trans ?_),
    e2.trans ((Cert.Reference5Ideal.Read.val_main_v15_eq _ _ _).trans ?_),
    e3.trans ((Cert.Reference5Ideal.Read.val_main_v6_eq _ _ _).trans ?_), k⟩
  all_goals rw [h0, h1, h2]
  · refine Eq.trans (funext fun i => ?_) (Cert.Kernel5Ideal.Body.arr3 m c).symm
    exact (congrArg _ (ix2_eta i).symm).trans (Cert.Reference5Ideal.Body.r7 _ _ _ (i 0) (i 1))
  · refine Eq.trans (funext fun i => ?_) (Cert.Kernel5Ideal.Body.arr4 m c).symm
    exact (congrArg _ (ix2_eta i).symm).trans (Cert.Reference5Ideal.Body.r11 _ _ _ (i 0) (i 1))
  · refine Eq.trans (funext fun i => ?_) (Cert.Kernel5Ideal.Body.arr5 m c).symm
    exact (congrArg _ (ix2_eta i).symm).trans (Cert.Reference5Ideal.Body.r15 _ _ _ (i 0) (i 1))
  · refine Eq.trans (funext fun i => ?_) (Cert.Kernel5Ideal.Body.arr6 m c).symm
    exact (congrArg _ (ix2_eta i).symm).trans (Cert.Reference5Ideal.Body.r6 _ _ _ (i 0) (i 1))

end Cert.Proof.Pr

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Final
public import proofs.«01_k».proof.Proof.Ref
public import proofs.«01_k».proof.Proof.Finite
public import proofs.«01_k».proof.Proof.In.Final
public import proofs.«01_k».proof.Proof.In.Ref
public import proofs.«01_k».proof.Proof.In.Finite
public import proofs.«01_k».proof.Proof.Dx.Array
public import proofs.«01_k».proof.Proof.Dx.Ref
public import proofs.«01_k».proof.Proof.Mix.Same
public import proofs.«01_k».proof.Proof.Mix.Equal
public import proofs.«01_k».proof.Proof.Pr.Equal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Spec

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Pre_finite.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Pre_finite2.Facts := Cert.Pre_finite2.Gen.facts
instance : Cert.Kernel3.Facts := Cert.Kernel3.Gen.facts
instance : Cert.Kernel3Ideal.Facts := Cert.Kernel3Ideal.Gen.facts
instance : Cert.Reference3Ideal.Facts := Cert.Reference3Ideal.Gen.facts

/-! ## The gradient of the feed-forward block -/

/-- The reference terminates, leaves its arguments as they were and has no semaphore. -/
theorem frame_reference : Cert.quiescent_ReferenceIdeal := fun m ρ _ =>
  (θ_run _ _ _).mono (fun r h => ⟨fun c => (h c).2.2.2.2.2.2, sem_eq_zero_of_no_sems rfl r.2⟩)
    (Cert.ReferenceIdeal.Value.run m ρ)

/-- The reference's arguments on device `c`, as functions of coordinates. -/
def refArgs (m : (ℓ : Loc Cert.ReferenceIdeal.nD Cert.ReferenceIdeal.τ Cert.ReferenceIdeal.sig) → Buf (Elt Ideal) ℓ)
    (c : Dev Cert.ReferenceIdeal.nD) : Args :=
  Cert.ReferenceIdeal.Body.args (m ((c.tc : Thread _ _).loc Cert.ReferenceIdeal.main_arg0))
    (m ((c.tc : Thread _ _).loc Cert.ReferenceIdeal.main_arg1)) (m ((c.tc : Thread _ _).loc Cert.ReferenceIdeal.main_arg2))
    (m ((c.tc : Thread _ _).loc Cert.ReferenceIdeal.main_arg3)) (m ((c.tc : Thread _ _).loc Cert.ReferenceIdeal.main_arg4))
    (m ((c.tc : Thread _ _).loc Cert.ReferenceIdeal.main_arg5))

section Reference

variable (m : (ℓ : Loc Cert.ReferenceIdeal.nD Cert.ReferenceIdeal.τ Cert.ReferenceIdeal.sig) → Buf (Elt Ideal) ℓ)
  (c : Dev Cert.ReferenceIdeal.nD) (h : (refArgs m c).Real)

/-- The reference's third result. -/
theorem res33 : Cert.ReferenceIdeal.Value.res_main_v33 m c
    = fun i : Cert.ReferenceIdeal.S2816x1024.Idx => (refArgs m c).dWd (i 0) (i 1) := by
  rw [Cert.ReferenceIdeal.Read.val_main_v33_eq]
  funext i
  exact (congrArg _ (ix2_eta i).symm).trans (Cert.ReferenceIdeal.Body.r33 _ _ _ _ _ _ (i 0) (i 1))

include h

/-- The reference's first result. -/
theorem res81 : Cert.ReferenceIdeal.Value.res_main_v81 m c
    = fun i : Cert.ReferenceIdeal.S8192x2816.Idx => (refArgs m c).dH (i 0) (lo (i 1)) := by
  rw [Cert.ReferenceIdeal.Read.val_main_v81_eq]
  funext i
  exact (congrArg _ (ix2_eta i).symm).trans (Cert.ReferenceIdeal.Body.r81 _ _ _ _ _ _ h (i 0) (i 1))

/-- The reference's second result. -/
theorem res83 : Cert.ReferenceIdeal.Value.res_main_v83 m c
    = fun i : Cert.ReferenceIdeal.S8192x2816.Idx => (refArgs m c).dH (i 0) (hi (i 1)) := by
  rw [Cert.ReferenceIdeal.Read.val_main_v83_eq]
  funext i
  exact (congrArg _ (ix2_eta i).symm).trans (Cert.ReferenceIdeal.Body.r83 _ _ _ _ _ _ h (i 0) (i 1))

/-- The reference's fourth result. -/
theorem res85 : Cert.ReferenceIdeal.Value.res_main_v85 m c
    = fun i : Cert.ReferenceIdeal.S2x2816x1024.Idx => (refArgs m c).dWu (if (i 0).val = 0 then lo (i 1) else hi (i 1)) (i 2) := by
  rw [Cert.ReferenceIdeal.Read.val_main_v85_eq]
  funext i
  exact (congrArg _ (ix3_eta i).symm).trans (Cert.ReferenceIdeal.Body.r85 _ _ _ _ _ _ h (i 0) (i 1) (i 2))

/-- The reference's fifth result. -/
theorem res86 : Cert.ReferenceIdeal.Value.res_main_v86 m c
    = fun i : Cert.ReferenceIdeal.S8x2816.Idx => (refArgs m c).dPar (i 0).val (lo (i 1)) := by
  rw [Cert.ReferenceIdeal.Read.val_main_v86_eq]
  funext i
  exact (congrArg _ (ix2_eta i).symm).trans (Cert.ReferenceIdeal.Body.r86 _ _ _ _ _ _ h (i 0) (i 1))

/-- The reference's sixth result. -/
theorem res87 : Cert.ReferenceIdeal.Value.res_main_v87 m c
    = fun i : Cert.ReferenceIdeal.S8x2816.Idx => (refArgs m c).dPar (i 0).val (hi (i 1)) := by
  rw [Cert.ReferenceIdeal.Read.val_main_v87_eq]
  funext i
  exact (congrArg _ (ix2_eta i).symm).trans (Cert.ReferenceIdeal.Body.r87 _ _ _ _ _ _ h (i 0) (i 1))

end Reference

/-- On real arguments the kernel and the reference end with the same six arrays. -/
theorem algebraic : Cert.algebraic_KernelIdeal_ReferenceIdeal_pre_finite := by
  intro m g m' g' hpre hargs
  have hA : ∀ c, refArgs m' c = Cert.KernelIdeal.Body.args m c := fun c => by
    obtain ⟨h0, h1, h2, h3, h4, h5⟩ := hargs c
    unfold refArgs
    rw [h0, h1, h2, h3, h4, h5]
    rfl
  have hR : ∀ c, (refArgs m' c).Real := fun c => by
    rw [hA]
    exact Cert.KernelIdeal.Body.args_real m c hpre
  refine ⟨_, _, _, _, _, _, Cert.KernelIdeal.Value.run_blocks m g, ?_⟩
  refine (θ_run _ _ _).mono (fun r h c => ?_) (Cert.ReferenceIdeal.Value.run m' g')
  obtain ⟨e0, e1, e2, e3, e4, e5, k⟩ := h c
  refine ⟨e0.trans ?_, e1.trans ?_, e2.trans ?_, e3.trans ?_, e4.trans ?_, e5.trans ?_, k⟩
  · exact (res81 m' c (hR c)).trans (by rw [hA]; exact (Cert.KernelIdeal.Body.arr12 m c).symm)
  · exact (res83 m' c (hR c)).trans (by rw [hA]; exact (Cert.KernelIdeal.Body.arr13 m c).symm)
  · exact (res33 m' c).trans (by rw [hA]; exact (Cert.KernelIdeal.Body.arr14 m c).symm)
  · exact (res85 m' c (hR c)).trans (by rw [hA]; exact (Cert.KernelIdeal.Body.arr15 m c).symm)
  · exact (res86 m' c (hR c)).trans (by rw [hA]; exact (Cert.KernelIdeal.Body.arr16 m c).symm)
  · exact (res87 m' c (hR c)).trans (by rw [hA]; exact (Cert.KernelIdeal.Body.arr17 m c).symm)

/-! ## The gradient of the input projection -/

/-- The second kernel terminates, leaves its arguments as they were and its semaphores at zero, over the reals. -/
theorem frame_kernel2Ideal : Cert.quiescent_Kernel2Ideal := fun m ρ _ =>
  Cert.Kernel2Ideal.Body.run_frame (F := Ideal) m ρ

/-- The second kernel and its ideal program have the same body. -/
theorem body_same : Cert.Kernel2.defs₀ (F := Bits) = Cert.Kernel2Ideal.defs₀ (F := Bits) := by
  unfold Cert.Kernel2.defs₀ Cert.Kernel2Ideal.defs₀
  refine congrArg Defs.onTc (funext fun l => funext fun x => ?_)
  obtain ⟨_ | n, h⟩ := l
  · dsimp only
    rfl
  · exact absurd h (by omega)

/-- They have the same pipeline. -/
theorem defs_same : Cert.Kernel2.defs (F := Bits) = Cert.Kernel2Ideal.defs (F := Bits) :=
  congrArg (Pipeline.defs Cert.Kernel2Ideal.pcfgs) body_same

/-- And the same host code. -/
theorem main_same : Cert.Kernel2.main (F := Bits) = Cert.Kernel2Ideal.main (F := Bits) := rfl

set_option maxHeartbeats 2000000 in
/-- So the second kernel ends as its ideal program does, in the machine's arithmetic too. -/
theorem frame_kernel2 : Cert.quiescent_Kernel2 := fun m ρ _ => by
  rw [defs_same, main_same]
  exact Cert.Kernel2Ideal.Body.run_frame (F := Bits) m ρ

/-- The second reference terminates, leaves its arguments as they were and has no semaphore. -/
theorem frame_reference2 : Cert.quiescent_Reference2Ideal := fun m ρ _ =>
  (θ_run _ _ _).mono (fun r h => ⟨fun c => (h c).2.2.2, sem_eq_zero_of_no_sems rfl r.2⟩)
    (Cert.Reference2Ideal.Value.run m ρ)

/-- The second reference's arguments on device `c`, as functions of coordinates. -/
def refArgs2 (m : (ℓ : Loc Cert.Reference2Ideal.nD Cert.Reference2Ideal.τ Cert.Reference2Ideal.sig) → Buf (Elt Ideal) ℓ)
    (c : Dev Cert.Reference2Ideal.nD) : Cert.In.Args :=
  Cert.Reference2Ideal.Body.args (m ((c.tc : Thread _ _).loc Cert.Reference2Ideal.main_arg0))
    (m ((c.tc : Thread _ _).loc Cert.Reference2Ideal.main_arg1)) (m ((c.tc : Thread _ _).loc Cert.Reference2Ideal.main_arg2))
    (m ((c.tc : Thread _ _).loc Cert.Reference2Ideal.main_arg3)) (m ((c.tc : Thread _ _).loc Cert.Reference2Ideal.main_arg4))
    (m ((c.tc : Thread _ _).loc Cert.Reference2Ideal.main_arg5)) (m ((c.tc : Thread _ _).loc Cert.Reference2Ideal.main_arg6))
    (m ((c.tc : Thread _ _).loc Cert.Reference2Ideal.main_arg7)) (m ((c.tc : Thread _ _).loc Cert.Reference2Ideal.main_arg8))

section Reference2

variable (m : (ℓ : Loc Cert.Reference2Ideal.nD Cert.Reference2Ideal.τ Cert.Reference2Ideal.sig) → Buf (Elt Ideal) ℓ)
  (c : Dev Cert.Reference2Ideal.nD)

/-- The second reference's first result. -/
theorem res2_73 : Cert.Reference2Ideal.Read.val_main_v73 (F := Ideal)
      (m ((c.tc : Thread _ _).loc Cert.Reference2Ideal.main_arg1)) (m ((c.tc : Thread _ _).loc Cert.Reference2Ideal.main_arg2))
      (m ((c.tc : Thread _ _).loc Cert.Reference2Ideal.main_arg3)) (m ((c.tc : Thread _ _).loc Cert.Reference2Ideal.main_arg4))
      (m ((c.tc : Thread _ _).loc Cert.Reference2Ideal.main_arg5)) (m ((c.tc : Thread _ _).loc Cert.Reference2Ideal.main_arg6))
      (m ((c.tc : Thread _ _).loc Cert.Reference2Ideal.main_arg7)) (m ((c.tc : Thread _ _).loc Cert.Reference2Ideal.main_arg8))
    = fun i : Cert.Reference2Ideal.S8192x1024.Idx => (refArgs2 m c).dX (i 0) (i 1) := by
  funext i
  exact (congrArg _ (ix2_eta i).symm).trans (Cert.Reference2Ideal.Body.r73 _ _ _ _ _ _ _ _ _ (i 0) (i 1))

/-- The second reference's second result. -/
theorem res2_74 : Cert.Reference2Ideal.Read.val_main_v74 (F := Ideal)
      (m ((c.tc : Thread _ _).loc Cert.Reference2Ideal.main_arg0)) (m ((c.tc : Thread _ _).loc Cert.Reference2Ideal.main_arg3))
      (m ((c.tc : Thread _ _).loc Cert.Reference2Ideal.main_arg4)) (m ((c.tc : Thread _ _).loc Cert.Reference2Ideal.main_arg5))
      (m ((c.tc : Thread _ _).loc Cert.Reference2Ideal.main_arg6)) (m ((c.tc : Thread _ _).loc Cert.Reference2Ideal.main_arg7))
      (m ((c.tc : Thread _ _).loc Cert.Reference2Ideal.main_arg8))
    = fun i : Cert.Reference2Ideal.S1792x1024.Idx => (refArgs2 m c).dW (i 0) (i 1) := by
  funext i
  exact (congrArg _ (ix2_eta i).symm).trans (Cert.Reference2Ideal.Body.r74 _ _ _ _ _ _ _ _ _ (i 0) (i 1))

/-- The second reference's third result. -/
theorem res2_77 : Cert.Reference2Ideal.Read.val_main_v77 (F := Ideal)
      (m ((c.tc : Thread _ _).loc Cert.Reference2Ideal.main_arg3)) (m ((c.tc : Thread _ _).loc Cert.Reference2Ideal.main_arg4))
      (m ((c.tc : Thread _ _).loc Cert.Reference2Ideal.main_arg5)) (m ((c.tc : Thread _ _).loc Cert.Reference2Ideal.main_arg6))
      (m ((c.tc : Thread _ _).loc Cert.Reference2Ideal.main_arg7))
    = fun i : Cert.Reference2Ideal.S8x1024.Idx => (refArgs2 m c).dB (i 0).val (i 1) := by
  funext i
  exact (congrArg _ (ix2_eta i).symm).trans (Cert.Reference2Ideal.Body.r77 _ _ _ _ _ _ _ _ _ (i 0) (i 1))

end Reference2

/-- On real arguments the second kernel and its reference end with the same three arrays. -/
theorem algebraic2 : Cert.algebraic_Kernel2Ideal_Reference2Ideal_pre_finite2 := by
  intro m g m' g' hpre hargs
  have hA : ∀ c, refArgs2 m' c = Cert.Kernel2Ideal.Body.args m c := fun c => by
    obtain ⟨h0, h1, h2, h3, h4, h5, h6, h7, h8⟩ := hargs c
    unfold refArgs2
    rw [h0, h1, h2, h3, h4, h5, h6, h7, h8]
    rfl
  have hR : ∀ c, (Cert.Kernel2Ideal.Body.args m c).Real := fun c => Cert.Kernel2Ideal.Body.args_real m c hpre
  refine ⟨_, _, _, (θ_run _ _ _).mono (fun r h c => ⟨(h.2.1 c).1 11, (h.2.1 c).1 12, (h.2.1 c).1 13, h.1 c⟩)
    (Cert.Kernel2Ideal.Body.run_all (F := Ideal) m g), ?_⟩
  refine (θ_run _ _ _).mono (fun r h c => ?_) (Cert.Reference2Ideal.Value.run m' g')
  obtain ⟨e0, e1, e2, k⟩ := h c
  refine ⟨e0.trans ((Cert.Reference2Ideal.Read.val_main_v73_eq _ _ _ _ _ _ _ _).trans ((res2_73 m' c).trans ?_)),
    e1.trans ((Cert.Reference2Ideal.Read.val_main_v74_eq _ _ _ _ _ _ _).trans ((res2_74 m' c).trans ?_)),
    e2.trans ((Cert.Reference2Ideal.Read.val_main_v77_eq _ _ _ _ _).trans ((res2_77 m' c).trans ?_)), k⟩
  · rw [hA]
    exact (Cert.Kernel2Ideal.Body.arr11 m c (hR c)).symm
  · rw [hA]
    exact (Cert.Kernel2Ideal.Body.arr12 m c (hR c)).symm
  · rw [hA]
    exact (Cert.Kernel2Ideal.Body.arr13 m c).symm

/-! ## The gradient at the up-projection's input -/

/-- The third reference terminates, leaves its arguments as they were and has no semaphore. -/
theorem frame_reference3 : Cert.quiescent_Reference3Ideal := fun m ρ _ =>
  (θ_run _ _ _).mono (fun r h => ⟨fun c => (h c).2, sem_eq_zero_of_no_sems rfl r.2⟩) (Cert.Reference3Ideal.Value.run m ρ)

/-- The third kernel and its reference end with the same array, whatever their arguments. -/
theorem algebraic3 : Cert.algebraic_Kernel3Ideal_Reference3Ideal := by
  intro m g m' g' _ hargs
  refine ⟨_, Cert.Kernel3Ideal.Value.run_blocks m g, ?_⟩
  refine (θ_run _ _ _).mono (fun r h c => ?_) (Cert.Reference3Ideal.Value.run m' g')
  obtain ⟨e, k⟩ := h c
  obtain ⟨h0, h1⟩ := hargs c
  refine ⟨e.trans ((Cert.Reference3Ideal.Read.val_main_v2_eq _ _).trans ?_), k⟩
  rw [h0, h1]
  refine Eq.trans (funext fun i => ?_) (Cert.Kernel3Ideal.Body.arr4 m c).symm
  exact (congrArg _ (ix2_eta i).symm).trans (Cert.Reference3Ideal.Body.r2 _ _ (i 0) (i 1))

/-- The whole certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts, Cert.Pre_finite2.Gen.facts, Cert.Pre_finite4.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    frame_kernel2, frame_kernel2Ideal, fun m ρ _ => frame_kernel2Ideal m ρ trivial,
    frame_reference2, fun m ρ _ => frame_reference2 m ρ trivial,
    fun m ρ _ => Cert.Kernel3.Gen.frame m ρ, fun m ρ _ => Cert.Kernel3Ideal.Gen.frame m ρ, frame_reference3,
    frame_kernel4, frame_kernel4Ideal, fun m ρ _ => frame_kernel4Ideal m ρ trivial,
    Mix.frame_reference4, fun m ρ _ => Mix.frame_reference4 m ρ trivial,
    fun m ρ _ => Cert.Kernel5.Gen.frame m ρ, fun m ρ _ => Cert.Kernel5Ideal.Gen.frame m ρ, Pr.frame_reference5,
    trivial, algebraic, trivial, algebraic2, trivial, algebraic3, trivial, Mix.algebraic4, trivial, Pr.algebraic5⟩

end Cert.Proof

end
